-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 512]⟩ (Layout.meshBlock [2, 2, 4] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![512, 2048]⟩ (Layout.meshBlock [2, 2, 4] ![[2], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![512, 2048]⟩ (Layout.meshBlock [2, 2, 4] ![[2], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S1x1024x2048 : Shape := ⟨3, ![1, 1024, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S1x1024x2048 : S_.BroadcastsInDim S1x1024x2048 (![] : Fin 0 → Fin S1x1024x2048.rank)
  reducesTo_S1x1024x2048_S_d0_1_2 : S1x1024x2048.ReducesTo [0, 1, 2] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S128x2048 : S_.BroadcastsInDim S128x2048 (![] : Fin 0 → Fin S128x2048.rank)
  reducesTo_S128x2048_S_d0_1 : S128x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg5 : FVec F S2048x512 .f32) (main_arg6 : FVec F S2048x32 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x512 .f32 := Host.absf main_arg5
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048x32 .f32 := Host.absf main_arg6
  let main_cst_8 : FVec F S_ .f32 := constant S_ .f32 0x7F800000#32
  let main_v25 : FVec F S2048x32 .f32 := broadcastInDim S2048x32 ![] bcast_S_S2048x32 main_cst_8
  let main_v26 : IVec S2048x32 1 := cmpf .olt main_v24 main_v25
  let main_c_9 : IVec S_ 1 := constantI S_ 1 1#1
  let main_v27 : IVec S_ 1 := (fun x v => Host.reduce IntOp.andi x v reducesTo_S2048x32_S_d0_1 h_S_) main_v26 main_c_9
  let main_v28 : IVec S_ 1 := andi main_v23 main_v27
  main_v28

def fn {F : FTy → Type} [FloatOps F] (main_arg0 : FVec F S1x1024x2048 .f32) (main_arg1 : FVec F S2048x128 .f32) (main_arg2 : FVec F S128x2048 .f32) (main_arg3 : FVec F S128x2048 .f32) (main_arg4 : FVec F S2048x2048 .f32) (main_arg5 : FVec F S2048x512 .f32) (main_arg6 : FVec F S2048x32 .f32) (main_arg7 : FVec F S2048x2048 .f32) : IVec S_ 1 :=
  let main_v0 : FVec F S1x1024x2048 .f32 := Host.absf main_arg0
  let main_cst : FVec F S_ .f32 := constant S_ .f32 0x7F800000#32
  let main_v1 : FVec F S1x1024x2048 .f32 := broadcastInDim S1x1024x2048 ![] bcast_S_S1x1024x2048 main_cst
  let main_v2 : IVec S1x1024x2048 1 := cmpf .olt main_v0 main_v1
  let main_c : IVec S_ 1 := constantI S_ 1 1#1
  let main_v3 : IVec S_ 1 := (fun x v => Host.reduce IntOp.andi x v reducesTo_S1x1024x2048_S_d0_1_2 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg5 main_arg6 main_v13 main_v16
-- ==== Pre_finite_inputs_ReferenceIdeal.lean ====
abbrev S1x1024x2048 : Shape := ⟨3, ![1, 1024, 2048]⟩
abbrev S2048x512 : Shape := ⟨2, ![2048, 512]⟩
abbrev S512x2048 : Shape := ⟨2, ![512, 2048]⟩
abbrev S2048x2048 : Shape := ⟨2, ![2048, 2048]⟩
abbrev S2048x32 : Shape := ⟨2, ![2048, 32]⟩
abbrev S_ : Shape := ⟨0, ![]⟩

class Facts : Prop where
  bcast_S_S1x1024x2048 : S_.BroadcastsInDim S1x1024x2048 (![] : Fin 0 → Fin S1x1024x2048.rank)
  reducesTo_S1x1024x2048_S_d0_1_2 : S1x1024x2048.ReducesTo [0, 1, 2] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512x2048 : S_.BroadcastsInDim S512x2048 (![] : Fin 0 → Fin S512x2048.rank)
  reducesTo_S512x2048_S_d0_1 : S512x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg5 : FVec F S2048x512 .f32) (main_arg6 : FVec F S2048x32 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x512 .f32 := Host.absf main_arg5
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048x32 .f32 := Host.absf main_arg6
  let main_cst_8 : FVec F S_ .f32 := constant S_ .f32 0x7F800000#32
  let main_v25 : FVec F S2048x32 .f32 := broadcastInDim S2048x32 ![] bcast_S_S2048x32 main_cst_8
  let main_v26 : IVec S2048x32 1 := cmpf .olt main_v24 main_v25
  let main_c_9 : IVec S_ 1 := constantI S_ 1 1#1
  let main_v27 : IVec S_ 1 := (fun x v => Host.reduce IntOp.andi x v reducesTo_S2048x32_S_d0_1 h_S_) main_v26 main_c_9
  let main_v28 : IVec S_ 1 := andi main_v23 main_v27
  main_v28

def fn {F : FTy → Type} [FloatOps F] (main_arg0 : FVec F S1x1024x2048 .f32) (main_arg1 : FVec F S2048x512 .f32) (main_arg2 : FVec F S512x2048 .f32) (main_arg3 : FVec F S512x2048 .f32) (main_arg4 : FVec F S2048x2048 .f32) (main_arg5 : FVec F S2048x512 .f32) (main_arg6 : FVec F S2048x32 .f32) (main_arg7 : FVec F S2048x2048 .f32) : IVec S_ 1 :=
  let main_v0 : FVec F S1x1024x2048 .f32 := Host.absf main_arg0
  let main_cst : FVec F S_ .f32 := constant S_ .f32 0x7F800000#32
  let main_v1 : FVec F S1x1024x2048 .f32 := broadcastInDim S1x1024x2048 ![] bcast_S_S1x1024x2048 main_cst
  let main_v2 : IVec S1x1024x2048 1 := cmpf .olt main_v0 main_v1
  let main_c : IVec S_ 1 := constantI S_ 1 1#1
  let main_v3 : IVec S_ 1 := (fun x v => Host.reduce IntOp.andi x v reducesTo_S1x1024x2048_S_d0_1_2 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg5 main_arg6 main_v13 main_v16
-- ==== Kernel.lean ====
abbrev S1x1024x2048 : Shape := ⟨3, ![1, 1024, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S4x1024x128 : Shape := ⟨3, ![4, 1024, 128]⟩
abbrev S4x128x512 : Shape := ⟨3, ![4, 128, 512]⟩
abbrev S1024x512 : Shape := ⟨2, ![1024, 512]⟩
abbrev S1024x128 : Shape := ⟨2, ![1024, 128]⟩
abbrev S1024x32 : Shape := ⟨2, ![1024, 32]⟩
abbrev S4x1024x512 : Shape := ⟨3, ![4, 1024, 512]⟩
abbrev S2x512x2048 : Shape := ⟨3, ![2, 512, 2048]⟩
abbrev S3x3 : Shape := ⟨2, ![3, 3]⟩
abbrev S_ : Shape := ⟨0, ![]⟩
abbrev S3x4 : Shape := ⟨2, ![3, 4]⟩
abbrev S4 : Shape := ⟨1, ![4]⟩
abbrev S1 : Shape := ⟨1, ![1]⟩
abbrev S1x512x2048 : Shape := ⟨3, ![1, 512, 2048]⟩
abbrev S512x2048 : Shape := ⟨2, ![512, 2048]⟩
abbrev S128x512 : Shape := ⟨2, ![128, 512]⟩
abbrev S1x128x512 : Shape := ⟨3, ![1, 128, 512]⟩
abbrev S1024x2048 : Shape := ⟨2, ![1024, 2048]⟩
abbrev S1x1024x128 : Shape := ⟨3, ![1, 1024, 128]⟩
abbrev S1x1 : Shape := ⟨2, ![1, 1]⟩
abbrev S32x2048 : Shape := ⟨2, ![32, 2048]⟩
abbrev S1024x1024 : Shape := ⟨2, ![1024, 1024]⟩
abbrev S1024 : Shape := ⟨1, ![1024]⟩
abbrev S1024x1 : Shape := ⟨2, ![1024, 1]⟩
abbrev S1x1024x512 : Shape := ⟨3, ![1, 1024, 512]⟩

abbrev nBuf : Space → Nat
  | .hbm => 9
  | .vmem => 20
  | .smem => 0
  | _ => 0

abbrev bufTy : (tb : Table) → Fin (tcTables nBuf tb) → BufTy
  | .hbm, ⟨0, _⟩ => ⟨S1x1024x2048, .f32⟩
  | .hbm, ⟨1, _⟩ => ⟨S2048x128, .f32⟩
  | .hbm, ⟨2, _⟩ => ⟨S128x2048, .f32⟩
  | .hbm, ⟨3, _⟩ => ⟨S128x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S1x1024x2048, .f32⟩
  | .local _ .vmem, ⟨0, _⟩ => ⟨S1x1024x2048, .f32⟩
  | .local _ .vmem, ⟨1, _⟩ => ⟨S2048x128, .f32⟩
  | .local _ .vmem, ⟨2, _⟩ => ⟨S128x2048, .f32⟩
  | .local _ .vmem, ⟨3, _⟩ => ⟨S128x2048, .f32⟩
  | .local _ .vmem, ⟨4, _⟩ => ⟨S2048x512, .f32⟩
  | .local _ .vmem, ⟨5, _⟩ => ⟨S2048x32, .f32⟩
  | .local _ .vmem, ⟨6, _⟩ => ⟨S1x1024x2048, .f32⟩
  | .local _ .vmem, ⟨7, _⟩ => ⟨S4x1024x128, .bf16⟩
  | .local _ .vmem, ⟨8, _⟩ => ⟨S4x128x512, .bf16⟩
  | .local _ .vmem, ⟨9, _⟩ => ⟨S4x128x512, .bf16⟩
  | .local _ .vmem, ⟨10, _⟩ => ⟨S2048x512, .f32⟩
  | .local _ .vmem, ⟨11, _⟩ => ⟨S2048x128, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x128, .f32⟩
  | .local _ .vmem, ⟨16, _⟩ => ⟨S1024x32, .f32⟩
  | .local _ .vmem, ⟨17, _⟩ => ⟨S1024x512, .bf16⟩
  | .local _ .vmem, ⟨18, _⟩ => ⟨S4x1024x512, .bf16⟩
  | .local _ .vmem, ⟨19, _⟩ => ⟨S2x512x2048, .f32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 2 → Bool
  | ⟨0, _⟩ => true
  | ⟨1, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 2 54 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_scratch9 : Ref sig .tc := ⟨.vmem, 16, rfl⟩
abbrev cc0_scratch10 : Ref sig .tc := ⟨.vmem, 17, rfl⟩
abbrev cc0_scratch11 : Ref sig .tc := ⟨.vmem, 18, rfl⟩
abbrev cc0_scratch12 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier0 : Sem sig := 1

abbrev nD : Nat := 16
abbrev τ : Topo := Topo.v7x

variable {F : FTy → Type} [FloatOps F]

abbrev grid0 : Pipeline.Grid := .none

def k0_off1 (d0 : Dev nD) : Fin 2 → Nat :=
  let c0_i32_17 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v34 : BitVec 32 := Scalar.muli v10 c512_i32
  ![0, v34.toNat]
def k0_off2 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32_18 : BitVec 32 := 512#32
  let v36 : BitVec 32 := Scalar.muli v10 c512_i32_18
  let c0_i32_23 : BitVec 32 := 0#32
  ![v36.toNat, 0]
def k0_dev1 (d0 : Dev nD) : Nat :=
  let c0_i32_39 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_38 : BitVec 32 := 8#32
  let v64 : BitVec 32 := Scalar.muli v2 c8_i32_38
  let v65 : BitVec 32 := Scalar.addi c0_i32_39 v64
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_40 : BitVec 32 := 4#32
  let v66 : BitVec 32 := Scalar.muli v5 c4_i32_40
  let v67 : BitVec 32 := Scalar.addi v65 v66
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_3 : BitVec 32 := 4#32
  let v11 : BitVec 32 := Scalar.addi v8 c4_i32_3
  let c1_i32_4 : BitVec 32 := 1#32
  let v12 : BitVec 32 := Scalar.subi v11 c1_i32_4
  let c4_i32_5 : BitVec 32 := 4#32
  let c0_i32 : BitVec 32 := 0#32
  let v13 : BitVec 1 := Scalar.cmpi .eq c4_i32_5 c0_i32
  let c1_i32_6 : BitVec 32 := 1#32
  let v14 : BitVec 32 := Scalar.select v13 c1_i32_6 c4_i32_5
  let v15 : BitVec 32 := Scalar.remsi v12 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let c1_i32_41 : BitVec 32 := 1#32
  let v68 : BitVec 32 := Scalar.muli v22 c1_i32_41
  let v69 : BitVec 32 := Scalar.addi v67 v68
  v69.toNat
def k0_dev2 (d0 : Dev nD) : Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_43 : BitVec 32 := 8#32
  let v70 : BitVec 32 := Scalar.muli v2 c8_i32_43
  let v71 : BitVec 32 := Scalar.addi c0_i32_44 v70
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_45 : BitVec 32 := 4#32
  let v72 : BitVec 32 := Scalar.muli v5 c4_i32_45
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c4_i32_11 : BitVec 32 := 4#32
  let c0_i32_12 : BitVec 32 := 0#32
  let v24 : BitVec 1 := Scalar.cmpi .eq c4_i32_11 c0_i32_12
  let c1_i32_13 : BitVec 32 := 1#32
  let v25 : BitVec 32 := Scalar.select v24 c1_i32_13 c4_i32_11
  let v26 : BitVec 32 := Scalar.remsi v23 v25
  let c0_i32_15 : BitVec 32 := 0#32
  let v28 : BitVec 1 := Scalar.cmpi .slt v26 c0_i32_15
  let c0_i32_16 : BitVec 32 := 0#32
  let v29 : BitVec 1 := Scalar.cmpi .slt v25 c0_i32_16
  let v30 : BitVec 1 := Scalar.xori v28 v29
  let c0_i32_14 : BitVec 32 := 0#32
  let v27 : BitVec 1 := Scalar.cmpi .ne v26 c0_i32_14
  let v31 : BitVec 1 := Scalar.andi v30 v27
  let v32 : BitVec 32 := Scalar.addi v26 v25
  let v33 : BitVec 32 := Scalar.select v31 v32 v26
  let c1_i32_46 : BitVec 32 := 1#32
  let v74 : BitVec 32 := Scalar.muli v33 c1_i32_46
  let v75 : BitVec 32 := Scalar.addi v73 v74
  v75.toNat
def k0_dev3 (d0 : Dev nD) : Nat :=
  let c0_i32_55 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_54 : BitVec 32 := 8#32
  let v76 : BitVec 32 := Scalar.muli v2 c8_i32_54
  let v77 : BitVec 32 := Scalar.addi c0_i32_55 v76
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_56 : BitVec 32 := 4#32
  let v78 : BitVec 32 := Scalar.muli v5 c4_i32_56
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c4_i32_11 : BitVec 32 := 4#32
  let c0_i32_12 : BitVec 32 := 0#32
  let v24 : BitVec 1 := Scalar.cmpi .eq c4_i32_11 c0_i32_12
  let c1_i32_13 : BitVec 32 := 1#32
  let v25 : BitVec 32 := Scalar.select v24 c1_i32_13 c4_i32_11
  let v26 : BitVec 32 := Scalar.remsi v23 v25
  let c0_i32_15 : BitVec 32 := 0#32
  let v28 : BitVec 1 := Scalar.cmpi .slt v26 c0_i32_15
  let c0_i32_16 : BitVec 32 := 0#32
  let v29 : BitVec 1 := Scalar.cmpi .slt v25 c0_i32_16
  let v30 : BitVec 1 := Scalar.xori v28 v29
  let c0_i32_14 : BitVec 32 := 0#32
  let v27 : BitVec 1 := Scalar.cmpi .ne v26 c0_i32_14
  let v31 : BitVec 1 := Scalar.andi v30 v27
  let v32 : BitVec 32 := Scalar.addi v26 v25
  let v33 : BitVec 32 := Scalar.select v31 v32 v26
  let c1_i32_57 : BitVec 32 := 1#32
  let v80 : BitVec 32 := Scalar.muli v33 c1_i32_57
  let v81 : BitVec 32 := Scalar.addi v79 v80
  v81.toNat
def k0_dev4 (d0 : Dev nD) : Nat :=
  let c0_i32_69 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_68 : BitVec 32 := 8#32
  let v90 : BitVec 32 := Scalar.muli v2 c8_i32_68
  let v91 : BitVec 32 := Scalar.addi c0_i32_69 v90
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_70 : BitVec 32 := 4#32
  let v92 : BitVec 32 := Scalar.muli v5 c4_i32_70
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c4_i32_11 : BitVec 32 := 4#32
  let c0_i32_12 : BitVec 32 := 0#32
  let v24 : BitVec 1 := Scalar.cmpi .eq c4_i32_11 c0_i32_12
  let c1_i32_13 : BitVec 32 := 1#32
  let v25 : BitVec 32 := Scalar.select v24 c1_i32_13 c4_i32_11
  let v26 : BitVec 32 := Scalar.remsi v23 v25
  let c0_i32_15 : BitVec 32 := 0#32
  let v28 : BitVec 1 := Scalar.cmpi .slt v26 c0_i32_15
  let c0_i32_16 : BitVec 32 := 0#32
  let v29 : BitVec 1 := Scalar.cmpi .slt v25 c0_i32_16
  let v30 : BitVec 1 := Scalar.xori v28 v29
  let c0_i32_14 : BitVec 32 := 0#32
  let v27 : BitVec 1 := Scalar.cmpi .ne v26 c0_i32_14
  let v31 : BitVec 1 := Scalar.andi v30 v27
  let v32 : BitVec 32 := Scalar.addi v26 v25
  let v33 : BitVec 32 := Scalar.select v31 v32 v26
  let c1_i32_71 : BitVec 32 := 1#32
  let v94 : BitVec 32 := Scalar.muli v33 c1_i32_71
  let v95 : BitVec 32 := Scalar.addi v93 v94
  v95.toNat
def k0_dev5 (d0 : Dev nD) : Nat :=
  let c0_i32_83 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_82 : BitVec 32 := 8#32
  let v104 : BitVec 32 := Scalar.muli v2 c8_i32_82
  let v105 : BitVec 32 := Scalar.addi c0_i32_83 v104
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_84 : BitVec 32 := 4#32
  let v106 : BitVec 32 := Scalar.muli v5 c4_i32_84
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c4_i32_11 : BitVec 32 := 4#32
  let c0_i32_12 : BitVec 32 := 0#32
  let v24 : BitVec 1 := Scalar.cmpi .eq c4_i32_11 c0_i32_12
  let c1_i32_13 : BitVec 32 := 1#32
  let v25 : BitVec 32 := Scalar.select v24 c1_i32_13 c4_i32_11
  let v26 : BitVec 32 := Scalar.remsi v23 v25
  let c0_i32_15 : BitVec 32 := 0#32
  let v28 : BitVec 1 := Scalar.cmpi .slt v26 c0_i32_15
  let c0_i32_16 : BitVec 32 := 0#32
  let v29 : BitVec 1 := Scalar.cmpi .slt v25 c0_i32_16
  let v30 : BitVec 1 := Scalar.xori v28 v29
  let c0_i32_14 : BitVec 32 := 0#32
  let v27 : BitVec 1 := Scalar.cmpi .ne v26 c0_i32_14
  let v31 : BitVec 1 := Scalar.andi v30 v27
  let v32 : BitVec 32 := Scalar.addi v26 v25
  let v33 : BitVec 32 := Scalar.select v31 v32 v26
  let c1_i32_85 : BitVec 32 := 1#32
  let v108 : BitVec 32 := Scalar.muli v33 c1_i32_85
  let v109 : BitVec 32 := Scalar.addi v107 v108
  v109.toNat
def k0_dev6 (d0 : Dev nD) : Nat :=
  let c0_i32_205 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_204 : BitVec 32 := 8#32
  let v208 : BitVec 32 := Scalar.muli v2 c8_i32_204
  let v209 : BitVec 32 := Scalar.addi c0_i32_205 v208
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_206 : BitVec 32 := 4#32
  let v210 : BitVec 32 := Scalar.muli v5 c4_i32_206
  let v211 : BitVec 32 := Scalar.addi v209 v210
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c4_i32_11 : BitVec 32 := 4#32
  let c0_i32_12 : BitVec 32 := 0#32
  let v24 : BitVec 1 := Scalar.cmpi .eq c4_i32_11 c0_i32_12
  let c1_i32_13 : BitVec 32 := 1#32
  let v25 : BitVec 32 := Scalar.select v24 c1_i32_13 c4_i32_11
  let v26 : BitVec 32 := Scalar.remsi v23 v25
  let c0_i32_15 : BitVec 32 := 0#32
  let v28 : BitVec 1 := Scalar.cmpi .slt v26 c0_i32_15
  let c0_i32_16 : BitVec 32 := 0#32
  let v29 : BitVec 1 := Scalar.cmpi .slt v25 c0_i32_16
  let v30 : BitVec 1 := Scalar.xori v28 v29
  let c0_i32_14 : BitVec 32 := 0#32
  let v27 : BitVec 1 := Scalar.cmpi .ne v26 c0_i32_14
  let v31 : BitVec 1 := Scalar.andi v30 v27
  let v32 : BitVec 32 := Scalar.addi v26 v25
  let v33 : BitVec 32 := Scalar.select v31 v32 v26
  let c1_i32_207 : BitVec 32 := 1#32
  let v212 : BitVec 32 := Scalar.muli v33 c1_i32_207
  let v213 : BitVec 32 := Scalar.addi v211 v212
  v213.toNat
def k0_dev7 (d0 : Dev nD) : Nat :=
  let c0_i32_219 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_218 : BitVec 32 := 8#32
  let v222 : BitVec 32 := Scalar.muli v2 c8_i32_218
  let v223 : BitVec 32 := Scalar.addi c0_i32_219 v222
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_220 : BitVec 32 := 4#32
  let v224 : BitVec 32 := Scalar.muli v5 c4_i32_220
  let v225 : BitVec 32 := Scalar.addi v223 v224
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c4_i32_11 : BitVec 32 := 4#32
  let c0_i32_12 : BitVec 32 := 0#32
  let v24 : BitVec 1 := Scalar.cmpi .eq c4_i32_11 c0_i32_12
  let c1_i32_13 : BitVec 32 := 1#32
  let v25 : BitVec 32 := Scalar.select v24 c1_i32_13 c4_i32_11
  let v26 : BitVec 32 := Scalar.remsi v23 v25
  let c0_i32_15 : BitVec 32 := 0#32
  let v28 : BitVec 1 := Scalar.cmpi .slt v26 c0_i32_15
  let c0_i32_16 : BitVec 32 := 0#32
  let v29 : BitVec 1 := Scalar.cmpi .slt v25 c0_i32_16
  let v30 : BitVec 1 := Scalar.xori v28 v29
  let c0_i32_14 : BitVec 32 := 0#32
  let v27 : BitVec 1 := Scalar.cmpi .ne v26 c0_i32_14
  let v31 : BitVec 1 := Scalar.andi v30 v27
  let v32 : BitVec 32 := Scalar.addi v26 v25
  let v33 : BitVec 32 := Scalar.select v31 v32 v26
  let c1_i32_221 : BitVec 32 := 1#32
  let v226 : BitVec 32 := Scalar.muli v33 c1_i32_221
  let v227 : BitVec 32 := Scalar.addi v225 v226
  v227.toNat
def k0_dev8 (d0 : Dev nD) : Nat :=
  let c0_i32_233 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_232 : BitVec 32 := 8#32
  let v236 : BitVec 32 := Scalar.muli v2 c8_i32_232
  let v237 : BitVec 32 := Scalar.addi c0_i32_233 v236
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_234 : BitVec 32 := 4#32
  let v238 : BitVec 32 := Scalar.muli v5 c4_i32_234
  let v239 : BitVec 32 := Scalar.addi v237 v238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c4_i32_11 : BitVec 32 := 4#32
  let c0_i32_12 : BitVec 32 := 0#32
  let v24 : BitVec 1 := Scalar.cmpi .eq c4_i32_11 c0_i32_12
  let c1_i32_13 : BitVec 32 := 1#32
  let v25 : BitVec 32 := Scalar.select v24 c1_i32_13 c4_i32_11
  let v26 : BitVec 32 := Scalar.remsi v23 v25
  let c0_i32_15 : BitVec 32 := 0#32
  let v28 : BitVec 1 := Scalar.cmpi .slt v26 c0_i32_15
  let c0_i32_16 : BitVec 32 := 0#32
  let v29 : BitVec 1 := Scalar.cmpi .slt v25 c0_i32_16
  let v30 : BitVec 1 := Scalar.xori v28 v29
  let c0_i32_14 : BitVec 32 := 0#32
  let v27 : BitVec 1 := Scalar.cmpi .ne v26 c0_i32_14
  let v31 : BitVec 1 := Scalar.andi v30 v27
  let v32 : BitVec 32 := Scalar.addi v26 v25
  let v33 : BitVec 32 := Scalar.select v31 v32 v26
  let c1_i32_235 : BitVec 32 := 1#32
  let v240 : BitVec 32 := Scalar.muli v33 c1_i32_235
  let v241 : BitVec 32 := Scalar.addi v239 v240
  v241.toNat
def k0_dev9 (d0 : Dev nD) : Nat :=
  let c0_i32_346 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_345 : BitVec 32 := 8#32
  let v329 : BitVec 32 := Scalar.muli v2 c8_i32_345
  let v330 : BitVec 32 := Scalar.addi c0_i32_346 v329
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_347 : BitVec 32 := 4#32
  let v331 : BitVec 32 := Scalar.muli v5 c4_i32_347
  let v332 : BitVec 32 := Scalar.addi v330 v331
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c4_i32_11 : BitVec 32 := 4#32
  let c0_i32_12 : BitVec 32 := 0#32
  let v24 : BitVec 1 := Scalar.cmpi .eq c4_i32_11 c0_i32_12
  let c1_i32_13 : BitVec 32 := 1#32
  let v25 : BitVec 32 := Scalar.select v24 c1_i32_13 c4_i32_11
  let v26 : BitVec 32 := Scalar.remsi v23 v25
  let c0_i32_15 : BitVec 32 := 0#32
  let v28 : BitVec 1 := Scalar.cmpi .slt v26 c0_i32_15
  let c0_i32_16 : BitVec 32 := 0#32
  let v29 : BitVec 1 := Scalar.cmpi .slt v25 c0_i32_16
  let v30 : BitVec 1 := Scalar.xori v28 v29
  let c0_i32_14 : BitVec 32 := 0#32
  let v27 : BitVec 1 := Scalar.cmpi .ne v26 c0_i32_14
  let v31 : BitVec 1 := Scalar.andi v30 v27
  let v32 : BitVec 32 := Scalar.addi v26 v25
  let v33 : BitVec 32 := Scalar.select v31 v32 v26
  let c1_i32_348 : BitVec 32 := 1#32
  let v333 : BitVec 32 := Scalar.muli v33 c1_i32_348
  let v334 : BitVec 32 := Scalar.addi v332 v333
  v334.toNat
def k0_dev10 (d0 : Dev nD) : Nat :=
  let c0_i32_360 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_359 : BitVec 32 := 8#32
  let v343 : BitVec 32 := Scalar.muli v2 c8_i32_359
  let v344 : BitVec 32 := Scalar.addi c0_i32_360 v343
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_361 : BitVec 32 := 4#32
  let v345 : BitVec 32 := Scalar.muli v5 c4_i32_361
  let v346 : BitVec 32 := Scalar.addi v344 v345
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c4_i32_11 : BitVec 32 := 4#32
  let c0_i32_12 : BitVec 32 := 0#32
  let v24 : BitVec 1 := Scalar.cmpi .eq c4_i32_11 c0_i32_12
  let c1_i32_13 : BitVec 32 := 1#32
  let v25 : BitVec 32 := Scalar.select v24 c1_i32_13 c4_i32_11
  let v26 : BitVec 32 := Scalar.remsi v23 v25
  let c0_i32_15 : BitVec 32 := 0#32
  let v28 : BitVec 1 := Scalar.cmpi .slt v26 c0_i32_15
  let c0_i32_16 : BitVec 32 := 0#32
  let v29 : BitVec 1 := Scalar.cmpi .slt v25 c0_i32_16
  let v30 : BitVec 1 := Scalar.xori v28 v29
  let c0_i32_14 : BitVec 32 := 0#32
  let v27 : BitVec 1 := Scalar.cmpi .ne v26 c0_i32_14
  let v31 : BitVec 1 := Scalar.andi v30 v27
  let v32 : BitVec 32 := Scalar.addi v26 v25
  let v33 : BitVec 32 := Scalar.select v31 v32 v26
  let c1_i32_362 : BitVec 32 := 1#32
  let v347 : BitVec 32 := Scalar.muli v33 c1_i32_362
  let v348 : BitVec 32 := Scalar.addi v346 v347
  v348.toNat
def k0_dev11 (d0 : Dev nD) : Nat :=
  let c0_i32_374 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_373 : BitVec 32 := 8#32
  let v357 : BitVec 32 := Scalar.muli v2 c8_i32_373
  let v358 : BitVec 32 := Scalar.addi c0_i32_374 v357
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_375 : BitVec 32 := 4#32
  let v359 : BitVec 32 := Scalar.muli v5 c4_i32_375
  let v360 : BitVec 32 := Scalar.addi v358 v359
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c4_i32_11 : BitVec 32 := 4#32
  let c0_i32_12 : BitVec 32 := 0#32
  let v24 : BitVec 1 := Scalar.cmpi .eq c4_i32_11 c0_i32_12
  let c1_i32_13 : BitVec 32 := 1#32
  let v25 : BitVec 32 := Scalar.select v24 c1_i32_13 c4_i32_11
  let v26 : BitVec 32 := Scalar.remsi v23 v25
  let c0_i32_15 : BitVec 32 := 0#32
  let v28 : BitVec 1 := Scalar.cmpi .slt v26 c0_i32_15
  let c0_i32_16 : BitVec 32 := 0#32
  let v29 : BitVec 1 := Scalar.cmpi .slt v25 c0_i32_16
  let v30 : BitVec 1 := Scalar.xori v28 v29
  let c0_i32_14 : BitVec 32 := 0#32
  let v27 : BitVec 1 := Scalar.cmpi .ne v26 c0_i32_14
  let v31 : BitVec 1 := Scalar.andi v30 v27
  let v32 : BitVec 32 := Scalar.addi v26 v25
  let v33 : BitVec 32 := Scalar.select v31 v32 v26
  let c1_i32_376 : BitVec 32 := 1#32
  let v361 : BitVec 32 := Scalar.muli v33 c1_i32_376
  let v362 : BitVec 32 := Scalar.addi v360 v361
  v362.toNat
def k0_dev12 (d0 : Dev nD) : Nat :=
  let c0_i32_546 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_502 : BitVec 32 := 1#32
  let v475 : BitVec 32 := Scalar.xori v10 c1_i32_502
  let c0_i32_504 : BitVec 32 := 0#32
  let v477 : BitVec 1 := Scalar.cmpi .sgt v475 c0_i32_504
  let v478 : BitVec 32 := Scalar.extui v477
  let c0_i32_505 : BitVec 32 := 0#32
  let v479 : BitVec 1 := Scalar.cmpi .slt v475 c0_i32_505
  let v480 : BitVec 32 := Scalar.extui v479
  let v481 : BitVec 32 := Scalar.subi v478 v480
  let c2_i32_503 : BitVec 32 := 2#32
  let c0_i32_506 : BitVec 32 := 0#32
  let v482 : BitVec 1 := Scalar.cmpi .sgt c2_i32_503 c0_i32_506
  let v483 : BitVec 32 := Scalar.extui v482
  let c0_i32_507 : BitVec 32 := 0#32
  let v484 : BitVec 1 := Scalar.cmpi .slt c2_i32_503 c0_i32_507
  let v485 : BitVec 32 := Scalar.extui v484
  let v486 : BitVec 32 := Scalar.subi v483 v485
  let v487 : BitVec 1 := Scalar.cmpi .ne v481 v486
  let v488 : BitVec 32 := Scalar.remsi v475 c2_i32_503
  let c0_i32_508 : BitVec 32 := 0#32
  let v489 : BitVec 1 := Scalar.cmpi .ne v488 c0_i32_508
  let v490 : BitVec 1 := Scalar.andi v487 v489
  let v476 : BitVec 32 := Scalar.divsi v475 c2_i32_503
  let c1_i32_509 : BitVec 32 := 1#32
  let v491 : BitVec 32 := Scalar.subi v476 c1_i32_509
  let v492 : BitVec 32 := Scalar.select v490 v491 v476
  let c8_i32_545 : BitVec 32 := 8#32
  let v559 : BitVec 32 := Scalar.muli v492 c8_i32_545
  let v560 : BitVec 32 := Scalar.addi c0_i32_546 v559
  let c2_i32_510 : BitVec 32 := 2#32
  let c0_i32_511 : BitVec 32 := 0#32
  let v493 : BitVec 1 := Scalar.cmpi .eq c2_i32_510 c0_i32_511
  let c1_i32_512 : BitVec 32 := 1#32
  let v494 : BitVec 32 := Scalar.select v493 c1_i32_512 c2_i32_510
  let v495 : BitVec 32 := Scalar.remsi v475 v494
  let c0_i32_514 : BitVec 32 := 0#32
  let v497 : BitVec 1 := Scalar.cmpi .slt v495 c0_i32_514
  let c0_i32_515 : BitVec 32 := 0#32
  let v498 : BitVec 1 := Scalar.cmpi .slt v494 c0_i32_515
  let v499 : BitVec 1 := Scalar.xori v497 v498
  let c0_i32_513 : BitVec 32 := 0#32
  let v496 : BitVec 1 := Scalar.cmpi .ne v495 c0_i32_513
  let v500 : BitVec 1 := Scalar.andi v499 v496
  let v501 : BitVec 32 := Scalar.addi v495 v494
  let v502 : BitVec 32 := Scalar.select v500 v501 v495
  let c4_i32_547 : BitVec 32 := 4#32
  let v561 : BitVec 32 := Scalar.muli v502 c4_i32_547
  let v562 : BitVec 32 := Scalar.addi v560 v561
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_548 : BitVec 32 := 1#32
  let v563 : BitVec 32 := Scalar.muli v8 c1_i32_548
  let v564 : BitVec 32 := Scalar.addi v562 v563
  v564.toNat
def k0_dev13 (d0 : Dev nD) : Nat :=
  let c0_i32_551 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_516 : BitVec 32 := 2#32
  let v503 : BitVec 32 := Scalar.xori v10 c2_i32_516
  let c0_i32_518 : BitVec 32 := 0#32
  let v505 : BitVec 1 := Scalar.cmpi .sgt v503 c0_i32_518
  let v506 : BitVec 32 := Scalar.extui v505
  let c0_i32_519 : BitVec 32 := 0#32
  let v507 : BitVec 1 := Scalar.cmpi .slt v503 c0_i32_519
  let v508 : BitVec 32 := Scalar.extui v507
  let v509 : BitVec 32 := Scalar.subi v506 v508
  let c2_i32_517 : BitVec 32 := 2#32
  let c0_i32_520 : BitVec 32 := 0#32
  let v510 : BitVec 1 := Scalar.cmpi .sgt c2_i32_517 c0_i32_520
  let v511 : BitVec 32 := Scalar.extui v510
  let c0_i32_521 : BitVec 32 := 0#32
  let v512 : BitVec 1 := Scalar.cmpi .slt c2_i32_517 c0_i32_521
  let v513 : BitVec 32 := Scalar.extui v512
  let v514 : BitVec 32 := Scalar.subi v511 v513
  let v515 : BitVec 1 := Scalar.cmpi .ne v509 v514
  let v516 : BitVec 32 := Scalar.remsi v503 c2_i32_517
  let c0_i32_522 : BitVec 32 := 0#32
  let v517 : BitVec 1 := Scalar.cmpi .ne v516 c0_i32_522
  let v518 : BitVec 1 := Scalar.andi v515 v517
  let v504 : BitVec 32 := Scalar.divsi v503 c2_i32_517
  let c1_i32_523 : BitVec 32 := 1#32
  let v519 : BitVec 32 := Scalar.subi v504 c1_i32_523
  let v520 : BitVec 32 := Scalar.select v518 v519 v504
  let c8_i32_550 : BitVec 32 := 8#32
  let v565 : BitVec 32 := Scalar.muli v520 c8_i32_550
  let v566 : BitVec 32 := Scalar.addi c0_i32_551 v565
  let c2_i32_524 : BitVec 32 := 2#32
  let c0_i32_525 : BitVec 32 := 0#32
  let v521 : BitVec 1 := Scalar.cmpi .eq c2_i32_524 c0_i32_525
  let c1_i32_526 : BitVec 32 := 1#32
  let v522 : BitVec 32 := Scalar.select v521 c1_i32_526 c2_i32_524
  let v523 : BitVec 32 := Scalar.remsi v503 v522
  let c0_i32_528 : BitVec 32 := 0#32
  let v525 : BitVec 1 := Scalar.cmpi .slt v523 c0_i32_528
  let c0_i32_529 : BitVec 32 := 0#32
  let v526 : BitVec 1 := Scalar.cmpi .slt v522 c0_i32_529
  let v527 : BitVec 1 := Scalar.xori v525 v526
  let c0_i32_527 : BitVec 32 := 0#32
  let v524 : BitVec 1 := Scalar.cmpi .ne v523 c0_i32_527
  let v528 : BitVec 1 := Scalar.andi v527 v524
  let v529 : BitVec 32 := Scalar.addi v523 v522
  let v530 : BitVec 32 := Scalar.select v528 v529 v523
  let c4_i32_552 : BitVec 32 := 4#32
  let v567 : BitVec 32 := Scalar.muli v530 c4_i32_552
  let v568 : BitVec 32 := Scalar.addi v566 v567
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_553 : BitVec 32 := 1#32
  let v569 : BitVec 32 := Scalar.muli v8 c1_i32_553
  let v570 : BitVec 32 := Scalar.addi v568 v569
  v570.toNat
def k0_dev14 (d0 : Dev nD) : Nat :=
  let c0_i32_556 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3_i32_530 : BitVec 32 := 3#32
  let v531 : BitVec 32 := Scalar.xori v10 c3_i32_530
  let c0_i32_532 : BitVec 32 := 0#32
  let v533 : BitVec 1 := Scalar.cmpi .sgt v531 c0_i32_532
  let v534 : BitVec 32 := Scalar.extui v533
  let c0_i32_533 : BitVec 32 := 0#32
  let v535 : BitVec 1 := Scalar.cmpi .slt v531 c0_i32_533
  let v536 : BitVec 32 := Scalar.extui v535
  let v537 : BitVec 32 := Scalar.subi v534 v536
  let c2_i32_531 : BitVec 32 := 2#32
  let c0_i32_534 : BitVec 32 := 0#32
  let v538 : BitVec 1 := Scalar.cmpi .sgt c2_i32_531 c0_i32_534
  let v539 : BitVec 32 := Scalar.extui v538
  let c0_i32_535 : BitVec 32 := 0#32
  let v540 : BitVec 1 := Scalar.cmpi .slt c2_i32_531 c0_i32_535
  let v541 : BitVec 32 := Scalar.extui v540
  let v542 : BitVec 32 := Scalar.subi v539 v541
  let v543 : BitVec 1 := Scalar.cmpi .ne v537 v542
  let v544 : BitVec 32 := Scalar.remsi v531 c2_i32_531
  let c0_i32_536 : BitVec 32 := 0#32
  let v545 : BitVec 1 := Scalar.cmpi .ne v544 c0_i32_536
  let v546 : BitVec 1 := Scalar.andi v543 v545
  let v532 : BitVec 32 := Scalar.divsi v531 c2_i32_531
  let c1_i32_537 : BitVec 32 := 1#32
  let v547 : BitVec 32 := Scalar.subi v532 c1_i32_537
  let v548 : BitVec 32 := Scalar.select v546 v547 v532
  let c8_i32_555 : BitVec 32 := 8#32
  let v571 : BitVec 32 := Scalar.muli v548 c8_i32_555
  let v572 : BitVec 32 := Scalar.addi c0_i32_556 v571
  let c2_i32_538 : BitVec 32 := 2#32
  let c0_i32_539 : BitVec 32 := 0#32
  let v549 : BitVec 1 := Scalar.cmpi .eq c2_i32_538 c0_i32_539
  let c1_i32_540 : BitVec 32 := 1#32
  let v550 : BitVec 32 := Scalar.select v549 c1_i32_540 c2_i32_538
  let v551 : BitVec 32 := Scalar.remsi v531 v550
  let c0_i32_542 : BitVec 32 := 0#32
  let v553 : BitVec 1 := Scalar.cmpi .slt v551 c0_i32_542
  let c0_i32_543 : BitVec 32 := 0#32
  let v554 : BitVec 1 := Scalar.cmpi .slt v550 c0_i32_543
  let v555 : BitVec 1 := Scalar.xori v553 v554
  let c0_i32_541 : BitVec 32 := 0#32
  let v552 : BitVec 1 := Scalar.cmpi .ne v551 c0_i32_541
  let v556 : BitVec 1 := Scalar.andi v555 v552
  let v557 : BitVec 32 := Scalar.addi v551 v550
  let v558 : BitVec 32 := Scalar.select v556 v557 v551
  let c4_i32_557 : BitVec 32 := 4#32
  let v573 : BitVec 32 := Scalar.muli v558 c4_i32_557
  let v574 : BitVec 32 := Scalar.addi v572 v573
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_558 : BitVec 32 := 1#32
  let v575 : BitVec 32 := Scalar.muli v8 c1_i32_558
  let v576 : BitVec 32 := Scalar.addi v574 v575
  v576.toNat
def k0_off3 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_585 : BitVec 32 := 0#32
  let c0_i32_586 : BitVec 32 := 0#32
  ![v10.toNat, 0, 0]
def k0_dev15 (d0 : Dev nD) : Nat :=
  let c0_i32_582 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_502 : BitVec 32 := 1#32
  let v475 : BitVec 32 := Scalar.xori v10 c1_i32_502
  let c0_i32_504 : BitVec 32 := 0#32
  let v477 : BitVec 1 := Scalar.cmpi .sgt v475 c0_i32_504
  let v478 : BitVec 32 := Scalar.extui v477
  let c0_i32_505 : BitVec 32 := 0#32
  let v479 : BitVec 1 := Scalar.cmpi .slt v475 c0_i32_505
  let v480 : BitVec 32 := Scalar.extui v479
  let v481 : BitVec 32 := Scalar.subi v478 v480
  let c2_i32_503 : BitVec 32 := 2#32
  let c0_i32_506 : BitVec 32 := 0#32
  let v482 : BitVec 1 := Scalar.cmpi .sgt c2_i32_503 c0_i32_506
  let v483 : BitVec 32 := Scalar.extui v482
  let c0_i32_507 : BitVec 32 := 0#32
  let v484 : BitVec 1 := Scalar.cmpi .slt c2_i32_503 c0_i32_507
  let v485 : BitVec 32 := Scalar.extui v484
  let v486 : BitVec 32 := Scalar.subi v483 v485
  let v487 : BitVec 1 := Scalar.cmpi .ne v481 v486
  let v488 : BitVec 32 := Scalar.remsi v475 c2_i32_503
  let c0_i32_508 : BitVec 32 := 0#32
  let v489 : BitVec 1 := Scalar.cmpi .ne v488 c0_i32_508
  let v490 : BitVec 1 := Scalar.andi v487 v489
  let v476 : BitVec 32 := Scalar.divsi v475 c2_i32_503
  let c1_i32_509 : BitVec 32 := 1#32
  let v491 : BitVec 32 := Scalar.subi v476 c1_i32_509
  let v492 : BitVec 32 := Scalar.select v490 v491 v476
  let c8_i32_581 : BitVec 32 := 8#32
  let v595 : BitVec 32 := Scalar.muli v492 c8_i32_581
  let v596 : BitVec 32 := Scalar.addi c0_i32_582 v595
  let c2_i32_510 : BitVec 32 := 2#32
  let c0_i32_511 : BitVec 32 := 0#32
  let v493 : BitVec 1 := Scalar.cmpi .eq c2_i32_510 c0_i32_511
  let c1_i32_512 : BitVec 32 := 1#32
  let v494 : BitVec 32 := Scalar.select v493 c1_i32_512 c2_i32_510
  let v495 : BitVec 32 := Scalar.remsi v475 v494
  let c0_i32_514 : BitVec 32 := 0#32
  let v497 : BitVec 1 := Scalar.cmpi .slt v495 c0_i32_514
  let c0_i32_515 : BitVec 32 := 0#32
  let v498 : BitVec 1 := Scalar.cmpi .slt v494 c0_i32_515
  let v499 : BitVec 1 := Scalar.xori v497 v498
  let c0_i32_513 : BitVec 32 := 0#32
  let v496 : BitVec 1 := Scalar.cmpi .ne v495 c0_i32_513
  let v500 : BitVec 1 := Scalar.andi v499 v496
  let v501 : BitVec 32 := Scalar.addi v495 v494
  let v502 : BitVec 32 := Scalar.select v500 v501 v495
  let c4_i32_583 : BitVec 32 := 4#32
  let v597 : BitVec 32 := Scalar.muli v502 c4_i32_583
  let v598 : BitVec 32 := Scalar.addi v596 v597
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_584 : BitVec 32 := 1#32
  let v599 : BitVec 32 := Scalar.muli v8 c1_i32_584
  let v600 : BitVec 32 := Scalar.addi v598 v599
  v600.toNat
def k0_dev16 (d0 : Dev nD) : Nat :=
  let c0_i32_594 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_516 : BitVec 32 := 2#32
  let v503 : BitVec 32 := Scalar.xori v10 c2_i32_516
  let c0_i32_518 : BitVec 32 := 0#32
  let v505 : BitVec 1 := Scalar.cmpi .sgt v503 c0_i32_518
  let v506 : BitVec 32 := Scalar.extui v505
  let c0_i32_519 : BitVec 32 := 0#32
  let v507 : BitVec 1 := Scalar.cmpi .slt v503 c0_i32_519
  let v508 : BitVec 32 := Scalar.extui v507
  let v509 : BitVec 32 := Scalar.subi v506 v508
  let c2_i32_517 : BitVec 32 := 2#32
  let c0_i32_520 : BitVec 32 := 0#32
  let v510 : BitVec 1 := Scalar.cmpi .sgt c2_i32_517 c0_i32_520
  let v511 : BitVec 32 := Scalar.extui v510
  let c0_i32_521 : BitVec 32 := 0#32
  let v512 : BitVec 1 := Scalar.cmpi .slt c2_i32_517 c0_i32_521
  let v513 : BitVec 32 := Scalar.extui v512
  let v514 : BitVec 32 := Scalar.subi v511 v513
  let v515 : BitVec 1 := Scalar.cmpi .ne v509 v514
  let v516 : BitVec 32 := Scalar.remsi v503 c2_i32_517
  let c0_i32_522 : BitVec 32 := 0#32
  let v517 : BitVec 1 := Scalar.cmpi .ne v516 c0_i32_522
  let v518 : BitVec 1 := Scalar.andi v515 v517
  let v504 : BitVec 32 := Scalar.divsi v503 c2_i32_517
  let c1_i32_523 : BitVec 32 := 1#32
  let v519 : BitVec 32 := Scalar.subi v504 c1_i32_523
  let v520 : BitVec 32 := Scalar.select v518 v519 v504
  let c8_i32_593 : BitVec 32 := 8#32
  let v608 : BitVec 32 := Scalar.muli v520 c8_i32_593
  let v609 : BitVec 32 := Scalar.addi c0_i32_594 v608
  let c2_i32_524 : BitVec 32 := 2#32
  let c0_i32_525 : BitVec 32 := 0#32
  let v521 : BitVec 1 := Scalar.cmpi .eq c2_i32_524 c0_i32_525
  let c1_i32_526 : BitVec 32 := 1#32
  let v522 : BitVec 32 := Scalar.select v521 c1_i32_526 c2_i32_524
  let v523 : BitVec 32 := Scalar.remsi v503 v522
  let c0_i32_528 : BitVec 32 := 0#32
  let v525 : BitVec 1 := Scalar.cmpi .slt v523 c0_i32_528
  let c0_i32_529 : BitVec 32 := 0#32
  let v526 : BitVec 1 := Scalar.cmpi .slt v522 c0_i32_529
  let v527 : BitVec 1 := Scalar.xori v525 v526
  let c0_i32_527 : BitVec 32 := 0#32
  let v524 : BitVec 1 := Scalar.cmpi .ne v523 c0_i32_527
  let v528 : BitVec 1 := Scalar.andi v527 v524
  let v529 : BitVec 32 := Scalar.addi v523 v522
  let v530 : BitVec 32 := Scalar.select v528 v529 v523
  let c4_i32_595 : BitVec 32 := 4#32
  let v610 : BitVec 32 := Scalar.muli v530 c4_i32_595
  let v611 : BitVec 32 := Scalar.addi v609 v610
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_596 : BitVec 32 := 1#32
  let v612 : BitVec 32 := Scalar.muli v8 c1_i32_596
  let v613 : BitVec 32 := Scalar.addi v611 v612
  v613.toNat
def k0_dev17 (d0 : Dev nD) : Nat :=
  let c0_i32_606 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3_i32_530 : BitVec 32 := 3#32
  let v531 : BitVec 32 := Scalar.xori v10 c3_i32_530
  let c0_i32_532 : BitVec 32 := 0#32
  let v533 : BitVec 1 := Scalar.cmpi .sgt v531 c0_i32_532
  let v534 : BitVec 32 := Scalar.extui v533
  let c0_i32_533 : BitVec 32 := 0#32
  let v535 : BitVec 1 := Scalar.cmpi .slt v531 c0_i32_533
  let v536 : BitVec 32 := Scalar.extui v535
  let v537 : BitVec 32 := Scalar.subi v534 v536
  let c2_i32_531 : BitVec 32 := 2#32
  let c0_i32_534 : BitVec 32 := 0#32
  let v538 : BitVec 1 := Scalar.cmpi .sgt c2_i32_531 c0_i32_534
  let v539 : BitVec 32 := Scalar.extui v538
  let c0_i32_535 : BitVec 32 := 0#32
  let v540 : BitVec 1 := Scalar.cmpi .slt c2_i32_531 c0_i32_535
  let v541 : BitVec 32 := Scalar.extui v540
  let v542 : BitVec 32 := Scalar.subi v539 v541
  let v543 : BitVec 1 := Scalar.cmpi .ne v537 v542
  let v544 : BitVec 32 := Scalar.remsi v531 c2_i32_531
  let c0_i32_536 : BitVec 32 := 0#32
  let v545 : BitVec 1 := Scalar.cmpi .ne v544 c0_i32_536
  let v546 : BitVec 1 := Scalar.andi v543 v545
  let v532 : BitVec 32 := Scalar.divsi v531 c2_i32_531
  let c1_i32_537 : BitVec 32 := 1#32
  let v547 : BitVec 32 := Scalar.subi v532 c1_i32_537
  let v548 : BitVec 32 := Scalar.select v546 v547 v532
  let c8_i32_605 : BitVec 32 := 8#32
  let v621 : BitVec 32 := Scalar.muli v548 c8_i32_605
  let v622 : BitVec 32 := Scalar.addi c0_i32_606 v621
  let c2_i32_538 : BitVec 32 := 2#32
  let c0_i32_539 : BitVec 32 := 0#32
  let v549 : BitVec 1 := Scalar.cmpi .eq c2_i32_538 c0_i32_539
  let c1_i32_540 : BitVec 32 := 1#32
  let v550 : BitVec 32 := Scalar.select v549 c1_i32_540 c2_i32_538
  let v551 : BitVec 32 := Scalar.remsi v531 v550
  let c0_i32_542 : BitVec 32 := 0#32
  let v553 : BitVec 1 := Scalar.cmpi .slt v551 c0_i32_542
  let c0_i32_543 : BitVec 32 := 0#32
  let v554 : BitVec 1 := Scalar.cmpi .slt v550 c0_i32_543
  let v555 : BitVec 1 := Scalar.xori v553 v554
  let c0_i32_541 : BitVec 32 := 0#32
  let v552 : BitVec 1 := Scalar.cmpi .ne v551 c0_i32_541
  let v556 : BitVec 1 := Scalar.andi v555 v552
  let v557 : BitVec 32 := Scalar.addi v551 v550
  let v558 : BitVec 32 := Scalar.select v556 v557 v551
  let c4_i32_607 : BitVec 32 := 4#32
  let v623 : BitVec 32 := Scalar.muli v558 c4_i32_607
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_608 : BitVec 32 := 1#32
  let v625 : BitVec 32 := Scalar.muli v8 c1_i32_608
  let v626 : BitVec 32 := Scalar.addi v624 v625
  v626.toNat
def k0_off4 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_634 : BitVec 32 := 0#32
  let c128_i32 : BitVec 32 := 128#32
  ![v10.toNat, 0, 128]
def k0_dev18 (d0 : Dev nD) : Nat :=
  let c0_i32_631 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_502 : BitVec 32 := 1#32
  let v475 : BitVec 32 := Scalar.xori v10 c1_i32_502
  let c0_i32_504 : BitVec 32 := 0#32
  let v477 : BitVec 1 := Scalar.cmpi .sgt v475 c0_i32_504
  let v478 : BitVec 32 := Scalar.extui v477
  let c0_i32_505 : BitVec 32 := 0#32
  let v479 : BitVec 1 := Scalar.cmpi .slt v475 c0_i32_505
  let v480 : BitVec 32 := Scalar.extui v479
  let v481 : BitVec 32 := Scalar.subi v478 v480
  let c2_i32_503 : BitVec 32 := 2#32
  let c0_i32_506 : BitVec 32 := 0#32
  let v482 : BitVec 1 := Scalar.cmpi .sgt c2_i32_503 c0_i32_506
  let v483 : BitVec 32 := Scalar.extui v482
  let c0_i32_507 : BitVec 32 := 0#32
  let v484 : BitVec 1 := Scalar.cmpi .slt c2_i32_503 c0_i32_507
  let v485 : BitVec 32 := Scalar.extui v484
  let v486 : BitVec 32 := Scalar.subi v483 v485
  let v487 : BitVec 1 := Scalar.cmpi .ne v481 v486
  let v488 : BitVec 32 := Scalar.remsi v475 c2_i32_503
  let c0_i32_508 : BitVec 32 := 0#32
  let v489 : BitVec 1 := Scalar.cmpi .ne v488 c0_i32_508
  let v490 : BitVec 1 := Scalar.andi v487 v489
  let v476 : BitVec 32 := Scalar.divsi v475 c2_i32_503
  let c1_i32_509 : BitVec 32 := 1#32
  let v491 : BitVec 32 := Scalar.subi v476 c1_i32_509
  let v492 : BitVec 32 := Scalar.select v490 v491 v476
  let c8_i32_630 : BitVec 32 := 8#32
  let v651 : BitVec 32 := Scalar.muli v492 c8_i32_630
  let v652 : BitVec 32 := Scalar.addi c0_i32_631 v651
  let c2_i32_510 : BitVec 32 := 2#32
  let c0_i32_511 : BitVec 32 := 0#32
  let v493 : BitVec 1 := Scalar.cmpi .eq c2_i32_510 c0_i32_511
  let c1_i32_512 : BitVec 32 := 1#32
  let v494 : BitVec 32 := Scalar.select v493 c1_i32_512 c2_i32_510
  let v495 : BitVec 32 := Scalar.remsi v475 v494
  let c0_i32_514 : BitVec 32 := 0#32
  let v497 : BitVec 1 := Scalar.cmpi .slt v495 c0_i32_514
  let c0_i32_515 : BitVec 32 := 0#32
  let v498 : BitVec 1 := Scalar.cmpi .slt v494 c0_i32_515
  let v499 : BitVec 1 := Scalar.xori v497 v498
  let c0_i32_513 : BitVec 32 := 0#32
  let v496 : BitVec 1 := Scalar.cmpi .ne v495 c0_i32_513
  let v500 : BitVec 1 := Scalar.andi v499 v496
  let v501 : BitVec 32 := Scalar.addi v495 v494
  let v502 : BitVec 32 := Scalar.select v500 v501 v495
  let c4_i32_632 : BitVec 32 := 4#32
  let v653 : BitVec 32 := Scalar.muli v502 c4_i32_632
  let v654 : BitVec 32 := Scalar.addi v652 v653
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_633 : BitVec 32 := 1#32
  let v655 : BitVec 32 := Scalar.muli v8 c1_i32_633
  let v656 : BitVec 32 := Scalar.addi v654 v655
  v656.toNat
def k0_dev19 (d0 : Dev nD) : Nat :=
  let c0_i32_642 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_516 : BitVec 32 := 2#32
  let v503 : BitVec 32 := Scalar.xori v10 c2_i32_516
  let c0_i32_518 : BitVec 32 := 0#32
  let v505 : BitVec 1 := Scalar.cmpi .sgt v503 c0_i32_518
  let v506 : BitVec 32 := Scalar.extui v505
  let c0_i32_519 : BitVec 32 := 0#32
  let v507 : BitVec 1 := Scalar.cmpi .slt v503 c0_i32_519
  let v508 : BitVec 32 := Scalar.extui v507
  let v509 : BitVec 32 := Scalar.subi v506 v508
  let c2_i32_517 : BitVec 32 := 2#32
  let c0_i32_520 : BitVec 32 := 0#32
  let v510 : BitVec 1 := Scalar.cmpi .sgt c2_i32_517 c0_i32_520
  let v511 : BitVec 32 := Scalar.extui v510
  let c0_i32_521 : BitVec 32 := 0#32
  let v512 : BitVec 1 := Scalar.cmpi .slt c2_i32_517 c0_i32_521
  let v513 : BitVec 32 := Scalar.extui v512
  let v514 : BitVec 32 := Scalar.subi v511 v513
  let v515 : BitVec 1 := Scalar.cmpi .ne v509 v514
  let v516 : BitVec 32 := Scalar.remsi v503 c2_i32_517
  let c0_i32_522 : BitVec 32 := 0#32
  let v517 : BitVec 1 := Scalar.cmpi .ne v516 c0_i32_522
  let v518 : BitVec 1 := Scalar.andi v515 v517
  let v504 : BitVec 32 := Scalar.divsi v503 c2_i32_517
  let c1_i32_523 : BitVec 32 := 1#32
  let v519 : BitVec 32 := Scalar.subi v504 c1_i32_523
  let v520 : BitVec 32 := Scalar.select v518 v519 v504
  let c8_i32_641 : BitVec 32 := 8#32
  let v664 : BitVec 32 := Scalar.muli v520 c8_i32_641
  let v665 : BitVec 32 := Scalar.addi c0_i32_642 v664
  let c2_i32_524 : BitVec 32 := 2#32
  let c0_i32_525 : BitVec 32 := 0#32
  let v521 : BitVec 1 := Scalar.cmpi .eq c2_i32_524 c0_i32_525
  let c1_i32_526 : BitVec 32 := 1#32
  let v522 : BitVec 32 := Scalar.select v521 c1_i32_526 c2_i32_524
  let v523 : BitVec 32 := Scalar.remsi v503 v522
  let c0_i32_528 : BitVec 32 := 0#32
  let v525 : BitVec 1 := Scalar.cmpi .slt v523 c0_i32_528
  let c0_i32_529 : BitVec 32 := 0#32
  let v526 : BitVec 1 := Scalar.cmpi .slt v522 c0_i32_529
  let v527 : BitVec 1 := Scalar.xori v525 v526
  let c0_i32_527 : BitVec 32 := 0#32
  let v524 : BitVec 1 := Scalar.cmpi .ne v523 c0_i32_527
  let v528 : BitVec 1 := Scalar.andi v527 v524
  let v529 : BitVec 32 := Scalar.addi v523 v522
  let v530 : BitVec 32 := Scalar.select v528 v529 v523
  let c4_i32_643 : BitVec 32 := 4#32
  let v666 : BitVec 32 := Scalar.muli v530 c4_i32_643
  let v667 : BitVec 32 := Scalar.addi v665 v666
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_644 : BitVec 32 := 1#32
  let v668 : BitVec 32 := Scalar.muli v8 c1_i32_644
  let v669 : BitVec 32 := Scalar.addi v667 v668
  v669.toNat
def k0_dev20 (d0 : Dev nD) : Nat :=
  let c0_i32_654 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3_i32_530 : BitVec 32 := 3#32
  let v531 : BitVec 32 := Scalar.xori v10 c3_i32_530
  let c0_i32_532 : BitVec 32 := 0#32
  let v533 : BitVec 1 := Scalar.cmpi .sgt v531 c0_i32_532
  let v534 : BitVec 32 := Scalar.extui v533
  let c0_i32_533 : BitVec 32 := 0#32
  let v535 : BitVec 1 := Scalar.cmpi .slt v531 c0_i32_533
  let v536 : BitVec 32 := Scalar.extui v535
  let v537 : BitVec 32 := Scalar.subi v534 v536
  let c2_i32_531 : BitVec 32 := 2#32
  let c0_i32_534 : BitVec 32 := 0#32
  let v538 : BitVec 1 := Scalar.cmpi .sgt c2_i32_531 c0_i32_534
  let v539 : BitVec 32 := Scalar.extui v538
  let c0_i32_535 : BitVec 32 := 0#32
  let v540 : BitVec 1 := Scalar.cmpi .slt c2_i32_531 c0_i32_535
  let v541 : BitVec 32 := Scalar.extui v540
  let v542 : BitVec 32 := Scalar.subi v539 v541
  let v543 : BitVec 1 := Scalar.cmpi .ne v537 v542
  let v544 : BitVec 32 := Scalar.remsi v531 c2_i32_531
  let c0_i32_536 : BitVec 32 := 0#32
  let v545 : BitVec 1 := Scalar.cmpi .ne v544 c0_i32_536
  let v546 : BitVec 1 := Scalar.andi v543 v545
  let v532 : BitVec 32 := Scalar.divsi v531 c2_i32_531
  let c1_i32_537 : BitVec 32 := 1#32
  let v547 : BitVec 32 := Scalar.subi v532 c1_i32_537
  let v548 : BitVec 32 := Scalar.select v546 v547 v532
  let c8_i32_653 : BitVec 32 := 8#32
  let v677 : BitVec 32 := Scalar.muli v548 c8_i32_653
  let v678 : BitVec 32 := Scalar.addi c0_i32_654 v677
  let c2_i32_538 : BitVec 32 := 2#32
  let c0_i32_539 : BitVec 32 := 0#32
  let v549 : BitVec 1 := Scalar.cmpi .eq c2_i32_538 c0_i32_539
  let c1_i32_540 : BitVec 32 := 1#32
  let v550 : BitVec 32 := Scalar.select v549 c1_i32_540 c2_i32_538
  let v551 : BitVec 32 := Scalar.remsi v531 v550
  let c0_i32_542 : BitVec 32 := 0#32
  let v553 : BitVec 1 := Scalar.cmpi .slt v551 c0_i32_542
  let c0_i32_543 : BitVec 32 := 0#32
  let v554 : BitVec 1 := Scalar.cmpi .slt v550 c0_i32_543
  let v555 : BitVec 1 := Scalar.xori v553 v554
  let c0_i32_541 : BitVec 32 := 0#32
  let v552 : BitVec 1 := Scalar.cmpi .ne v551 c0_i32_541
  let v556 : BitVec 1 := Scalar.andi v555 v552
  let v557 : BitVec 32 := Scalar.addi v551 v550
  let v558 : BitVec 32 := Scalar.select v556 v557 v551
  let c4_i32_655 : BitVec 32 := 4#32
  let v679 : BitVec 32 := Scalar.muli v558 c4_i32_655
  let v680 : BitVec 32 := Scalar.addi v678 v679
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_656 : BitVec 32 := 1#32
  let v681 : BitVec 32 := Scalar.muli v8 c1_i32_656
  let v682 : BitVec 32 := Scalar.addi v680 v681
  v682.toNat
def k0_off5 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_682 : BitVec 32 := 0#32
  let c256_i32 : BitVec 32 := 256#32
  ![v10.toNat, 0, 256]
def k0_dev21 (d0 : Dev nD) : Nat :=
  let c0_i32_679 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_502 : BitVec 32 := 1#32
  let v475 : BitVec 32 := Scalar.xori v10 c1_i32_502
  let c0_i32_504 : BitVec 32 := 0#32
  let v477 : BitVec 1 := Scalar.cmpi .sgt v475 c0_i32_504
  let v478 : BitVec 32 := Scalar.extui v477
  let c0_i32_505 : BitVec 32 := 0#32
  let v479 : BitVec 1 := Scalar.cmpi .slt v475 c0_i32_505
  let v480 : BitVec 32 := Scalar.extui v479
  let v481 : BitVec 32 := Scalar.subi v478 v480
  let c2_i32_503 : BitVec 32 := 2#32
  let c0_i32_506 : BitVec 32 := 0#32
  let v482 : BitVec 1 := Scalar.cmpi .sgt c2_i32_503 c0_i32_506
  let v483 : BitVec 32 := Scalar.extui v482
  let c0_i32_507 : BitVec 32 := 0#32
  let v484 : BitVec 1 := Scalar.cmpi .slt c2_i32_503 c0_i32_507
  let v485 : BitVec 32 := Scalar.extui v484
  let v486 : BitVec 32 := Scalar.subi v483 v485
  let v487 : BitVec 1 := Scalar.cmpi .ne v481 v486
  let v488 : BitVec 32 := Scalar.remsi v475 c2_i32_503
  let c0_i32_508 : BitVec 32 := 0#32
  let v489 : BitVec 1 := Scalar.cmpi .ne v488 c0_i32_508
  let v490 : BitVec 1 := Scalar.andi v487 v489
  let v476 : BitVec 32 := Scalar.divsi v475 c2_i32_503
  let c1_i32_509 : BitVec 32 := 1#32
  let v491 : BitVec 32 := Scalar.subi v476 c1_i32_509
  let v492 : BitVec 32 := Scalar.select v490 v491 v476
  let c8_i32_678 : BitVec 32 := 8#32
  let v707 : BitVec 32 := Scalar.muli v492 c8_i32_678
  let v708 : BitVec 32 := Scalar.addi c0_i32_679 v707
  let c2_i32_510 : BitVec 32 := 2#32
  let c0_i32_511 : BitVec 32 := 0#32
  let v493 : BitVec 1 := Scalar.cmpi .eq c2_i32_510 c0_i32_511
  let c1_i32_512 : BitVec 32 := 1#32
  let v494 : BitVec 32 := Scalar.select v493 c1_i32_512 c2_i32_510
  let v495 : BitVec 32 := Scalar.remsi v475 v494
  let c0_i32_514 : BitVec 32 := 0#32
  let v497 : BitVec 1 := Scalar.cmpi .slt v495 c0_i32_514
  let c0_i32_515 : BitVec 32 := 0#32
  let v498 : BitVec 1 := Scalar.cmpi .slt v494 c0_i32_515
  let v499 : BitVec 1 := Scalar.xori v497 v498
  let c0_i32_513 : BitVec 32 := 0#32
  let v496 : BitVec 1 := Scalar.cmpi .ne v495 c0_i32_513
  let v500 : BitVec 1 := Scalar.andi v499 v496
  let v501 : BitVec 32 := Scalar.addi v495 v494
  let v502 : BitVec 32 := Scalar.select v500 v501 v495
  let c4_i32_680 : BitVec 32 := 4#32
  let v709 : BitVec 32 := Scalar.muli v502 c4_i32_680
  let v710 : BitVec 32 := Scalar.addi v708 v709
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_681 : BitVec 32 := 1#32
  let v711 : BitVec 32 := Scalar.muli v8 c1_i32_681
  let v712 : BitVec 32 := Scalar.addi v710 v711
  v712.toNat
def k0_dev22 (d0 : Dev nD) : Nat :=
  let c0_i32_690 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_516 : BitVec 32 := 2#32
  let v503 : BitVec 32 := Scalar.xori v10 c2_i32_516
  let c0_i32_518 : BitVec 32 := 0#32
  let v505 : BitVec 1 := Scalar.cmpi .sgt v503 c0_i32_518
  let v506 : BitVec 32 := Scalar.extui v505
  let c0_i32_519 : BitVec 32 := 0#32
  let v507 : BitVec 1 := Scalar.cmpi .slt v503 c0_i32_519
  let v508 : BitVec 32 := Scalar.extui v507
  let v509 : BitVec 32 := Scalar.subi v506 v508
  let c2_i32_517 : BitVec 32 := 2#32
  let c0_i32_520 : BitVec 32 := 0#32
  let v510 : BitVec 1 := Scalar.cmpi .sgt c2_i32_517 c0_i32_520
  let v511 : BitVec 32 := Scalar.extui v510
  let c0_i32_521 : BitVec 32 := 0#32
  let v512 : BitVec 1 := Scalar.cmpi .slt c2_i32_517 c0_i32_521
  let v513 : BitVec 32 := Scalar.extui v512
  let v514 : BitVec 32 := Scalar.subi v511 v513
  let v515 : BitVec 1 := Scalar.cmpi .ne v509 v514
  let v516 : BitVec 32 := Scalar.remsi v503 c2_i32_517
  let c0_i32_522 : BitVec 32 := 0#32
  let v517 : BitVec 1 := Scalar.cmpi .ne v516 c0_i32_522
  let v518 : BitVec 1 := Scalar.andi v515 v517
  let v504 : BitVec 32 := Scalar.divsi v503 c2_i32_517
  let c1_i32_523 : BitVec 32 := 1#32
  let v519 : BitVec 32 := Scalar.subi v504 c1_i32_523
  let v520 : BitVec 32 := Scalar.select v518 v519 v504
  let c8_i32_689 : BitVec 32 := 8#32
  let v720 : BitVec 32 := Scalar.muli v520 c8_i32_689
  let v721 : BitVec 32 := Scalar.addi c0_i32_690 v720
  let c2_i32_524 : BitVec 32 := 2#32
  let c0_i32_525 : BitVec 32 := 0#32
  let v521 : BitVec 1 := Scalar.cmpi .eq c2_i32_524 c0_i32_525
  let c1_i32_526 : BitVec 32 := 1#32
  let v522 : BitVec 32 := Scalar.select v521 c1_i32_526 c2_i32_524
  let v523 : BitVec 32 := Scalar.remsi v503 v522
  let c0_i32_528 : BitVec 32 := 0#32
  let v525 : BitVec 1 := Scalar.cmpi .slt v523 c0_i32_528
  let c0_i32_529 : BitVec 32 := 0#32
  let v526 : BitVec 1 := Scalar.cmpi .slt v522 c0_i32_529
  let v527 : BitVec 1 := Scalar.xori v525 v526
  let c0_i32_527 : BitVec 32 := 0#32
  let v524 : BitVec 1 := Scalar.cmpi .ne v523 c0_i32_527
  let v528 : BitVec 1 := Scalar.andi v527 v524
  let v529 : BitVec 32 := Scalar.addi v523 v522
  let v530 : BitVec 32 := Scalar.select v528 v529 v523
  let c4_i32_691 : BitVec 32 := 4#32
  let v722 : BitVec 32 := Scalar.muli v530 c4_i32_691
  let v723 : BitVec 32 := Scalar.addi v721 v722
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_692 : BitVec 32 := 1#32
  let v724 : BitVec 32 := Scalar.muli v8 c1_i32_692
  let v725 : BitVec 32 := Scalar.addi v723 v724
  v725.toNat
def k0_dev23 (d0 : Dev nD) : Nat :=
  let c0_i32_702 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3_i32_530 : BitVec 32 := 3#32
  let v531 : BitVec 32 := Scalar.xori v10 c3_i32_530
  let c0_i32_532 : BitVec 32 := 0#32
  let v533 : BitVec 1 := Scalar.cmpi .sgt v531 c0_i32_532
  let v534 : BitVec 32 := Scalar.extui v533
  let c0_i32_533 : BitVec 32 := 0#32
  let v535 : BitVec 1 := Scalar.cmpi .slt v531 c0_i32_533
  let v536 : BitVec 32 := Scalar.extui v535
  let v537 : BitVec 32 := Scalar.subi v534 v536
  let c2_i32_531 : BitVec 32 := 2#32
  let c0_i32_534 : BitVec 32 := 0#32
  let v538 : BitVec 1 := Scalar.cmpi .sgt c2_i32_531 c0_i32_534
  let v539 : BitVec 32 := Scalar.extui v538
  let c0_i32_535 : BitVec 32 := 0#32
  let v540 : BitVec 1 := Scalar.cmpi .slt c2_i32_531 c0_i32_535
  let v541 : BitVec 32 := Scalar.extui v540
  let v542 : BitVec 32 := Scalar.subi v539 v541
  let v543 : BitVec 1 := Scalar.cmpi .ne v537 v542
  let v544 : BitVec 32 := Scalar.remsi v531 c2_i32_531
  let c0_i32_536 : BitVec 32 := 0#32
  let v545 : BitVec 1 := Scalar.cmpi .ne v544 c0_i32_536
  let v546 : BitVec 1 := Scalar.andi v543 v545
  let v532 : BitVec 32 := Scalar.divsi v531 c2_i32_531
  let c1_i32_537 : BitVec 32 := 1#32
  let v547 : BitVec 32 := Scalar.subi v532 c1_i32_537
  let v548 : BitVec 32 := Scalar.select v546 v547 v532
  let c8_i32_701 : BitVec 32 := 8#32
  let v733 : BitVec 32 := Scalar.muli v548 c8_i32_701
  let v734 : BitVec 32 := Scalar.addi c0_i32_702 v733
  let c2_i32_538 : BitVec 32 := 2#32
  let c0_i32_539 : BitVec 32 := 0#32
  let v549 : BitVec 1 := Scalar.cmpi .eq c2_i32_538 c0_i32_539
  let c1_i32_540 : BitVec 32 := 1#32
  let v550 : BitVec 32 := Scalar.select v549 c1_i32_540 c2_i32_538
  let v551 : BitVec 32 := Scalar.remsi v531 v550
  let c0_i32_542 : BitVec 32 := 0#32
  let v553 : BitVec 1 := Scalar.cmpi .slt v551 c0_i32_542
  let c0_i32_543 : BitVec 32 := 0#32
  let v554 : BitVec 1 := Scalar.cmpi .slt v550 c0_i32_543
  let v555 : BitVec 1 := Scalar.xori v553 v554
  let c0_i32_541 : BitVec 32 := 0#32
  let v552 : BitVec 1 := Scalar.cmpi .ne v551 c0_i32_541
  let v556 : BitVec 1 := Scalar.andi v555 v552
  let v557 : BitVec 32 := Scalar.addi v551 v550
  let v558 : BitVec 32 := Scalar.select v556 v557 v551
  let c4_i32_703 : BitVec 32 := 4#32
  let v735 : BitVec 32 := Scalar.muli v558 c4_i32_703
  let v736 : BitVec 32 := Scalar.addi v734 v735
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_704 : BitVec 32 := 1#32
  let v737 : BitVec 32 := Scalar.muli v8 c1_i32_704
  let v738 : BitVec 32 := Scalar.addi v736 v737
  v738.toNat
def k0_off6 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_730 : BitVec 32 := 0#32
  let c384_i32 : BitVec 32 := 384#32
  ![v10.toNat, 0, 384]
def k0_dev24 (d0 : Dev nD) : Nat :=
  let c0_i32_727 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_502 : BitVec 32 := 1#32
  let v475 : BitVec 32 := Scalar.xori v10 c1_i32_502
  let c0_i32_504 : BitVec 32 := 0#32
  let v477 : BitVec 1 := Scalar.cmpi .sgt v475 c0_i32_504
  let v478 : BitVec 32 := Scalar.extui v477
  let c0_i32_505 : BitVec 32 := 0#32
  let v479 : BitVec 1 := Scalar.cmpi .slt v475 c0_i32_505
  let v480 : BitVec 32 := Scalar.extui v479
  let v481 : BitVec 32 := Scalar.subi v478 v480
  let c2_i32_503 : BitVec 32 := 2#32
  let c0_i32_506 : BitVec 32 := 0#32
  let v482 : BitVec 1 := Scalar.cmpi .sgt c2_i32_503 c0_i32_506
  let v483 : BitVec 32 := Scalar.extui v482
  let c0_i32_507 : BitVec 32 := 0#32
  let v484 : BitVec 1 := Scalar.cmpi .slt c2_i32_503 c0_i32_507
  let v485 : BitVec 32 := Scalar.extui v484
  let v486 : BitVec 32 := Scalar.subi v483 v485
  let v487 : BitVec 1 := Scalar.cmpi .ne v481 v486
  let v488 : BitVec 32 := Scalar.remsi v475 c2_i32_503
  let c0_i32_508 : BitVec 32 := 0#32
  let v489 : BitVec 1 := Scalar.cmpi .ne v488 c0_i32_508
  let v490 : BitVec 1 := Scalar.andi v487 v489
  let v476 : BitVec 32 := Scalar.divsi v475 c2_i32_503
  let c1_i32_509 : BitVec 32 := 1#32
  let v491 : BitVec 32 := Scalar.subi v476 c1_i32_509
  let v492 : BitVec 32 := Scalar.select v490 v491 v476
  let c8_i32_726 : BitVec 32 := 8#32
  let v763 : BitVec 32 := Scalar.muli v492 c8_i32_726
  let v764 : BitVec 32 := Scalar.addi c0_i32_727 v763
  let c2_i32_510 : BitVec 32 := 2#32
  let c0_i32_511 : BitVec 32 := 0#32
  let v493 : BitVec 1 := Scalar.cmpi .eq c2_i32_510 c0_i32_511
  let c1_i32_512 : BitVec 32 := 1#32
  let v494 : BitVec 32 := Scalar.select v493 c1_i32_512 c2_i32_510
  let v495 : BitVec 32 := Scalar.remsi v475 v494
  let c0_i32_514 : BitVec 32 := 0#32
  let v497 : BitVec 1 := Scalar.cmpi .slt v495 c0_i32_514
  let c0_i32_515 : BitVec 32 := 0#32
  let v498 : BitVec 1 := Scalar.cmpi .slt v494 c0_i32_515
  let v499 : BitVec 1 := Scalar.xori v497 v498
  let c0_i32_513 : BitVec 32 := 0#32
  let v496 : BitVec 1 := Scalar.cmpi .ne v495 c0_i32_513
  let v500 : BitVec 1 := Scalar.andi v499 v496
  let v501 : BitVec 32 := Scalar.addi v495 v494
  let v502 : BitVec 32 := Scalar.select v500 v501 v495
  let c4_i32_728 : BitVec 32 := 4#32
  let v765 : BitVec 32 := Scalar.muli v502 c4_i32_728
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_729 : BitVec 32 := 1#32
  let v767 : BitVec 32 := Scalar.muli v8 c1_i32_729
  let v768 : BitVec 32 := Scalar.addi v766 v767
  v768.toNat
def k0_dev25 (d0 : Dev nD) : Nat :=
  let c0_i32_738 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_516 : BitVec 32 := 2#32
  let v503 : BitVec 32 := Scalar.xori v10 c2_i32_516
  let c0_i32_518 : BitVec 32 := 0#32
  let v505 : BitVec 1 := Scalar.cmpi .sgt v503 c0_i32_518
  let v506 : BitVec 32 := Scalar.extui v505
  let c0_i32_519 : BitVec 32 := 0#32
  let v507 : BitVec 1 := Scalar.cmpi .slt v503 c0_i32_519
  let v508 : BitVec 32 := Scalar.extui v507
  let v509 : BitVec 32 := Scalar.subi v506 v508
  let c2_i32_517 : BitVec 32 := 2#32
  let c0_i32_520 : BitVec 32 := 0#32
  let v510 : BitVec 1 := Scalar.cmpi .sgt c2_i32_517 c0_i32_520
  let v511 : BitVec 32 := Scalar.extui v510
  let c0_i32_521 : BitVec 32 := 0#32
  let v512 : BitVec 1 := Scalar.cmpi .slt c2_i32_517 c0_i32_521
  let v513 : BitVec 32 := Scalar.extui v512
  let v514 : BitVec 32 := Scalar.subi v511 v513
  let v515 : BitVec 1 := Scalar.cmpi .ne v509 v514
  let v516 : BitVec 32 := Scalar.remsi v503 c2_i32_517
  let c0_i32_522 : BitVec 32 := 0#32
  let v517 : BitVec 1 := Scalar.cmpi .ne v516 c0_i32_522
  let v518 : BitVec 1 := Scalar.andi v515 v517
  let v504 : BitVec 32 := Scalar.divsi v503 c2_i32_517
  let c1_i32_523 : BitVec 32 := 1#32
  let v519 : BitVec 32 := Scalar.subi v504 c1_i32_523
  let v520 : BitVec 32 := Scalar.select v518 v519 v504
  let c8_i32_737 : BitVec 32 := 8#32
  let v776 : BitVec 32 := Scalar.muli v520 c8_i32_737
  let v777 : BitVec 32 := Scalar.addi c0_i32_738 v776
  let c2_i32_524 : BitVec 32 := 2#32
  let c0_i32_525 : BitVec 32 := 0#32
  let v521 : BitVec 1 := Scalar.cmpi .eq c2_i32_524 c0_i32_525
  let c1_i32_526 : BitVec 32 := 1#32
  let v522 : BitVec 32 := Scalar.select v521 c1_i32_526 c2_i32_524
  let v523 : BitVec 32 := Scalar.remsi v503 v522
  let c0_i32_528 : BitVec 32 := 0#32
  let v525 : BitVec 1 := Scalar.cmpi .slt v523 c0_i32_528
  let c0_i32_529 : BitVec 32 := 0#32
  let v526 : BitVec 1 := Scalar.cmpi .slt v522 c0_i32_529
  let v527 : BitVec 1 := Scalar.xori v525 v526
  let c0_i32_527 : BitVec 32 := 0#32
  let v524 : BitVec 1 := Scalar.cmpi .ne v523 c0_i32_527
  let v528 : BitVec 1 := Scalar.andi v527 v524
  let v529 : BitVec 32 := Scalar.addi v523 v522
  let v530 : BitVec 32 := Scalar.select v528 v529 v523
  let c4_i32_739 : BitVec 32 := 4#32
  let v778 : BitVec 32 := Scalar.muli v530 c4_i32_739
  let v779 : BitVec 32 := Scalar.addi v777 v778
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_740 : BitVec 32 := 1#32
  let v780 : BitVec 32 := Scalar.muli v8 c1_i32_740
  let v781 : BitVec 32 := Scalar.addi v779 v780
  v781.toNat
def k0_dev26 (d0 : Dev nD) : Nat :=
  let c0_i32_750 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3_i32_530 : BitVec 32 := 3#32
  let v531 : BitVec 32 := Scalar.xori v10 c3_i32_530
  let c0_i32_532 : BitVec 32 := 0#32
  let v533 : BitVec 1 := Scalar.cmpi .sgt v531 c0_i32_532
  let v534 : BitVec 32 := Scalar.extui v533
  let c0_i32_533 : BitVec 32 := 0#32
  let v535 : BitVec 1 := Scalar.cmpi .slt v531 c0_i32_533
  let v536 : BitVec 32 := Scalar.extui v535
  let v537 : BitVec 32 := Scalar.subi v534 v536
  let c2_i32_531 : BitVec 32 := 2#32
  let c0_i32_534 : BitVec 32 := 0#32
  let v538 : BitVec 1 := Scalar.cmpi .sgt c2_i32_531 c0_i32_534
  let v539 : BitVec 32 := Scalar.extui v538
  let c0_i32_535 : BitVec 32 := 0#32
  let v540 : BitVec 1 := Scalar.cmpi .slt c2_i32_531 c0_i32_535
  let v541 : BitVec 32 := Scalar.extui v540
  let v542 : BitVec 32 := Scalar.subi v539 v541
  let v543 : BitVec 1 := Scalar.cmpi .ne v537 v542
  let v544 : BitVec 32 := Scalar.remsi v531 c2_i32_531
  let c0_i32_536 : BitVec 32 := 0#32
  let v545 : BitVec 1 := Scalar.cmpi .ne v544 c0_i32_536
  let v546 : BitVec 1 := Scalar.andi v543 v545
  let v532 : BitVec 32 := Scalar.divsi v531 c2_i32_531
  let c1_i32_537 : BitVec 32 := 1#32
  let v547 : BitVec 32 := Scalar.subi v532 c1_i32_537
  let v548 : BitVec 32 := Scalar.select v546 v547 v532
  let c8_i32_749 : BitVec 32 := 8#32
  let v789 : BitVec 32 := Scalar.muli v548 c8_i32_749
  let v790 : BitVec 32 := Scalar.addi c0_i32_750 v789
  let c2_i32_538 : BitVec 32 := 2#32
  let c0_i32_539 : BitVec 32 := 0#32
  let v549 : BitVec 1 := Scalar.cmpi .eq c2_i32_538 c0_i32_539
  let c1_i32_540 : BitVec 32 := 1#32
  let v550 : BitVec 32 := Scalar.select v549 c1_i32_540 c2_i32_538
  let v551 : BitVec 32 := Scalar.remsi v531 v550
  let c0_i32_542 : BitVec 32 := 0#32
  let v553 : BitVec 1 := Scalar.cmpi .slt v551 c0_i32_542
  let c0_i32_543 : BitVec 32 := 0#32
  let v554 : BitVec 1 := Scalar.cmpi .slt v550 c0_i32_543
  let v555 : BitVec 1 := Scalar.xori v553 v554
  let c0_i32_541 : BitVec 32 := 0#32
  let v552 : BitVec 1 := Scalar.cmpi .ne v551 c0_i32_541
  let v556 : BitVec 1 := Scalar.andi v555 v552
  let v557 : BitVec 32 := Scalar.addi v551 v550
  let v558 : BitVec 32 := Scalar.select v556 v557 v551
  let c4_i32_751 : BitVec 32 := 4#32
  let v791 : BitVec 32 := Scalar.muli v558 c4_i32_751
  let v792 : BitVec 32 := Scalar.addi v790 v791
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_752 : BitVec 32 := 1#32
  let v793 : BitVec 32 := Scalar.muli v8 c1_i32_752
  let v794 : BitVec 32 := Scalar.addi v792 v793
  v794.toNat
def k0_off7 (d0 : Dev nD) (c1_i32_502 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v475 : BitVec 32 := Scalar.xori v10 c1_i32_502
  let c512_i32_757 : BitVec 32 := 512#32
  let v802 : BitVec 32 := Scalar.muli v475 c512_i32_757
  let c0_i32_762 : BitVec 32 := 0#32
  ![v802.toNat, 0]
def k0_off8 (d0 : Dev nD) (c1_i32_502 : BitVec 32) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v475 : BitVec 32 := Scalar.xori v10 c1_i32_502
  let c0_i32_791 : BitVec 32 := 0#32
  let c0_i32_792 : BitVec 32 := 0#32
  ![v475.toNat, 0, 0]
def k0_off9 (d0 : Dev nD) (c1_i32_502 : BitVec 32) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v475 : BitVec 32 := Scalar.xori v10 c1_i32_502
  let c0_i32_803 : BitVec 32 := 0#32
  let c128_i32_804 : BitVec 32 := 128#32
  ![v475.toNat, 0, 128]
def k0_off10 (d0 : Dev nD) (c1_i32_502 : BitVec 32) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v475 : BitVec 32 := Scalar.xori v10 c1_i32_502
  let c0_i32_815 : BitVec 32 := 0#32
  let c256_i32_816 : BitVec 32 := 256#32
  ![v475.toNat, 0, 256]
def k0_off11 (d0 : Dev nD) (c1_i32_502 : BitVec 32) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v475 : BitVec 32 := Scalar.xori v10 c1_i32_502
  let c0_i32_827 : BitVec 32 := 0#32
  let c384_i32_828 : BitVec 32 := 384#32
  ![v475.toNat, 0, 384]
def k0_off12 (d0 : Dev nD) (c1_i32_502 : BitVec 32) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v475 : BitVec 32 := Scalar.xori v10 c1_i32_502
  let v877 : Index := Scalar.indexCast v475
  let c0_839 : Index := 0#32
  let c0_840 : Index := 0#32
  ![v877.toNat, 0, 0]
abbrev stage0_0 : Fin 1 → Memref sig .tc .vmem S1x1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S1x1024x2048 : Shape := ⟨3, ![1, 1024, 2048]⟩
abbrev S2048x512 : Shape := ⟨2, ![2048, 512]⟩
abbrev S512x2048 : Shape := ⟨2, ![512, 2048]⟩
abbrev S2048x2048 : Shape := ⟨2, ![2048, 2048]⟩
abbrev S2048x32 : Shape := ⟨2, ![2048, 32]⟩
abbrev S1x1024x512 : Shape := ⟨3, ![1, 1024, 512]⟩
abbrev S1x1024x16x128 : Shape := ⟨4, ![1, 1024, 16, 128]⟩
abbrev S1x1024x16x32 : Shape := ⟨4, ![1, 1024, 16, 32]⟩
abbrev S1x1024x32 : Shape := ⟨3, ![1, 1024, 32]⟩
abbrev S1x1024x1x32 : Shape := ⟨4, ![1, 1024, 1, 32]⟩
abbrev S1x16x1024x1024 : Shape := ⟨4, ![1, 16, 1024, 1024]⟩
abbrev S_ : Shape := ⟨0, ![]⟩
abbrev S1x16x1024 : Shape := ⟨3, ![1, 16, 1024]⟩
abbrev S1x16x1024x1 : Shape := ⟨4, ![1, 16, 1024, 1]⟩
abbrev S1x16x128x1024 : Shape := ⟨4, ![1, 16, 128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S2048x512, .f32⟩
  | .hbm, ⟨2, _⟩ => ⟨S512x2048, .f32⟩
  | .hbm, ⟨3, _⟩ => ⟨S512x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S1x1024x512, .f32⟩
  | .hbm, ⟨9, _⟩ => ⟨S1x1024x2048, .f32⟩
  | .hbm, ⟨10, _⟩ => ⟨S1x1024x16x128, .f32⟩
  | .hbm, ⟨11, _⟩ => ⟨S1x1024x2048, .f32⟩
  | .hbm, ⟨12, _⟩ => ⟨S1x1024x16x128, .f32⟩
  | .hbm, ⟨13, _⟩ => ⟨S1x1024x2048, .f32⟩
  | .hbm, ⟨14, _⟩ => ⟨S1x1024x16x128, .f32⟩
  | .hbm, ⟨15, _⟩ => ⟨S1x1024x512, .f32⟩
  | .hbm, ⟨16, _⟩ => ⟨S1x1024x16x32, .f32⟩
  | .hbm, ⟨17, _⟩ => ⟨S1x1024x32, .f32⟩
  | .hbm, ⟨18, _⟩ => ⟨S1x1024x1x32, .f32⟩
  | .hbm, ⟨19, _⟩ => ⟨S1x16x1024x1024, .f32⟩
  | .hbm, ⟨20, _⟩ => ⟨S1x1024x16x32, .f32⟩
  | .hbm, ⟨21, _⟩ => ⟨S1x16x1024x1024, .f32⟩
  | .hbm, ⟨22, _⟩ => ⟨S1x16x1024x1024, .f32⟩
  | .hbm, ⟨23, _⟩ => ⟨S_, .f32⟩
  | .hbm, ⟨24, _⟩ => ⟨S1x16x1024x1024, .f32⟩
  | .hbm, ⟨25, _⟩ => ⟨S1x16x1024x1024, .f32⟩
  | .hbm, ⟨26, _⟩ => ⟨S_, .f32⟩
  | .hbm, ⟨27, _⟩ => ⟨S1x16x1024, .f32⟩
  | .hbm, ⟨28, _⟩ => ⟨S1x16x1024x1, .f32⟩
  | .hbm, ⟨29, _⟩ => ⟨S1x16x1024x1024, .f32⟩
  | .hbm, ⟨30, _⟩ => ⟨S1x16x1024x1024, .f32⟩
  | .hbm, ⟨31, _⟩ => ⟨S1x16x1024x1024, .f32⟩
  | .hbm, ⟨32, _⟩ => ⟨S_, .f32⟩
  | .hbm, ⟨33, _⟩ => ⟨S1x16x1024, .f32⟩
  | .hbm, ⟨34, _⟩ => ⟨S1x16x1024x1, .f32⟩
  | .hbm, ⟨35, _⟩ => ⟨S1x16x1024x1024, .f32⟩
  | .hbm, ⟨36, _⟩ => ⟨S1x16x1024x1024, .f32⟩
  | .hbm, ⟨37, _⟩ => ⟨S1x16x128x1024, .f32⟩
  | .hbm, ⟨38, _⟩ => ⟨S1x1024x16x128, .f32⟩
  | .hbm, ⟨39, _⟩ => ⟨S1x1024x2048, .f32⟩
  | .hbm, ⟨40, _⟩ => ⟨S1x1024x2048, .f32⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Same.lean ====
/- # One program at two readings

The kernel as it is and the kernel printed for the reading over the extended reals are the same text, so what is proved of one for every
reading of the floats is proved of the other. -/
module

public import proofs.«01_k».proof.Proof.Gen.Kernel
public import proofs.«01_k».proof.Proof.Gen.KernelIdeal
public import Idealize.ShloMosaic.PureOps.BitExact

@[expose] public section
noncomputable section
namespace Cert.Same
open Idealize.ShloMosaic Idealize.SL.Sem

attribute [local instance] Cert.Kernel.Gen.facts Cert.KernelIdeal.Gen.facts
/-- Their calls are the same, -/
theorem main_same {F : FTy → Type} [FloatOps F] : (Cert.Kernel.main (F := F)) = (Cert.KernelIdeal.main (F := F)) := rfl
/-- their bodies are the same, -/
theorem body_same {F : FTy → Type} [FloatOps F] : (@Cert.Kernel.cc0_body F _ _) = (@Cert.KernelIdeal.cc0_body F _ _) := rfl
theorem defs₀_same {F : FTy → Type} [FloatOps F] : (Cert.Kernel.defs₀ (F := F)) = (Cert.KernelIdeal.defs₀ (F := F)) :=
  congrArg Defs.onTc (funext fun l => match l with
    | 0 => funext fun (t, s) => rfl
    | ⟨_ + 1, h⟩ => absurd h (Nat.not_lt.2 (Nat.le_add_left _ _)))
/-- their grids and windows are the same, -/
theorem pcfgs_same {F : FTy → Type} [FloatOps F] : (Cert.Kernel.pcfgs (F := F)) = (Cert.KernelIdeal.pcfgs (F := F)) := rfl
/-- and so are all their functions. -/
theorem defs_same {F : FTy → Type} [FloatOps F] : (Cert.Kernel.defs (F := F)) = (Cert.KernelIdeal.defs (F := F)) :=
  congrArg (Pipeline.defs Cert.KernelIdeal.pcfgs) defs₀_same
end Cert.Same
end
-- ==== Proof.KernelIdeal.Cells.lean ====
/-
# The cells of the exchange

The sixteen devices form a mesh `2 × 2 × 4`; the logical id is `4 * q + z`, where `q` names the quarter of the
heads a device works on and `z` its place on the ring of four that share the latent dimension. This module names
the neighbours of a device, every semaphore cell the kernel waits on, and the order of the waits (`lvl`).
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Mathlib.Tactic.DeriveFintype
public import Mathlib.Tactic.Ring

@[expose] public section

noncomputable section

namespace Cert.KernelIdealProof

open Cert.KernelIdeal Cert.KernelIdeal.Gen
open Idealize.ShloMosaic
open Idealize.ShloMosaic.TcCoe

/-! ## Neighbours -/

/-- The quarter of the heads device `c` works on. -/
def hq (c : Dev nD) : Fin 4 := ⟨c.val / 4, by have : c.val < 16 := c.isLt; omega⟩

/-- The device with head quarter `q` at the ring place of `c`. -/
def devOf (q : Fin 4) (c : Dev nD) : Dev nD := ⟨4 * q.val + c.val % 4, by have := q.isLt; show _ < 16; omega⟩

/-- The next device on the ring of `c`. -/
def right (c : Dev nD) : Dev nD := ⟨4 * (c.val / 4) + (c.val % 4 + 1) % 4, by have : c.val < 16 := c.isLt; show _ < 16; omega⟩

/-- The previous device on the ring of `c`. -/
def left (c : Dev nD) : Dev nD := ⟨4 * (c.val / 4) + (c.val % 4 + 3) % 4, by have : c.val < 16 := c.isLt; show _ < 16; omega⟩

/-- The head quarter `q xor r`. -/
def qx (q r : Fin 4) : Fin 4 := ⟨q.val ^^^ r.val, Nat.xor_lt_two_pow (n := 2) q.isLt r.isLt⟩

/-- The three devices that hold the other head quarters at the ring place of `c`. -/
def peer (i : Fin 3) (c : Dev nD) : Dev nD := devOf (qx (hq c) i.succ) c

theorem left_right (c : Dev nD) : left (right c) = c := by revert c; decide +kernel
theorem right_left (c : Dev nD) : right (left c) = c := by revert c; decide +kernel
theorem peer_peer (i : Fin 3) (c : Dev nD) : peer i (peer i c) = c := by revert i c; decide +kernel
theorem hq_peer (i : Fin 3) (c : Dev nD) : hq (peer i c) = qx (hq c) i.succ := by revert i c; decide +kernel
theorem devOf_peer (i : Fin 3) (c : Dev nD) (q : Fin 4) : devOf q (peer i c) = devOf q c := by revert i c q; decide +kernel
theorem devOf_hq (c : Dev nD) : devOf (hq c) c = c := by revert c; decide +kernel
theorem hq_devOf (q : Fin 4) (c : Dev nD) : hq (devOf q c) = q := by revert q c; decide +kernel
theorem hq_left (c : Dev nD) : hq (left c) = hq c := by revert c; decide +kernel

/-- The device whose latent block lies in slot `s` of the ring buffers of `c` after the exchange. -/
def slotDev (c : Dev nD) : Fin 4 → Dev nD
  | 0 => left c
  | 1 => left (left c)
  | 2 => left (left (left c))
  | 3 => c

/-- The slot a hop sends from. -/
def srcSlot : Fin 3 → Fin 4
  | 0 => 3
  | 1 => 0
  | 2 => 1

theorem slotDev_right (c : Dev nD) (h : Fin 3) : slotDev (right c) h.castSucc = slotDev c (srcSlot h) := by
  revert c h; decide +kernel

/-- A device of the ring, as a permutation. -/
def ringEquiv : Dev nD ≃ Dev nD := ⟨right, left, left_right, right_left⟩
def peerEquiv (i : Fin 3) : Dev nD ≃ Dev nD := ⟨peer i, peer i, peer_peer i, peer_peer i⟩

/-! ## The printed device words -/

theorem dev1_eq (c : Dev nD) : (⟨k0_dev1 c, k0_dev1_lt c⟩ : Dev nD) = left c := by revert c; decide +kernel
theorem dev2_eq (c : Dev nD) : (⟨k0_dev2 c, k0_dev2_lt c⟩ : Dev nD) = right c := by revert c; decide +kernel
theorem dev3_eq (c : Dev nD) : (⟨k0_dev3 c, k0_dev3_lt c⟩ : Dev nD) = right c := by revert c; decide +kernel
theorem dev4_eq (c : Dev nD) : (⟨k0_dev4 c, k0_dev4_lt c⟩ : Dev nD) = right c := by revert c; decide +kernel
theorem dev5_eq (c : Dev nD) : (⟨k0_dev5 c, k0_dev5_lt c⟩ : Dev nD) = right c := by revert c; decide +kernel
theorem dev6_eq (c : Dev nD) : (⟨k0_dev6 c, k0_dev6_lt c⟩ : Dev nD) = right c := by revert c; decide +kernel
theorem dev7_eq (c : Dev nD) : (⟨k0_dev7 c, k0_dev7_lt c⟩ : Dev nD) = right c := by revert c; decide +kernel
theorem dev8_eq (c : Dev nD) : (⟨k0_dev8 c, k0_dev8_lt c⟩ : Dev nD) = right c := by revert c; decide +kernel
theorem dev9_eq (c : Dev nD) : (⟨k0_dev9 c, k0_dev9_lt c⟩ : Dev nD) = right c := by revert c; decide +kernel
theorem dev10_eq (c : Dev nD) : (⟨k0_dev10 c, k0_dev10_lt c⟩ : Dev nD) = right c := by revert c; decide +kernel
theorem dev11_eq (c : Dev nD) : (⟨k0_dev11 c, k0_dev11_lt c⟩ : Dev nD) = right c := by revert c; decide +kernel
theorem dev12_eq (c : Dev nD) : (⟨k0_dev12 c, k0_dev12_lt c⟩ : Dev nD) = peer 0 c := by revert c; decide +kernel
theorem dev13_eq (c : Dev nD) : (⟨k0_dev13 c, k0_dev13_lt c⟩ : Dev nD) = peer 1 c := by revert c; decide +kernel
theorem dev14_eq (c : Dev nD) : (⟨k0_dev14 c, k0_dev14_lt c⟩ : Dev nD) = peer 2 c := by revert c; decide +kernel
theorem dev15_eq (c : Dev nD) : (⟨k0_dev15 c, k0_dev15_lt c⟩ : Dev nD) = peer 0 c := by revert c; decide +kernel
theorem dev16_eq (c : Dev nD) : (⟨k0_dev16 c, k0_dev16_lt c⟩ : Dev nD) = peer 1 c := by revert c; decide +kernel
theorem dev17_eq (c : Dev nD) : (⟨k0_dev17 c, k0_dev17_lt c⟩ : Dev nD) = peer 2 c := by revert c; decide +kernel
theorem dev18_eq (c : Dev nD) : (⟨k0_dev18 c, k0_dev18_lt c⟩ : Dev nD) = peer 0 c := by revert c; decide +kernel
theorem dev19_eq (c : Dev nD) : (⟨k0_dev19 c, k0_dev19_lt c⟩ : Dev nD) = peer 1 c := by revert c; decide +kernel
theorem dev20_eq (c : Dev nD) : (⟨k0_dev20 c, k0_dev20_lt c⟩ : Dev nD) = peer 2 c := by revert c; decide +kernel
theorem dev21_eq (c : Dev nD) : (⟨k0_dev21 c, k0_dev21_lt c⟩ : Dev nD) = peer 0 c := by revert c; decide +kernel
theorem dev22_eq (c : Dev nD) : (⟨k0_dev22 c, k0_dev22_lt c⟩ : Dev nD) = peer 1 c := by revert c; decide +kernel
theorem dev23_eq (c : Dev nD) : (⟨k0_dev23 c, k0_dev23_lt c⟩ : Dev nD) = peer 2 c := by revert c; decide +kernel
theorem dev24_eq (c : Dev nD) : (⟨k0_dev24 c, k0_dev24_lt c⟩ : Dev nD) = peer 0 c := by revert c; decide +kernel
theorem dev25_eq (c : Dev nD) : (⟨k0_dev25 c, k0_dev25_lt c⟩ : Dev nD) = peer 1 c := by revert c; decide +kernel
theorem dev26_eq (c : Dev nD) : (⟨k0_dev26 c, k0_dev26_lt c⟩ : Dev nD) = peer 2 c := by revert c; decide +kernel

/-! ## The printed offsets -/

theorem off1_eq (c : Dev nD) : k0_off1 c = ![0, 512 * (hq c).val] := by revert c; decide +kernel
theorem off2_eq (c : Dev nD) : k0_off2 c = ![512 * (qx (hq c) 0).val, 0] := by revert c; decide +kernel
theorem off3_eq (c : Dev nD) : k0_off3 c = ![(hq c).val, 0, 0] := by revert c; decide +kernel
theorem off4_eq (c : Dev nD) : k0_off4 c = ![(hq c).val, 0, 128] := by revert c; decide +kernel
theorem off5_eq (c : Dev nD) : k0_off5 c = ![(hq c).val, 0, 256] := by revert c; decide +kernel
theorem off6_eq (c : Dev nD) : k0_off6 c = ![(hq c).val, 0, 384] := by revert c; decide +kernel
theorem off7_eq1 (c : Dev nD) : k0_off7 c 1#32 = ![512 * (qx (hq c) 1).val, 0] := by revert c; decide +kernel
theorem off7_eq2 (c : Dev nD) : k0_off7 c 2#32 = ![512 * (qx (hq c) 2).val, 0] := by revert c; decide +kernel
theorem off7_eq3 (c : Dev nD) : k0_off7 c 3#32 = ![512 * (qx (hq c) 3).val, 0] := by revert c; decide +kernel
theorem off12_eq1 (c : Dev nD) : k0_off12 c 1#32 = ![(qx (hq c) 1).val, 0, 0] := by revert c; decide +kernel
theorem off12_eq2 (c : Dev nD) : k0_off12 c 2#32 = ![(qx (hq c) 2).val, 0, 0] := by revert c; decide +kernel
theorem off12_eq3 (c : Dev nD) : k0_off12 c 3#32 = ![(qx (hq c) 3).val, 0, 0] := by revert c; decide +kernel

/-! ## The cells -/

/-- The semaphore cells of one device that the protocol uses: the barrier of the ring (`bar`), the meeting of the
    head quarters (`xy`), the sends and arrivals of the ring hops, those of the exchange of head quarters, and the
    two local loads. -/
inductive Cel where
  | bar
  | xy
  | send (h t : Fin 3)
  | recv (h t : Fin 3)
  | wq
  | osend (i : Fin 3) (j : Fin 4)
  | orecv (i : Fin 3) (j : Fin 4)
  | wo (k : Fin 4)
  deriving DecidableEq, Fintype

/-- The semaphore of a cell. -/
def semOf : Cel → SemLoc sig
  | .bar => .reg ⟨1, by decide⟩
  | .xy => .reg ⟨0, by decide⟩
  | .send h t => .dma ⟨7 + (3 * h.val + t.val), by have := h.isLt; have := t.isLt; show _ < 54; omega⟩
  | .recv h t => .dma ⟨16 + (3 * h.val + t.val), by have := h.isLt; have := t.isLt; show _ < 54; omega⟩
  | .wq => .dma ⟨25, by decide⟩
  | .osend i j => .dma ⟨26 + (4 * i.val + j.val), by have := i.isLt; have := j.isLt; show _ < 54; omega⟩
  | .orecv i j => .dma ⟨38 + (4 * i.val + j.val), by have := i.isLt; have := j.isLt; show _ < 54; omega⟩
  | .wo k => .dma ⟨50 + k.val, by have := k.isLt; show _ < 54; omega⟩

theorem semOf_injective : Function.Injective semOf := by
  have : ∀ a b : Cel, semOf a = semOf b → a = b := by decide +kernel
  exact fun a b => this a b

/-- The cell of a semaphore, if it is one. -/
def celOf (s : SemLoc sig) : Option Cel :=
  open Classical in if h : ∃ k, semOf k = s then some h.choose else none

theorem celOf_semOf (k : Cel) : celOf (semOf k) = some k := by
  unfold celOf
  have h : ∃ k', semOf k' = semOf k := ⟨k, rfl⟩
  rw [dif_pos h]
  exact congrArg some (semOf_injective h.choose_spec)

theorem semOf_celOf {s : SemLoc sig} {k : Cel} (h : celOf s = some k) : semOf k = s := by
  unfold celOf at h
  split at h
  · rename_i h'; rw [← Option.some.inj h]; exact h'.choose_spec
  · cases h

/-- The cell of kind `k` on device `c`. -/
def cell (c : Dev nD) (k : Cel) : GSem nD τ sig := ((c : Thread nD τ), semOf k)

theorem cell_inj {c c' : Dev nD} {k k' : Cel} (h : cell c k = cell c' k') : c = c' ∧ k = k' :=
  ⟨Fin.ext (congrArg (fun g : GSem nD τ sig => g.1.1.val) h), semOf_injective (congrArg (fun g : GSem nD τ sig => g.2) h)⟩

/-- How many duties raise a cell. -/
def nDuty : Cel → Nat
  | .bar => 2
  | .xy => 3
  | _ => 1

/-- The duties of a cell. -/
def dutiesOf (k : Cel) : Finset (Fin 3) := Finset.univ.filter fun d => d.val < nDuty k

/-- What a landing of each kind counts: a latent slot, a slot of either up-projection, the query weights, a block of
    outputs, and a block of the output weights. -/
def cntC : Nat := (cc0_scratch0 : Ref sig .tc).dmaCredit S1024x128 .bf16
def cntU : Nat := (cc0_scratch1 : Ref sig .tc).dmaCredit S128x512 .bf16
def cntV : Nat := (cc0_scratch2 : Ref sig .tc).dmaCredit S128x512 .bf16
def cntQ : Nat := (cc0_scratch3 : Ref sig .tc).dmaCredit S2048x512 .f32
def cntO : Nat := (cc0_scratch11 : Ref sig .tc).dmaCredit S1024x128 .bf16
def cntW : Nat := (cc0_scratch12 : Ref sig .tc).dmaCredit S512x2048 .f32

theorem cntC_eq : cntC = (cc0_scratch0 : Ref sig .tc).dmaCredit S1024x128 .bf16 := by delta cntC; exact Eq.refl _
theorem cntU_eq : cntU = (cc0_scratch1 : Ref sig .tc).dmaCredit S128x512 .bf16 := by delta cntU; exact Eq.refl _
theorem cntV_eq : cntV = (cc0_scratch2 : Ref sig .tc).dmaCredit S128x512 .bf16 := by delta cntV; exact Eq.refl _
theorem cntQ_eq : cntQ = (cc0_scratch3 : Ref sig .tc).dmaCredit S2048x512 .f32 := by delta cntQ; exact Eq.refl _
theorem cntO_eq : cntO = (cc0_scratch11 : Ref sig .tc).dmaCredit S1024x128 .bf16 := by delta cntO; exact Eq.refl _
theorem cntW_eq : cntW = (cc0_scratch12 : Ref sig .tc).dmaCredit S512x2048 .f32 := by delta cntW; exact Eq.refl _

/-- The amount a duty adds. -/
def amt : Cel → Nat
  | .bar => 1
  | .xy => 1
  | .send _ 0 => cntC
  | .send _ 1 => cntU
  | .send _ 2 => cntV
  | .recv _ 0 => cntC
  | .recv _ 1 => cntU
  | .recv _ 2 => cntV
  | .wq => cntQ
  | .osend _ _ => cntO
  | .orecv _ _ => cntO
  | .wo _ => cntW

theorem osend_credit : (cc0_scratch11 : Ref sig .tc).dmaCredit S1024x128 .bf16 = (cc0_scratch10 : Ref sig .tc).dmaCredit S1024x128 .bf16 := by
  decide +kernel

theorem amt_pos (k : Cel) : 0 < amt k := by
  revert k; decide +kernel

attribute [irreducible] cntC cntU cntV cntQ cntO cntW

/-- What a wait on the cell takes. -/
def need (k : Cel) : Nat := nDuty k * amt k

/-- The order of the waits: a device waits on a cell only while everything it still owes lies higher. -/
def lvl : Cel → Nat
  | .bar => 1
  | .recv h _ => 2 + h.val
  | .xy => 5
  | .orecv _ _ => 6
  | _ => 0

/-- Everything device `c` raises on the cells of others, in the order of its program. -/
def debts (c : Dev nD) : List (Dev nD × Cel) :=
  [(left c, .bar), (right c, .bar),
   (right c, .recv 0 0), (right c, .recv 0 1), (right c, .recv 0 2),
   (right c, .recv 1 0), (right c, .recv 1 1), (right c, .recv 1 2),
   (right c, .recv 2 0), (right c, .recv 2 1), (right c, .recv 2 2),
   (peer 0 c, .xy), (peer 1 c, .xy), (peer 2 c, .xy),
   (peer 0 c, .orecv 0 0), (peer 1 c, .orecv 1 0), (peer 2 c, .orecv 2 0),
   (peer 0 c, .orecv 0 1), (peer 1 c, .orecv 1 1), (peer 2 c, .orecv 2 1),
   (peer 0 c, .orecv 0 2), (peer 1 c, .orecv 1 2), (peer 2 c, .orecv 2 2),
   (peer 0 c, .orecv 0 3), (peer 1 c, .orecv 1 3), (peer 2 c, .orecv 2 3)]

/-- A list of debts as a tally. -/
def owed : List (Dev nD × Cel) → CellTallies nD τ sig Unit
  | [] => 0
  | x :: l => owed l + tallyAt (cell x.1 x.2) () (amt x.2)

def L (g : GSem nD τ sig) : Finset Unit := if g.1.2 = .tc then {()} else ∅

/-- The level of a semaphore cell. -/
def lv (g : GSem nD τ sig) (_ : Unit) : ℕ := match celOf g.2 with
  | some k => lvl k
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Cel) (u : Unit) : lv (cell c k) u = lvl k := by
  unfold lv cell; simp only [celOf_semOf]

theorem owed_apply (l : List (Dev nD × Cel)) (g : GSem nD τ sig) :
    owed l g () = (l.map fun x => if g = cell x.1 x.2 then amt x.2 else 0).sum := by
  induction l with
  | nil => rfl
  | cons x l ih =>
    unfold owed
    rw [Pi.add_apply, Finsupp.add_apply, ih, tallyAt_apply, List.map_cons, List.sum_cons, Nat.add_comm]
    congr 1
    by_cases h : g = cell x.1 x.2
    · rw [if_pos ⟨h, rfl⟩, if_pos h]
    · rw [if_neg (fun h' => h h'.1), if_neg h]

theorem owed_pos {l : List (Dev nD × Cel)} {g : GSem nD τ sig} {u : Unit} (h : 0 < owed l g u) :
    ∃ x ∈ l, g = cell x.1 x.2 := by
  induction l with
  | nil => exact absurd h (Nat.lt_irrefl 0)
  | cons x l ih =>
    unfold owed at h
    rw [Pi.add_apply, Finsupp.add_apply, tallyAt_apply] at h
    by_cases hg : g = cell x.1 x.2
    · exact ⟨x, List.mem_cons_self, hg⟩
    · rw [if_neg (fun h' => hg h'.1), Nat.add_zero] at h
      obtain ⟨y, hy, e⟩ := ih h
      exact ⟨y, List.mem_cons_of_mem _ hy, e⟩

/-- All that is owed to a cell, over the devices, is what a wait on it takes — or nothing, on the cells a device
    raises itself. -/
def launched : Cel → Bool
  | .bar => true
  | .xy => true
  | .recv _ _ => true
  | .orecv _ _ => true
  | _ => false

theorem owed_total (c : Dev nD) (k : Cel) (hk : launched k = true) :
    (∑ d : Dev nD, owed (debts d) (cell c k) ()) = need k := by
  have hcount : ∀ (c : Dev nD) (k : Cel), launched k = true → (∑ d : Dev nD, ((debts d).count (c, k))) = nDuty k := by decide +kernel
  have hone : ∀ l : List (Dev nD × Cel), owed l (cell c k) () = l.count (c, k) * amt k := by
    intro l
    rw [owed_apply]
    induction l with
    | nil => simp
    | cons x l ih =>
      rw [List.map_cons, List.sum_cons, ih, List.count_cons]
      by_cases h : x = (c, k)
      · subst h; simp; ring
      · have h1 : ¬ cell c k = cell x.1 x.2 := fun e => h (Prod.ext (cell_inj e).1.symm (cell_inj e).2.symm)
        have h2 : ¬ (x == (c, k)) = true := by simpa using h
        rw [if_neg h1, if_neg h2]; simp
  rw [Finset.sum_congr rfl fun d _ => hone (debts d), ← Finset.sum_mul, hcount c k hk]
  rfl

end Cert.KernelIdealProof

end
-- ==== Proof.KernelIdeal.Contents.lean ====
/-
# What every buffer holds

Each buffer of a device is described by a function on all its indices. A part of the buffer holds the values of the
function there once the kernel has filled it; before, nothing is claimed of it. The functions are written in the
payloads of the kernel, from the arrays the devices start with.
-/
module

public import proofs.«01_k».proof.Proof.KernelIdeal.Cells
public import Idealize.ShloMosaic.Lib.Pointwise.Index

@[expose] public section

noncomputable section

namespace Cert.KernelIdealProof

open Cert.KernelIdeal Cert.KernelIdeal.Gen
open Idealize.ShloMosaic
open Idealize.ShloMosaic.TcCoe

variable {F : FTy → Type} [FloatOps F]

/-! ## Parts of the buffers -/

theorem slotC_inb (s : Fin 4) : ∀ a, (![s.val, 0, 0] : Fin 3 → Nat) a + S1x1024x128.size a ≤ S4x1024x128.size a := by
  revert s; decide +kernel
theorem slotW_inb (s : Fin 4) : ∀ a, (![s.val, 0, 0] : Fin 3 → Nat) a + S1x128x512.size a ≤ S4x128x512.size a := by
  revert s; decide +kernel
theorem colq_inb (j : Fin 4) : ∀ a, (![0, 128 * j.val] : Fin 2 → Nat) a + S1024x128.size a ≤ S1024x512.size a := by
  revert j; decide +kernel
theorem oslab_inb (p j : Fin 4) : ∀ a, (![p.val, 0, 128 * j.val] : Fin 3 → Nat) a + S1x1024x128.size a ≤ S4x1024x512.size a := by
  revert p j; decide +kernel
theorem oslabW_inb (p : Fin 4) : ∀ a, (![p.val, 0, 0] : Fin 3 → Nat) a + S1x1024x512.size a ≤ S4x1024x512.size a := by
  revert p; decide +kernel
theorem wslot_inb (s : Fin 2) : ∀ a, (![s.val, 0, 0] : Fin 3 → Nat) a + S1x512x2048.size a ≤ S2x512x2048.size a := by
  revert s; decide +kernel
theorem rowo_inb (q : Fin 4) : ∀ a, (![512 * q.val, 0] : Fin 2 → Nat) a + S512x2048.size a ≤ S2048x2048.size a := by
  revert q; decide +kernel
theorem colwq_inb (q : Fin 4) : ∀ a, (![0, 512 * q.val] : Fin 2 → Nat) a + S2048x512.size a ≤ S2048x2048.size a := by
  revert q; decide +kernel
theorem colu_inb (q : Fin 4) : ∀ a, (![0, 512 * q.val] : Fin 2 → Nat) a + S128x512.size a ≤ S128x2048.size a := by
  revert q; decide +kernel
theorem colr_inb (q : Fin 4) : ∀ a, (![0, 128 * q.val] : Fin 2 → Nat) a + S2048x128.size a ≤ S2048x512.size a := by
  revert q; decide +kernel
theorem colh_inb (q : Fin 4) : ∀ a, (![0, 32 * q.val] : Fin 2 → Nat) a + S1024x32.size a ≤ S1024x128.size a := by
  revert q; decide +kernel

/-- Slot `s` of the latent ring buffer, -/
abbrev slotC (s : Fin 4) : Rect S4x1024x128 := Rect.unit (s := S4x1024x128) ![s.val, 0, 0] S1x1024x128.size (slotC_inb s)
/-- of the ring buffers of the two up-projections. -/
abbrev slotW (s : Fin 4) : Rect S4x128x512 := Rect.unit (s := S4x128x512) ![s.val, 0, 0] S1x128x512.size (slotW_inb s)
/-- The columns of head `j` of the four heads of a device. -/
abbrev colq (j : Fin 4) : Rect S1024x512 := Rect.unit (s := S1024x512) ![0, 128 * j.val] S1024x128.size (colq_inb j)
/-- The columns of head `j` in slab `p` of the gathered outputs, -/
abbrev oslab (p j : Fin 4) : Rect S4x1024x512 := Rect.unit (s := S4x1024x512) ![p.val, 0, 128 * j.val] S1x1024x128.size (oslab_inb p j)
/-- the whole slab. -/
abbrev oslabW (p : Fin 4) : Rect S4x1024x512 := Rect.unit (s := S4x1024x512) ![p.val, 0, 0] S1x1024x512.size (oslabW_inb p)
/-- One of the two buffers of the output weights. -/
abbrev wslot (s : Fin 2) : Rect S2x512x2048 := Rect.unit (s := S2x512x2048) ![s.val, 0, 0] S1x512x2048.size (wslot_inb s)
/-- The rows of the output weights for head quarter `q`. -/
abbrev rowo (q : Fin 4) : Rect S2048x2048 := Rect.unit (s := S2048x2048) ![512 * q.val, 0] S512x2048.size (rowo_inb q)
/-- The columns of the query weights for head quarter `q`. -/
abbrev colwq (q : Fin 4) : Rect S2048x2048 := Rect.unit (s := S2048x2048) ![0, 512 * q.val] S2048x512.size (colwq_inb q)
/-- The columns of an up-projection for head quarter `q`. -/
abbrev colu (q : Fin 4) : Rect S128x2048 := Rect.unit (s := S128x2048) ![0, 512 * q.val] S128x512.size (colu_inb q)
/-- The columns of the rotary query weights for head quarter `q`. -/
abbrev colr (q : Fin 4) : Rect S2048x512 := Rect.unit (s := S2048x512) ![0, 128 * q.val] S2048x128.size (colr_inb q)
/-- The columns of one head in the rotary queries. -/
abbrev colh (j : Fin 4) : Rect S1024x128 := Rect.unit (s := S1024x128) ![0, 32 * j.val] S1024x32.size (colh_inb j)
/-- The columns of head `j` in the query weights of a device. -/
theorem colw_inb (j : Fin 4) : ∀ a, (![0, 128 * j.val] : Fin 2 → Nat) a + S2048x128.size a ≤ S2048x512.size a := colr_inb j

/-- The values of a function on a part. -/
abbrev ld {s : Shape} {e : EltTy} (r : Rect s) (Y : s.Idx → Elt F e) : r.shape.Idx → Elt F e := fun x => Y (r.emb x)

/-! ## Contents -/

variable (m : (ℓ : Loc nD τ sig) → Buf (Elt F) ℓ)

/-- The staged inputs of a device. -/
def xX (c : Dev nD) : Vec F S1x1024x2048 .f32 := (win0_0.blk (0 : Fin 1)).view.read (Elt F) (m ((c : Thread nD τ).loc main_arg0))
def xWd (c : Dev nD) : Vec F S2048x128 .f32 := (win0_1.blk (0 : Fin 1)).view.read (Elt F) (m ((c : Thread nD τ).loc main_arg1))
def xWu (c : Dev nD) : Vec F S128x2048 .f32 := (win0_2.blk (0 : Fin 1)).view.read (Elt F) (m ((c : Thread nD τ).loc main_arg2))
def xWv (c : Dev nD) : Vec F S128x2048 .f32 := (win0_3.blk (0 : Fin 1)).view.read (Elt F) (m ((c : Thread nD τ).loc main_arg3))
def xWqr (c : Dev nD) : Vec F S2048x512 .f32 := (win0_4.blk (0 : Fin 1)).view.read (Elt F) (m ((c : Thread nD τ).loc main_arg5))
def xWkr (c : Dev nD) : Vec F S2048x32 .f32 := (win0_5.blk (0 : Fin 1)).view.read (Elt F) (m ((c : Thread nD τ).loc main_arg6))
/-- The two weights that stay in the large memory. -/
def xWq (c : Dev nD) : Vec F S2048x2048 .f32 := m ((c : Thread nD τ).loc main_arg4)
def xWo (c : Dev nD) : Vec F S2048x2048 .f32 := m ((c : Thread nD τ).loc main_arg7)

/-- The latent block device `c` computes, -/
def cOwn (c : Dev nD) : Vec F S1x1024x128 .bf16 := k0_pay14 (xX m c) (xWd m c)
/-- its blocks of the up-projections for its head quarter, -/
def uOwn (c : Dev nD) : Vec F S1x128x512 .bf16 := k0_pay1 (ld (colu (hq c)) (xWu m c))
def vOwn (c : Dev nD) : Vec F S1x128x512 .bf16 := k0_pay2 (ld (colu (hq c)) (xWv m c))
/-- and its rotary query weights. -/
def wqrC (c : Dev nD) : Vec F S2048x128 .f32 := k0_pay3 (ld (colr (hq c)) (xWqr m c))

/-- The three ring buffers after the exchange: slot `s` holds the block of device `slotDev c s`. -/
def cbC (c : Dev nD) : Vec F S4x1024x128 .bf16 := fun x =>
  cOwn m (slotDev c (x 0)) (ix3 (n0 := 1) (n1 := 1024) (n2 := 128) 0 (x 1) (x 2))
def ukC (c : Dev nD) : Vec F S4x128x512 .bf16 := fun x =>
  uOwn m (slotDev c (x 0)) (ix3 (n0 := 1) (n1 := 128) (n2 := 512) 0 (x 1) (x 2))
def uvC (c : Dev nD) : Vec F S4x128x512 .bf16 := fun x =>
  vOwn m (slotDev c (x 0)) (ix3 (n0 := 1) (n1 := 128) (n2 := 512) 0 (x 1) (x 2))

/-- The query weights of the head quarter of `c`, brought by the first local transfer. -/
def wqC (c : Dev nD) : Vec F S2048x512 .f32 := ld (colwq (hq c)) (xWq m c)

/-- The rows of the output weights that transfer `k` brings. -/
def woC (c : Dev nD) (k : Fin 4) : Vec F S2x512x2048 .f32 := fun x =>
  xWo m c ((rowo (qx (hq c) k)).emb (ix2 (n0 := 512) (n1 := 2048) (x 1) (x 2)))

/-- The input as a matrix. -/
abbrev xv (c : Dev nD) : FVec F S1024x2048 .f32 := k0_pay13 (xX m c)

abbrev cS (c : Dev nD) (s : Fin 4) : Vec F S1x1024x128 .bf16 := ld (slotC s) (cbC m c)
abbrev uS (c : Dev nD) (s : Fin 4) : Vec F S1x128x512 .bf16 := ld (slotW s) (ukC m c)
abbrev vS (c : Dev nD) (s : Fin 4) : Vec F S1x128x512 .bf16 := ld (slotW s) (uvC m c)

/-- The keys, as the sum over the ring grows. -/
def kA0 (c : Dev nD) : Vec F S1024x512 .f32 := k0_pay16 (k0_pay15 (cS m c 3)) (uS m c 3)
def kA1 (c : Dev nD) : Vec F S1024x512 .f32 := k0_pay24 (k0_pay22 (cS m c 0)) (k0_pay23 (uS m c 0)) (kA0 m c)
def kA2 (c : Dev nD) : Vec F S1024x512 .f32 := k0_pay28 (cS m c 1) (uS m c 1) (kA1 m c)
def kA3 (c : Dev nD) : Vec F S1024x512 .f32 := k0_pay35 (k0_pay34 (cS m c 2) (uS m c 2) (kA2 m c))
/-- The values, likewise. -/
def vA0 (c : Dev nD) : Vec F S1024x512 .f32 := k0_pay17 (k0_pay15 (cS m c 3)) (vS m c 3)
def vA1 (c : Dev nD) : Vec F S1024x512 .f32 := k0_pay25 (k0_pay22 (cS m c 0)) (vS m c 0) (vA0 m c)
def vA2 (c : Dev nD) : Vec F S1024x512 .f32 := k0_pay30 (k0_pay29 (cS m c 1) (vS m c 1) (vA1 m c))
def vA3 (c : Dev nD) : Vec F S1024x512 .f32 := k0_pay36 (k0_pay33 (cS m c 2) (vS m c 2)) (vA2 m c)

/-- The rotary queries and keys. -/
def qrC (c : Dev nD) : Vec F S1024x128 .f32 := k0_pay18 (xv m c) (wqrC m c)
def krC (c : Dev nD) : Vec F S1024x32 .f32 := k0_pay19 (xv m c) (xWkr m c)

/-- The queries of head `j`. -/
def qH (c : Dev nD) : Fin 4 → Vec F S1024x128 .f32
  | 0 => k0_pay21 (k0_pay20 (xv m c) (ld (colr 0) (wqC m c))) (Scalar.ofBits .f32 0x3DA1E89B#32)
  | 1 => k0_pay26 (xv m c) (ld (colr 1) (wqC m c))
  | 2 => k0_pay31 (xv m c) (ld (colr 2) (wqC m c))
  | 3 => k0_pay37 (xv m c) (ld (colr 3) (wqC m c))

/-- Four blocks of columns side by side. -/
def cols4 {e : EltTy} (f : Fin 4 → Vec F S1024x128 e) : Vec F S1024x512 e := fun x =>
  f ⟨(x 1).val / 128, by have : (x 1).val < 512 := (x 1).isLt; omega⟩
    (ix2 (n0 := 1024) (n1 := 128) (x 0) ⟨(x 1).val % 128, Nat.mod_lt _ (by decide)⟩)

theorem cols4_emb {e : EltTy} (f : Fin 4 → Vec F S1024x128 e) (j : Fin 4) (x : S1024x128.Idx) :
    cols4 f ((colq j).emb x) = f j x := by
  have hx : (x 1).val < 128 := (x 1).isLt
  have h1 : (((colq j).emb x) 1).val = 128 * j.val + (x 1).val := by
    show 128 * j.val + 1 * (x 1).val = _; omega
  have h0 : ((colq j).emb x) 0 = x 0 := Fin.ext (by show 0 + 1 * (x 0).val = _; omega)
  unfold cols4
  have ha : (⟨(((colq j).emb x) 1).val / 128, by have : (((colq j).emb x) 1).val < 512 := (((colq j).emb x) 1).isLt; omega⟩ : Fin 4) = j :=
    Fin.ext (by show _ / 128 = _; rw [h1]; omega)
  rw [ha, h0]
  congr 1
  refine Eq.trans ?_ (eq_ix2 (n0 := 1024) (n1 := 128) x).symm
  congr 1
  exact Fin.ext (by show _ % 128 = _; rw [h1]; omega)

def qsC (c : Dev nD) : Vec F S1024x512 .f32 := cols4 (qH m c)

/-- What head `j` of device `c` computes. -/
def oH (c : Dev nD) : Fin 4 → Vec F S1024x128 .bf16
  | 0 => k0_pay38 (krC m c) (ld (colq 0) (qsC m c)) (ld (colq 0) (kA3 m c)) (ld (colh 0) (qrC m c)) (ld (colq 0) (vA3 m c))
  | 1 => k0_pay39 (krC m c) (ld (colq 1) (qsC m c)) (ld (colq 1) (kA3 m c)) (ld (colh 1) (qrC m c)) (ld (colq 1) (vA3 m c))
  | 2 => k0_pay40 (krC m c) (ld (colq 2) (qsC m c)) (ld (colq 2) (kA3 m c)) (ld (colh 2) (qrC m c)) (ld (colq 2) (vA3 m c))
  | 3 => k0_pay42 (k0_pay41 (krC m c) (ld (colq 3) (qsC m c)) (ld (colq 3) (kA3 m c)) (ld (colh 3) (qrC m c))) (ld (colq 3) (vA3 m c))

def oqC (c : Dev nD) : Vec F S1024x512 .bf16 := cols4 (oH m c)

/-- The outputs of the head quarters, gathered: slab `p` is that of the device with quarter `p`. -/
def oaC (c : Dev nD) : Vec F S4x1024x512 .bf16 := fun x =>
  oqC m (devOf (x 0) c) (ix2 (n0 := 1024) (n1 := 512) (x 1) (x 2))

/-- The result, as the sum over the head quarters grows. -/
def out0 (c : Dev nD) : Vec F S1x1024x2048 .f32 := k0_pay43 (oqC m c) (ld (wslot 0) (woC m c 0))
def out1 (c : Dev nD) : Vec F S1x1024x2048 .f32 := k0_pay44 (out0 m c) (ld (oslabW (qx (hq c) 1)) (oaC m c)) (ld (wslot 1) (woC m c 1))
def out2 (c : Dev nD) : Vec F S1x1024x2048 .f32 := k0_pay46 (k0_pay45 (out1 m c) (ld (oslabW (qx (hq c) 2)) (oaC m c)) (ld (wslot 0) (woC m c 2)))
def out3 (c : Dev nD) : Vec F S1x1024x2048 .f32 := k0_pay48 (k0_pay47 (out2 m c)) (ld (oslabW (qx (hq c) 3)) (oaC m c)) (ld (wslot 1) (woC m c 3))

/-! ## A part of one buffer against a part of another -/

theorem slotC_0 (s : Fin 4) (x : S1x1024x128.Idx) : ((slotC s).emb x) 0 = s :=
  Fin.ext (by have : (x 0).val < 1 := (x 0).isLt; show s.val + 1 * (x 0).val = _; omega)
theorem slotC_ix (s : Fin 4) (x : S1x1024x128.Idx) :
    ix3 (n0 := 1) (n1 := 1024) (n2 := 128) 0 (((slotC s).emb x) 1) (((slotC s).emb x) 2) = x := by
  refine Eq.trans ?_ (eq_ix3 (n0 := 1) (n1 := 1024) (n2 := 128) x).symm
  have h0 : x 0 = (0 : Fin 1) := Fin.ext (by have : (x 0).val < 1 := (x 0).isLt; show _ = 0; omega)
  have h1 : ((slotC s).emb x) 1 = x 1 := Fin.ext (by show 0 + 1 * (x 1).val = _; omega)
  have h2 : ((slotC s).emb x) 2 = x 2 := Fin.ext (by show 0 + 1 * (x 2).val = _; omega)
  rw [h0, h1, h2]
theorem slotW_0 (s : Fin 4) (x : S1x128x512.Idx) : ((slotW s).emb x) 0 = s :=
  Fin.ext (by have : (x 0).val < 1 := (x 0).isLt; show s.val + 1 * (x 0).val = _; omega)
theorem slotW_ix (s : Fin 4) (x : S1x128x512.Idx) :
    ix3 (n0 := 1) (n1 := 128) (n2 := 512) 0 (((slotW s).emb x) 1) (((slotW s).emb x) 2) = x := by
  refine Eq.trans ?_ (eq_ix3 (n0 := 1) (n1 := 128) (n2 := 512) x).symm
  have h0 : x 0 = (0 : Fin 1) := Fin.ext (by have : (x 0).val < 1 := (x 0).isLt; show _ = 0; omega)
  have h1 : ((slotW s).emb x) 1 = x 1 := Fin.ext (by show 0 + 1 * (x 1).val = _; omega)
  have h2 : ((slotW s).emb x) 2 = x 2 := Fin.ext (by show 0 + 1 * (x 2).val = _; omega)
  rw [h0, h1, h2]

/-- Slot `s` of a ring buffer is the block of its device. -/
theorem cbC_emb (c : Dev nD) (s : Fin 4) (x : S1x1024x128.Idx) : cbC m c ((slotC s).emb x) = cOwn m (slotDev c s) x := by
  unfold cbC; rw [slotC_0, slotC_ix]
theorem ukC_emb (c : Dev nD) (s : Fin 4) (x : S1x128x512.Idx) : ukC m c ((slotW s).emb x) = uOwn m (slotDev c s) x := by
  unfold ukC; rw [slotW_0, slotW_ix]
theorem uvC_emb (c : Dev nD) (s : Fin 4) (x : S1x128x512.Idx) : uvC m c ((slotW s).emb x) = vOwn m (slotDev c s) x := by
  unfold uvC; rw [slotW_0, slotW_ix]

/-- A hop carries the source slot into the same slot's place on the right neighbour. -/
theorem cbC_hop (c : Dev nD) (h : Fin 3) (x : S1x1024x128.Idx) :
    cbC m (right c) ((slotC h.castSucc).emb x) = cbC m c ((slotC (srcSlot h)).emb x) := by
  rw [cbC_emb, cbC_emb, slotDev_right]
theorem ukC_hop (c : Dev nD) (h : Fin 3) (x : S1x128x512.Idx) :
    ukC m (right c) ((slotW h.castSucc).emb x) = ukC m c ((slotW (srcSlot h)).emb x) := by
  rw [ukC_emb, ukC_emb, slotDev_right]
theorem uvC_hop (c : Dev nD) (h : Fin 3) (x : S1x128x512.Idx) :
    uvC m (right c) ((slotW h.castSucc).emb x) = uvC m c ((slotW (srcSlot h)).emb x) := by
  rw [uvC_emb, uvC_emb, slotDev_right]

/-- A device's outputs land in the slab of its head quarter. -/
theorem oaC_emb (c : Dev nD) (i : Fin 3) (j : Fin 4) (x : S1024x128.Idx) :
    oaC m (peer i c) ((oslab (hq c) j).emb (Fin.cons ⟨0, Nat.one_pos⟩ x)) = oqC m c ((colq j).emb x) := by
  unfold oaC
  have h0 : ((oslab (hq c) j).emb (Fin.cons ⟨0, Nat.one_pos⟩ x)) 0 = hq c := Fin.ext (by show (hq c).val + 1 * 0 = _; omega)
  rw [h0, devOf_peer, devOf_hq]
  refine congrArg _ (Eq.trans ?_ (eq_ix2 (n0 := 1024) (n1 := 512) ((colq j).emb x)).symm)
  have h1 : ((oslab (hq c) j).emb (Fin.cons ⟨0, Nat.one_pos⟩ x)) 1 = ((colq j).emb x) 0 := Fin.ext rfl
  have h2 : ((oslab (hq c) j).emb (Fin.cons ⟨0, Nat.one_pos⟩ x)) 2 = ((colq j).emb x) 1 := Fin.ext rfl
  rw [h1, h2]

/-- A transfer of output weights lands in its buffer. -/
theorem woC_emb (c : Dev nD) (k : Fin 4) (s : Fin 2) (x : S512x2048.Idx) :
    woC m c k ((wslot s).emb (Fin.cons ⟨0, Nat.one_pos⟩ x)) = xWo m c ((rowo (qx (hq c) k)).emb x) := by
  unfold woC
  refine congrArg (fun y => xWo m c ((rowo (qx (hq c) k)).emb y)) (Eq.trans ?_ (eq_ix2 (n0 := 512) (n1 := 2048) x).symm)
  have h1 : ((wslot s).emb (Fin.cons ⟨0, Nat.one_pos⟩ x)) 1 = x 0 := Fin.ext (by show 0 + 1 * (x 0).val = _; omega)
  have h2 : ((wslot s).emb (Fin.cons ⟨0, Nat.one_pos⟩ x)) 2 = x 1 := Fin.ext (by show 0 + 1 * (x 1).val = _; omega)
  rw [h1, h2]

end Cert.KernelIdealProof

end
-- ==== Proof.KernelIdeal.Sched.lean ====
/-
# The protocol

What each raise of a cell hands to the device that waits on it, as one round of the rounds library on every cell, and
the order of the waits.

A device's neighbours first say on the barrier cell that they run; the right neighbour hands over the slots that the
device's hops will fill. A hop lends half of its source slot until the send cell is waited for, and lands the block in
the neighbour's slot. On the exchange cell the three devices of the other head quarters hand over the slab that this
device's outputs go to. A transfer of outputs lends a part of the share of its columns.
-/
module

public import proofs.«01_k».proof.Proof.KernelIdeal.Contents
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds of the cells of this kernel. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-- A part of a buffer of a device with what it holds. -/
abbrev pts (c : Dev nD) (b : Ref sig .tc) (I : Finset b.ty.shape.Idx) (q : PosShare TreeShare) (f : b.ty.Contents (Elt F)) : sProp 𝕄 :=
  ((c : Thread nD τ).loc b ↦[I]{q} f)

/-- A part of a buffer with something. -/
def some' (c : Dev nD) (b : Ref sig .tc) (I : Finset b.ty.shape.Idx) : sProp 𝕄 := iprop(∃ f, pts (F := F) c b I fullShare f)

/-- The share a transfer of outputs to peer `i` borrows. -/
def oshare : Fin 3 → PosShare TreeShare
  | 0 => fullShare.left.left
  | 1 => fullShare.left.right
  | 2 => fullShare.right.left

/-- What duty `d` of cell `k` of device `c` hands over. -/
def payl (c : Dev nD) : Cel → Fin 3 → sProp 𝕄
  | .bar, 0 => iprop((some' (right c) cc0_scratch0 (slotC 0).set ∗ some' (right c) cc0_scratch1 (slotW 0).set ∗ some' (right c) cc0_scratch2 (slotW 0).set)
      ∗ (some' (right c) cc0_scratch0 (slotC 1).set ∗ some' (right c) cc0_scratch1 (slotW 1).set ∗ some' (right c) cc0_scratch2 (slotW 1).set)
      ∗ (some' (right c) cc0_scratch0 (slotC 2).set ∗ some' (right c) cc0_scratch1 (slotW 2).set ∗ some' (right c) cc0_scratch2 (slotW 2).set))
  | .bar, _ => iprop(emp)
  | .xy, d => iprop(some' (peer d c) cc0_scratch11 (oslab (hq c) 0).set ∗ some' (peer d c) cc0_scratch11 (oslab (hq c) 1).set
      ∗ some' (peer d c) cc0_scratch11 (oslab (hq c) 2).set ∗ some' (peer d c) cc0_scratch11 (oslab (hq c) 3).set)
  | .send h 0, _ => pts c cc0_scratch0 (slotC (srcSlot h)).set fullShare.left (cbC m c)
  | .send h 1, _ => pts c cc0_scratch1 (slotW (srcSlot h)).set fullShare.left (ukC m c)
  | .send h 2, _ => pts c cc0_scratch2 (slotW (srcSlot h)).set fullShare.left (uvC m c)
  | .recv h 0, _ => pts c cc0_scratch0 (slotC h.castSucc).set fullShare (cbC m c)
  | .recv h 1, _ => pts c cc0_scratch1 (slotW h.castSucc).set fullShare (ukC m c)
  | .recv h 2, _ => pts c cc0_scratch2 (slotW h.castSucc).set fullShare (uvC m c)
  | .wq, _ => iprop(pts c cc0_scratch3 Finset.univ fullShare (wqC m c) ∗ pts c main_arg4 (colwq (hq c)).set fullShare (xWq m c))
  | .osend i j, _ => pts c cc0_scratch10 (colq j).set (oshare i) (oqC m c)
  | .orecv i j, _ => pts c cc0_scratch11 (oslab (qx (hq c) i.succ) j).set fullShare (oaC m c)
  | .wo k, _ => iprop(pts c cc0_scratch12 (wslot ⟨k.val % 2, Nat.mod_lt _ (by decide)⟩).set fullShare (woC m c k)
      ∗ pts c main_arg7 (rowo (qx (hq c) k)).set fullShare (xWo m c))

instance payl_storable (c : Dev nD) (k : Cel) (d : Fin 3) : BI.Storable (upEmb : UEmb _ 𝕄) (payl m c k d) := by
  unfold payl some'
  split <;> infer_instance

/-- Round zero of every cell; there is no other. -/
def Rd : Rounds.Schedule (GSem nD τ sig) (Fin 3) 𝕄 where
  duties g r := if r = 0 ∧ g.1.2 = .tc then (match celOf g.2 with | some k => dutiesOf k | none => ∅) else ∅
  unitless _ := False
  amount g _ _ := match celOf g.2 with | some k => amt k | none => 1
  payload g _ d := match celOf g.2 with | some k => payl m g.1.1 k d | none => iprop(emp)
  amount_pos g _ _ _ := by
    show 0 < (match celOf g.2 with | some k => amt k | none => 1)
    split
    · exact amt_pos _
    · exact Nat.one_pos

instance Rd_payload_storable (g : GSem nD τ sig) (r : ℕ) (d : Fin 3) : BI.Storable (upEmb : UEmb _ 𝕄) ((Rd (F := F) m).payload g r d) := by
  show BI.Storable upEmb (match celOf g.2 with | some k => payl m g.1.1 k d | none => iprop(emp))
  split <;> infer_instance

theorem Rd_duties (c : Dev nD) (k : Cel) : (Rd (F := F) m).duties (cell c k) 0 = dutiesOf k := by
  dsimp only [Rd, cell]; rw [if_pos ⟨rfl, rfl⟩, celOf_semOf]
theorem Rd_later (g : GSem nD τ sig) : ∀ r, 1 ≤ r → (Rd (F := F) m).duties g r = ∅ :=
  fun r hr => by dsimp only [Rd]; exact if_neg fun h => by omega
theorem Rd_amount (c : Dev nD) (k : Cel) (d : Fin 3) : (Rd (F := F) m).amount (cell c k) 0 d = amt k := by
  dsimp only [Rd, cell]; rw [celOf_semOf]
theorem Rd_payload (c : Dev nD) (k : Cel) (d : Fin 3) : (Rd (F := F) m).payload (cell c k) 0 d = payl m c k d := by
  dsimp only [Rd, cell]; rw [celOf_semOf]
theorem Rd_expect (c : Dev nD) (k : Cel) : (Rd (F := F) m).expect (cell c k) 0 = need k := by
  have hc : ∀ k, (dutiesOf k).card = nDuty k := by decide +kernel
  unfold Schedule.expect Schedule.amountOf
  rw [Rd_duties, Finset.sum_congr rfl fun d _ => Rd_amount m c k d, Finset.sum_const, hc]
  rfl

/-- A device may wait on a cell while everything it owes lies higher. -/
theorem mayWait_lvl (c : Dev nD) (sm : SemLoc sig) (n : ℕ) (l : List (Dev nD × Cel)) (hn : lv ((c : Thread nD τ), sm) () ≤ n)
    (hl : ∀ x ∈ l, n < lvl x.2) : (levAts L lv : sProp 𝕄) ⊢ MayWait (c : Thread nD τ) sm () (owed l) :=
  MayOwe.of_cut (L := L) (lev := lv) n (fun p hp => by rw [Finset.mem_singleton.mp hp, L_tc]; exact Finset.mem_singleton_self _)
    (fun g u hg => by obtain ⟨x, _, rfl⟩ := owed_pos hg; exact Finset.mem_singleton_self _)
    (fun p hp => by rw [Finset.mem_singleton.mp hp]; exact hn)
    (fun g u hg => by obtain ⟨x, hx, rfl⟩ := owed_pos hg; rw [lv_cell]; exact hl x hx)

/-! ## The rules, on this kernel's cells -/

abbrev 𝒱₀ : Variants := Variants.none

/-- Run a program on device `c`. -/
abbrev Wp {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

end Cert.KernelIdealProof

end
-- ==== Proof.KernelIdeal.Steps.lean ====
/-
# The rules, on this kernel's cells

One rule for each kind of step of the kernel: a load, a store, a raise of a neighbour's cell, a wait (which ends the
cell, as every cell has one round), a local transfer, and a transfer to another device.
-/
module

public import proofs.«01_k».proof.Proof.KernelIdeal.Sched

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Shares of the protocol -/

/-- What every device knows all along: every cell runs the protocol, and the levels of the cells. -/
def Pers (K : Dev nD × Cel → ℕ) : sProp 𝕄 :=
  iprop((bigSep Finset.univ fun ck : Dev nD × Cel => iprop(cellInv ER (Rd m) (K ck) (cell ck.1 ck.2) ∗ reached ER (cell ck.1 ck.2) 0)) ∗ levAts L lv)

instance Pers_persistent (K : Dev nD × Cel → ℕ) : BI.Persistent (Pers (F := F) m K) := by unfold Pers; infer_instance

/-- The right to pay a duty. -/
abbrev tok (c : Dev nD) (k : Cel) (d : Fin 3) : sProp 𝕄 := dutyTok ER (cell c k) 0 d
/-- The device's place at its cell. -/
abbrev own' (c : Dev nD) (k : Cel) : sProp 𝕄 := atPos ER (cell c k) 0 ∅ 0
/-- The credit for the one wait on a cell. -/
abbrev crd (c : Dev nD) (k : Cel) : sProp 𝕄 := cred (tallyAt (cell c k) () (need k))
/-- What a device still has to raise. -/
def owesE (c : Dev nD) (l : List (Dev nD × Cel)) : sProp 𝕄 := iprop(∃ W, owes (c : Thread nD τ) (owed l) W)
/-- A cell that has ended. -/
abbrev done (c : Dev nD) (k : Cel) : sProp 𝕄 := semVal (cell c k) 0

theorem need_one {k : Cel} (h : nDuty k = 1) : need k = amt k := by unfold need; rw [h, Nat.one_mul]

/-- What is known of one cell. -/
theorem Pers_at (K : Dev nD × Cel → ℕ) (ck : Dev nD × Cel) :
    (bigSep Finset.univ fun ck : Dev nD × Cel => (iprop(cellInv ER (Rd m) (K ck) (cell ck.1 ck.2) ∗ reached ER (cell ck.1 ck.2) 0) : sProp 𝕄))
      ⊢ iprop(cellInv ER (Rd m) (K ck) (cell ck.1 ck.2) ∗ reached ER (cell ck.1 ck.2) 0) :=
  bigSep_elim (Finset.mem_univ ck)

theorem Pers_inv (K : Dev nD × Cel → ℕ) (c : Dev nD) (k : Cel) : Pers (F := F) m K ⊢ cellInv ER (Rd m) (K (c, k)) (cell c k) := by
  unfold Pers
  iintro ⟨H, -⟩
  ihave H' := (Pers_at m K (c, k)) $$ H
  icases H' with ⟨H1, -⟩
  iexact H1
theorem Pers_reached (K : Dev nD × Cel → ℕ) (c : Dev nD) (k : Cel) : Pers (F := F) m K ⊢ reached ER (cell c k) 0 := by
  unfold Pers
  iintro ⟨H, -⟩
  ihave H' := (Pers_at m K (c, k)) $$ H
  icases H' with ⟨-, H1⟩
  iexact H1
theorem Pers_lev (K : Dev nD × Cel → ℕ) : Pers (F := F) m K ⊢ levAts L lv := by
  unfold Pers
  iintro ⟨-, H⟩
  iexact H

/-! ## Loads and stores -/

variable {α : Type} {Q : α → sProp (MT nD τ sig Unit (Elt F) ℕ UU ℕ)}

theorem step_load (c : Dev nD) {i : Fin (sig.nNear .tc .vmem)} {hκ : sig.names .tc .vmem i = true}
    (r : Rect ((⟨.vmem, i, hκ⟩ : Ref sig .tc).ty.shape)) (I : Finset (⟨.vmem, i, hκ⟩ : Ref sig .tc).ty.shape.Idx) (q : PosShare TreeShare)
    (Y : (⟨.vmem, i, hκ⟩ : Ref sig .tc).ty.Contents (Elt F))
    {hl} {k : (r.shape.Idx → Elt F _) → Prog (TpuEff nD τ sig (Elt F) Λ₀ .tc) α} (hS : r.set ⊆ I) :
    pts c ⟨.vmem, i, hκ⟩ I q Y ⊢ iprop((pts c ⟨.vmem, i, hκ⟩ I q Y -∗ Wp c (k (fun x => Y (r.emb x))) Q)
      -∗ Wp c (.op (.load (Memref.whole (⟨.vmem, i, hκ⟩ : Ref sig .tc)) r.toLoadRect hl) k) Q) :=
  wp_load_rect 𝒱₀ (c : Thread nD τ) none Set.univ (m := Memref.whole (⟨.vmem, i, hκ⟩ : Ref sig .tc)) (r := r) (f := Y) (hl := hl) (k := k)
    (by rw [show ((Memref.whole (⟨.vmem, i, hκ⟩ : Ref sig .tc)).access r).set = r.set from View.set_slice_whole ..]; exact hS)

theorem step_load_whole (c : Dev nD) {i : Fin (sig.nNear .tc .vmem)} {hκ : sig.names .tc .vmem i = true}
    {s : Shape} (hs : (⟨.vmem, i, hκ⟩ : Ref sig .tc).ty.shape = s)
    (r : Rect ((⟨.vmem, i, hκ⟩ : Ref sig .tc).ty.shape)) (q : PosShare TreeShare)
    (Y : (⟨.vmem, i, hκ⟩ : Ref sig .tc).ty.Contents (Elt F)) (Z : r.shape.Idx → Elt F _)
    {hl} {k : (r.shape.Idx → Elt F _) → Prog (TpuEff nD τ sig (Elt F) Λ₀ .tc) α} (hr : (fun x => Y (r.emb x)) = Z) :
    pts c ⟨.vmem, i, hκ⟩ Finset.univ q Y ⊢ iprop((pts c ⟨.vmem, i, hκ⟩ Finset.univ q Y -∗ Wp c (k Z) Q)
      -∗ Wp c (.op (.load (Memref.whole (⟨.vmem, i, hκ⟩ : Ref sig .tc)) r.toLoadRect hl) k) Q) := by
  rw [← hr]
  exact step_load c r Finset.univ q Y (Finset.subset_univ _)

theorem step_store (c : Dev nD) {i : Fin (sig.nNear .tc .vmem)} {hκ : sig.names .tc .vmem i = true}
    (r : Rect ((⟨.vmem, i, hκ⟩ : Ref sig .tc).ty.shape)) (I : Finset (⟨.vmem, i, hκ⟩ : Ref sig .tc).ty.shape.Idx)
    (Y Y' : (⟨.vmem, i, hκ⟩ : Ref sig .tc).ty.Contents (Elt F)) (w : r.shape.Idx → Elt F _)
    {hx hm} {k : PUnit → Prog (TpuEff nD τ sig (Elt F) Λ₀ .tc) α} (hI : r.set = I) (hw : ∀ x, w x = Y' (r.emb x)) :
    pts c ⟨.vmem, i, hκ⟩ I fullShare Y ⊢ iprop((pts c ⟨.vmem, i, hκ⟩ I fullShare Y' -∗ Wp c (k ⟨⟩) Q)
      -∗ Wp c (.op (.store (Memref.whole (⟨.vmem, i, hκ⟩ : Ref sig .tc)) r w Finset.univ hx hm) k) Q) := by
  subst hI
  have hset : ((Memref.whole (⟨.vmem, i, hκ⟩ : Ref sig .tc)).access r).set = r.set := View.set_slice_whole ..
  have hc : (pts c ⟨.vmem, i, hκ⟩ r.set fullShare
      (((Memref.whole (⟨.vmem, i, hκ⟩ : Ref sig .tc)).access r).write (Elt F) Y w Finset.univ) : sProp 𝕄) = pts c ⟨.vmem, i, hκ⟩ r.set fullShare Y' := by
    refine pointsTo_congr fun j hj => ?_
    rw [← hset] at hj
    obtain ⟨x, _, rfl⟩ := Finset.mem_map.mp hj
    refine (View.write_emb_of_mem (v := (Memref.whole (⟨.vmem, i, hκ⟩ : Ref sig .tc)).access r) Y w (Finset.mem_univ x)).trans ?_
    exact hw x
  rw [← hc]
  exact wp_store 𝒱₀ (c : Thread nD τ) none Set.univ (m := Memref.whole (⟨.vmem, i, hκ⟩ : Ref sig .tc)) (r := r) (f := Y) (hx := hx) (hm := hm) (k := k)
    (by show ((Memref.whole (⟨.vmem, i, hκ⟩ : Ref sig .tc)).access r).set ⊆ r.set; rw [hset])

/-! ## Raises and waits -/

theorem step_signal (K : Dev nD × Cel → ℕ) (c c' : Dev nD) (k' : Cel) (d : Fin 3) (n : Dev nD) (hn : n = c') {sem : Sem sig} (hs : SemLoc.reg sem = semOf k')
    (hd : d ∈ dutiesOf k') (h1 : amt k' = 1) (l : List (Dev nD × Cel)) {a : ℕ} (ha : a = 1)
    {k : PUnit → Prog (TpuEff nD τ sig (Elt F) Λ₀ .tc) α} :
    iprop(Pers m K ∗ owesE c ((c', k') :: l) ∗ tok c' k' d ∗ payl m c' k' d)
      ⊢ iprop((owesE c l -∗ Wp c (k ⟨⟩) Q) -∗ Wp c (.op (.semSignal (Dev.tc n) sem a) k) Q) := by
  subst hn ha
  have hcell : cell n k' = ((n : Thread nD τ), .reg sem) := by unfold cell; rw [hs]
  unfold owesE
  iintro ⟨#HP, ⟨%W, HO⟩, Ht, Hp⟩ Hk
  iapply (Rounds.wp_signal 𝒱₀ ER (Rd m) (c : Thread nD τ) none (dst := (n : Thread nD τ)) (sem := sem) (r := 0) (d := d) (k' := 1) (κ := K (n, k'))
      (by rw [← hcell, Rd_duties]; exact hd) (by rw [← hcell, Rd_amount]; exact h1) () (owed l) (by rw [← hcell, ← h1]) (W := W)) $$ [HO Ht Hp]
  · rw [← hcell, Rd_payload]
    isplitr; · iapply (Pers_inv m K n k'); iexact HP
    isplitl [HO]; · iexact HO
    isplitl [Ht]; · iexact Ht
    isplitl [Hp]; · iexact Hp
    iapply (Pers_reached m K n k'); iexact HP
  iintro HO
  iapply Hk
  iexists W
  iexact HO

theorem rest_eq (c : Dev nD) (k : Cel) : bigSep ((Rd (F := F) m).duties ((c : Thread nD τ), semOf k) 0 \ ∅) (fun d => (Rd m).payload ((c : Thread nD τ), semOf k) 0 d)
    = bigSep (dutiesOf k) fun d => payl (F := F) m c k d := by
  show bigSep ((Rd (F := F) m).duties (cell c k) 0 \ ∅) (fun d => (Rd m).payload (cell c k) 0 d) = _
  rw [Finset.sdiff_empty, Rd_duties]
  exact bigSep_congr fun d _ => Rd_payload m c k d

set_option maxRecDepth 8000 in
theorem step_wait (K : Dev nD × Cel → ℕ) (c : Dev nD) (k' : Cel) (n : ℕ) (hn : lvl k' ≤ n) (l : List (Dev nD × Cel)) (hl : ∀ x ∈ l, n < lvl x.2)
    {w : TpuEff nD τ sig (Elt F) Λ₀ .tc PUnit} {sm : SemLoc sig} {a : ℕ}
    (hw : ∀ R : PUnit → sProp (MT nD τ sig Unit (Elt F) ℕ UU ℕ), wpE (defs₀ (F := F)) 𝒱₀ (c : Thread nD τ) none Set.univ w R = waitSpec (c : Thread nD τ) Set.univ sm a R)
    (hs : sm = semOf k') (ha : a = need k')
    {k : PUnit → Prog (TpuEff nD τ sig (Elt F) Λ₀ .tc) α} :
    iprop(Pers m K ∗ crd c k' ∗ own' c k' ∗ owesE c l)
      ⊢ iprop(((done c k' ∗ owesE c l ∗ bigSep (dutiesOf k') fun d => payl m c k' d) -∗ Wp c (k ⟨⟩) Q) -∗ Wp c (.op w k) Q) := by
  subst hs ha
  have hlv : lv ((c : Thread nD τ), semOf k') () ≤ n := by
    have h := lv_cell c k' ()
    unfold cell at h
    rw [h]; exact hn
  unfold owesE
  iintro ⟨#HP, Hc, Hat, ⟨%W, HO⟩⟩ Hk
  iapply (Rounds.wp_wait_rest_token 𝒱₀ ER (Rd m) (c : Thread nD τ) none (κ := K (c, k')) hw (Set.mem_univ _) () (O := owed l) (W := W) (R := 0) (m := 0) (T := ∅)
      (by rw [Nat.zero_add]; exact (Rd_expect m c k').symm)) $$ [Hc HO Hat]
  · isplitr; · iapply (Pers_inv m K c k'); iexact HP
    isplitl [Hc]; · iexact Hc
    isplitl [HO]; · iexact HO
    isplitr; · iapply ((Pers_lev m K).trans (mayWait_lvl c (semOf k') n l hlv hl)); iexact HP
    iexact Hat
  iintro ⟨HO, Hat, -, Hpay⟩
  imod (Rounds.cell_close ER (Rd m) (Set.mem_univ (K (c, k'))) (fun h => h) (R := 0 + 1) (Rd_later m (cell c k'))) $$ [Hat] with Hz
  · isplitr; · iapply (Pers_inv m K c k'); iexact HP
    iexact Hat
  ihave Hp := (Entails.of_eq (rest_eq m c k')) $$ Hpay
  iapply Hk
  isplitl [Hz]; · iexact Hz
  isplitl [HO]; · iexists _; iexact HO
  iexact Hp

theorem payl_one {c : Dev nD} {k : Cel} (h : nDuty k = 1) : (bigSep (dutiesOf k) fun d => payl (F := F) m c k d) = payl m c k 0 := by
  have : dutiesOf k = {0} := by unfold dutiesOf; rw [h]; decide
  rw [this, bigSep_singleton]

/-- The wait on a cell with one duty, by a transfer's semaphore. -/
theorem step_waitDma (K : Dev nD × Cel → ℕ) (c : Dev nD) (k' : Cel) (n : ℕ) (hn : lvl k' ≤ n) (l : List (Dev nD × Cel)) (hl : ∀ x ∈ l, n < lvl x.2)
    {sp sp' : Space} {s s' : Shape} {e e' : EltTy} {sem : DmaSem sig} {src : Memref sig .tc sp' s' e'} {dst : Memref sig .tc sp s e}
    {hsrc : src.view.WordExact} {hdst : dst.view.WordExact} (hs : SemLoc.dma sem = semOf k') (h1 : nDuty k' = 1) (ha : dst.view.dmaCredit = amt k')
    {k : PUnit → Prog (TpuEff nD τ sig (Elt F) Λ₀ .tc) α} :
    iprop(Pers m K ∗ crd c k' ∗ own' c k' ∗ owesE c l)
      ⊢ iprop(((done c k' ∗ owesE c l ∗ payl m c k' 0) -∗ Wp c (k ⟨⟩) Q) -∗ Wp c (.op (.waitDma2 sem src dst hsrc hdst) k) Q) := by
  rw [← payl_one m h1]
  exact step_wait m K c k' n hn l hl (wpE_waitDma2_eq 𝒱₀ (c : Thread nD τ) none Set.univ) hs (ha.trans (need_one h1).symm)

/-! ## Transfers -/

/-- The elements under a destination after a write that brings `Y` there. -/
theorem write_pts {sp : Space} {s : Shape} {e : EltTy} (c : Dev nD) (dst : Memref sig .tc sp s e) (fd Y : Buf (Elt F) (dst.view.loc (c : Thread nD τ))) (w : s.Idx → Elt F e)
    (h : ∀ fd x, dst.view.write (Elt F) fd w Finset.univ (dst.view.emb x) = Y (dst.view.emb x)) :
    ((dst.view.loc (c : Thread nD τ) ↦[dst.view.set]{fullShare} (dst.view.write (Elt F) fd w Finset.univ)) : sProp 𝕄)
      = (dst.view.loc (c : Thread nD τ) ↦[dst.view.set]{fullShare} Y) := by
  refine pointsTo_congr fun j hj => ?_
  obtain ⟨x, _, rfl⟩ := Finset.mem_map.mp hj
  exact h fd x

theorem step_copy (K : Dev nD × Cel → ℕ) (c : Dev nD) (k' : Cel) {sp sp' : Space} {s : Shape} {e : EltTy}
    {src : Memref sig .tc sp s e} {dst : Memref sig .tc sp' s e} {sem : SemLoc sig}
    {hsrc : src.view.WordExact} {hdst : dst.view.WordExact} {hsem : DmaTarget.Typed (nD := nD) (p := (.tc : Proc τ)) sp sem (.here dst)}
    (hs : sem = semOf k') (h1 : nDuty k' = 1) (hN : dst.view.amount sem = amt k')
    (S D : sProp 𝕄) (Ys : Buf (Elt F) (src.view.loc (c : Thread nD τ))) (Yd : Buf (Elt F) (dst.view.loc (c : Thread nD τ)))
    (hS : S = (src.view.loc (c : Thread nD τ) ↦[src.view.set]{fullShare} Ys))
    (hD : D ⊢ iprop(∃ fd, (dst.view.loc (c : Thread nD τ) ↦[dst.view.set]{fullShare} fd)))
    (hpay : iprop((dst.view.loc (c : Thread nD τ) ↦[dst.view.set]{fullShare} Yd) ∗ S) ⊢ payl m c k' 0)
    (hY : ∀ fd x, dst.view.write (Elt F) fd (src.view.read (Elt F) Ys) Finset.univ (dst.view.emb x) = Yd (dst.view.emb x))
    {k : PUnit → Prog (TpuEff nD τ sig (Elt F) Λ₀ .tc) α} :
    iprop(Pers m K ∗ S ∗ D ∗ tok c k' 0)
      ⊢ iprop((crd c k' -∗ Wp c (k ⟨⟩) Q) -∗ Wp c (.op (.enqueueDma src (.here dst) sem hsrc hdst hsem) k) Q) := by
  subst hs hS
  iintro ⟨#HP, HS, HD, Ht⟩ Hk
  ihave HD' := hD $$ HD
  icases HD' with ⟨%fd, HD⟩
  iapply (Rounds.wp_copy_pointsTo 𝒱₀ ER (Rd m) (c : Thread nD τ) none (src := src) (dst := dst) (sem := semOf k') (r := 0) (d := 0) (κ := K (c, k')) (fs := Ys) (fd := fd) (q := fullShare)
      (by rw [show ((c : Thread nD τ), semOf k') = cell c k' from rfl, Rd_duties]; unfold dutiesOf; rw [h1]; decide) () (amt k') hN (Rd_amount m c k' 0)
      (by rw [write_pts c dst fd Yd _ hY]; exact hpay.trans (Entails.of_eq (Rd_payload m c k' 0).symm))) $$ [HS HD Ht]
  · isplitr; · iapply (Pers_inv m K c k'); iexact HP
    isplitl [HS]; · iexact HS
    isplitl [HD]; · iexact HD
    isplitl [Ht]; · iexact Ht
    iapply (Pers_reached m K c k'); iexact HP
  rw [← need_one h1]
  iexact Hk

theorem step_send (K : Dev nD × Cel → ℕ) (c c' : Dev nD) (ks kr : Cel) (n : Dev nD) (hn : n = c') {sp sp' : Space} {s : Shape} {e : EltTy}
    {src : Memref sig .tc sp s e} {dst : Memref sig .tc sp' s e} {sS sR : SemLoc sig} {hsc : dst.view.ref.isScScratch = false}
    {hsrc : src.view.WordExact} {hdst : dst.view.WordExact} {hsem : DmaTarget.Typed sp sR (.remote (Dev.tc n) dst sS hsc)}
    (hsS : sS = semOf ks) (hsR : sR = semOf kr) (h1 : nDuty ks = 1) (h2 : nDuty kr = 1)
    (hNs : dst.view.amount (semOf kr) = amt ks) (hNr : dst.view.amount (semOf kr) = amt kr) (l : List (Dev nD × Cel))
    (S D : sProp 𝕄) (q : PosShare TreeShare) (Ys : Buf (Elt F) (src.view.loc (c : Thread nD τ))) (Yd : Buf (Elt F) (dst.view.loc (c' : Thread nD τ)))
    (hS : S = (src.view.loc (c : Thread nD τ) ↦[src.view.set]{q} Ys))
    (hD : D ⊢ iprop(∃ fd, (dst.view.loc (c' : Thread nD τ) ↦[dst.view.set]{fullShare} fd)))
    (hpay1 : S ⊢ payl m c ks 0)
    (hpay2 : (dst.view.loc (c' : Thread nD τ) ↦[dst.view.set]{fullShare} Yd) ⊢ payl m c' kr 0)
    (hY : ∀ fd x, dst.view.write (Elt F) fd (src.view.read (Elt F) Ys) Finset.univ (dst.view.emb x) = Yd (dst.view.emb x))
    {k : PUnit → Prog (TpuEff nD τ sig (Elt F) Λ₀ .tc) α} :
    iprop(Pers m K ∗ S ∗ D ∗ owesE c ((c', kr) :: l) ∗ tok c ks 0 ∗ tok c' kr 0)
      ⊢ iprop(((crd c ks ∗ owesE c l) -∗ Wp c (k ⟨⟩) Q) -∗ Wp c (.op (.enqueueDma src (.remote (Dev.tc n) dst sS hsc) sR hsrc hdst hsem) k) Q) := by
  subst hn hsS hsR hS
  have hmem : ∀ {k : Cel}, nDuty k = 1 → (0 : Fin 3) ∈ dutiesOf k := fun h => by unfold dutiesOf; rw [h]; decide
  unfold owesE
  iintro ⟨#HP, HS, HD, ⟨%W, HO⟩, Ht1, Ht2⟩ Hk
  ihave HD' := hD $$ HD
  icases HD' with ⟨%fd, HD⟩
  iapply (Rounds.wp_send_pointsTo 𝒱₀ ER (Rd m) (c : Thread nD τ) none (c' := (n : Thread nD τ)) (src := src) (dst := dst) (sS := semOf ks) (sem := semOf kr)
      (r₁ := 0) (r₂ := 0) (d₁ := 0) (d₂ := 0) (κ₁ := K (c, ks)) (κ₂ := K (n, kr)) (fs := Ys) (fd := fd) (q := q)
      (by rw [show ((c : Thread nD τ), semOf ks) = cell c ks from rfl, Rd_duties]; exact hmem h1)
      (by rw [show ((n : Thread nD τ), semOf kr) = cell n kr from rfl, Rd_duties]; exact hmem h2)
      () () (amt kr) hNr ((Rd_amount m c ks 0).trans (hNs.symm.trans hNr)) (Rd_amount m n kr 0) (owed l) rfl (W := W)
      (hpay1.trans (Entails.of_eq (Rd_payload m c ks 0).symm))
      (by rw [write_pts n dst fd Yd _ hY]; exact hpay2.trans (Entails.of_eq (Rd_payload m n kr 0).symm))) $$ [HS HD HO Ht1 Ht2]
  · isplitr; · iapply (Pers_inv m K c ks); iexact HP
    isplitr; · iapply (Pers_inv m K n kr); iexact HP
    isplitl [HS]; · iexact HS
    isplitl [HD]; · iexact HD
    isplitl [HO]; · iexact HO
    isplitl [Ht1]; · iexact Ht1
    isplitr; · iapply (Pers_reached m K c ks); iexact HP
    isplitl [Ht2]; · iexact Ht2
    iapply (Pers_reached m K n kr); iexact HP
  rw [← hNs.symm.trans hNr, ← need_one h1]
  iintro ⟨Hc, HO⟩
  iapply Hk
  isplitl [Hc]; · iexact Hc
  iexists W
  iexact HO

end Cert.KernelIdealProof

end
-- ==== Proof.KernelIdeal.Transfers.lean ====
/-
# The transfers of the kernel

The parts of buffers the transfers run between, and one rule for each kind of transfer: the three hops of the ring, the
outputs sent to the peers, and the two local fetches of weights.
-/
module

public import proofs.«01_k».proof.Proof.KernelIdeal.Steps

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Parts of buffers -/

theorem set_sq {b : Ref sig .tc} (r : Rect b.ty.shape) (hr : ∀ a, r.stride a = 1) (s' : Shape) (h : r.shape.Squeezes s') :
    (((Memref.whole b).slice r hr).squeeze s' h).view.set = r.set := by
  show (((View.whole b).slice r).reshape s' h.numel_eq).set = r.set
  rw [View.set_reshape, View.set_slice_whole]

theorem set_sl {b : Ref sig .tc} (r : Rect b.ty.shape) (hr : ∀ a, r.stride a = 1) :
    ((Memref.whole b).slice r hr).view.set = r.set := View.set_slice_whole ..

theorem pts_halve (c : Dev nD) (b : Ref sig .tc) (I : Finset b.ty.shape.Idx) (q : PosShare TreeShare) (f : b.ty.Contents (Elt F)) :
    (pts (F := F) c b I q f : sProp 𝕄) ⊣⊢ iprop(pts c b I q.left f ∗ pts c b I q.right f) :=
  pointsTo_share (PosShare.mem_left_op_right q)

theorem some_join (c : Dev nD) (b : Ref sig .tc) (A B : Finset b.ty.shape.Idx) (h : Disjoint A B) :
    iprop(some' (F := F) c b A ∗ some' c b B) ⊢ (some' (F := F) c b (A ∪ B) : sProp 𝕄) := by
  classical
  unfold some'
  iintro ⟨⟨%f, HA⟩, ⟨%g, HB⟩⟩
  have e1 : (pts c b A fullShare f : sProp 𝕄) = pts c b A fullShare (fun i => if i ∈ A then f i else g i) :=
    pointsTo_congr fun i hi => (if_pos hi).symm
  have e2 : (pts c b B fullShare g : sProp 𝕄) = pts c b B fullShare (fun i => if i ∈ A then f i else g i) :=
    pointsTo_congr fun i hi => (if_neg (Finset.disjoint_right.mp h hi)).symm
  ihave HA' := (Entails.of_eq e1) $$ HA
  ihave HB' := (Entails.of_eq e2) $$ HB
  iexists (fun i => if i ∈ A then f i else g i)
  iapply (pointsTo_union h).2
  isplitl [HA'] <;> iassumption

theorem some_intro (c : Dev nD) (b : Ref sig .tc) (I : Finset b.ty.shape.Idx) (f : b.ty.Contents (Elt F)) :
    pts c b I fullShare f ⊢ (some' (F := F) c b I : sProp 𝕄) := by
  unfold some'
  iintro H
  iexists f
  iexact H

/-! ## The ring -/

variable {α : Type} {Q : α → sProp (MT nD τ sig Unit (Elt F) ℕ UU ℕ)}

set_option maxRecDepth 8000 in
theorem hop0 (K : Dev nD × Cel → ℕ) (c : Dev nD) (h : Fin 3) (l : List (Dev nD × Cel)) (n : Dev nD) (hn : n = right c)
    {sS sR : SemLoc sig} (hsS : sS = semOf (.send h 0)) (hsR : sR = semOf (.recv h 0))
    {e1 e2 q1 q2 hsc hsrc hdst hsem} {k : PUnit → Prog (TpuEff nD τ sig (Elt F) Λ₀ .tc) α} :
    iprop(Pers m K ∗ pts c cc0_scratch0 (slotC (srcSlot h)).set fullShare.left (cbC m c) ∗ some' (right c) cc0_scratch0 (slotC h.castSucc).set
        ∗ owesE c ((right c, .recv h 0) :: l) ∗ tok c (.send h 0) 0 ∗ tok (right c) (.recv h 0) 0)
      ⊢ iprop(((crd c (.send h 0) ∗ owesE c l) -∗ Wp c (k ⟨⟩) Q)
        -∗ Wp c (.op (.enqueueDma (((Memref.whole cc0_scratch0).slice (slotC (srcSlot h)) e1).squeeze S1024x128 q1)
          (.remote (Dev.tc n) (((Memref.whole cc0_scratch0).slice (slotC h.castSucc) e2).squeeze S1024x128 q2) sS hsc) sR hsrc hdst hsem) k) Q) :=
  step_send m K c (right c) (.send h 0) (.recv h 0) n hn hsS hsR rfl rfl cntC_eq.symm cntC_eq.symm l _ _ fullShare.left (cbC m c) (cbC m (right c))
    (by rw [show (((Memref.whole cc0_scratch0).slice (slotC (srcSlot h)) e1).squeeze S1024x128 q1).view.set = (slotC (srcSlot h)).set from set_sq (b := cc0_scratch0) _ e1 _ q1]; rfl)
    (by rw [show (((Memref.whole cc0_scratch0).slice (slotC h.castSucc) e2).squeeze S1024x128 q2).view.set = (slotC h.castSucc).set from set_sq (b := cc0_scratch0) _ e2 _ q2]; exact .rfl) .rfl
    (by rw [show (((Memref.whole cc0_scratch0).slice (slotC h.castSucc) e2).squeeze S1024x128 q2).view.set = (slotC h.castSucc).set from set_sq (b := cc0_scratch0) _ e2 _ q2]; exact .rfl)
    (by
      intro fd x
      refine (View.write_emb_of_mem (v := (((Memref.whole cc0_scratch0).slice (slotC h.castSucc) e2).squeeze S1024x128 q2).view) fd _ (Finset.mem_univ x)).trans ?_
      exact (cbC_hop m c h (Shape.reshapeEquiv q1.numel_eq x)).symm)

set_option maxRecDepth 8000 in
theorem hop1 (K : Dev nD × Cel → ℕ) (c : Dev nD) (h : Fin 3) (l : List (Dev nD × Cel)) (n : Dev nD) (hn : n = right c)
    {sS sR : SemLoc sig} (hsS : sS = semOf (.send h 1)) (hsR : sR = semOf (.recv h 1))
    {e1 e2 q1 q2 hsc hsrc hdst hsem} {k : PUnit → Prog (TpuEff nD τ sig (Elt F) Λ₀ .tc) α} :
    iprop(Pers m K ∗ pts c cc0_scratch1 (slotW (srcSlot h)).set fullShare.left (ukC m c) ∗ some' (right c) cc0_scratch1 (slotW h.castSucc).set
        ∗ owesE c ((right c, .recv h 1) :: l) ∗ tok c (.send h 1) 0 ∗ tok (right c) (.recv h 1) 0)
      ⊢ iprop(((crd c (.send h 1) ∗ owesE c l) -∗ Wp c (k ⟨⟩) Q)
        -∗ Wp c (.op (.enqueueDma (((Memref.whole cc0_scratch1).slice (slotW (srcSlot h)) e1).squeeze S128x512 q1)
          (.remote (Dev.tc n) (((Memref.whole cc0_scratch1).slice (slotW h.castSucc) e2).squeeze S128x512 q2) sS hsc) sR hsrc hdst hsem) k) Q) :=
  step_send m K c (right c) (.send h 1) (.recv h 1) n hn hsS hsR rfl rfl cntU_eq.symm cntU_eq.symm l _ _ fullShare.left (ukC m c) (ukC m (right c))
    (by rw [show (((Memref.whole cc0_scratch1).slice (slotW (srcSlot h)) e1).squeeze S128x512 q1).view.set = (slotW (srcSlot h)).set from set_sq (b := cc0_scratch1) _ e1 _ q1]; rfl)
    (by rw [show (((Memref.whole cc0_scratch1).slice (slotW h.castSucc) e2).squeeze S128x512 q2).view.set = (slotW h.castSucc).set from set_sq (b := cc0_scratch1) _ e2 _ q2]; exact .rfl) .rfl
    (by rw [show (((Memref.whole cc0_scratch1).slice (slotW h.castSucc) e2).squeeze S128x512 q2).view.set = (slotW h.castSucc).set from set_sq (b := cc0_scratch1) _ e2 _ q2]; exact .rfl)
    (by
      intro fd x
      refine (View.write_emb_of_mem (v := (((Memref.whole cc0_scratch1).slice (slotW h.castSucc) e2).squeeze S128x512 q2).view) fd _ (Finset.mem_univ x)).trans ?_
      exact (ukC_hop m c h (Shape.reshapeEquiv q1.numel_eq x)).symm)

set_option maxRecDepth 8000 in
theorem hop2 (K : Dev nD × Cel → ℕ) (c : Dev nD) (h : Fin 3) (l : List (Dev nD × Cel)) (n : Dev nD) (hn : n = right c)
    {sS sR : SemLoc sig} (hsS : sS = semOf (.send h 2)) (hsR : sR = semOf (.recv h 2))
    {e1 e2 q1 q2 hsc hsrc hdst hsem} {k : PUnit → Prog (TpuEff nD τ sig (Elt F) Λ₀ .tc) α} :
    iprop(Pers m K ∗ pts c cc0_scratch2 (slotW (srcSlot h)).set fullShare.left (uvC m c) ∗ some' (right c) cc0_scratch2 (slotW h.castSucc).set
        ∗ owesE c ((right c, .recv h 2) :: l) ∗ tok c (.send h 2) 0 ∗ tok (right c) (.recv h 2) 0)
      ⊢ iprop(((crd c (.send h 2) ∗ owesE c l) -∗ Wp c (k ⟨⟩) Q)
        -∗ Wp c (.op (.enqueueDma (((Memref.whole cc0_scratch2).slice (slotW (srcSlot h)) e1).squeeze S128x512 q1)
          (.remote (Dev.tc n) (((Memref.whole cc0_scratch2).slice (slotW h.castSucc) e2).squeeze S128x512 q2) sS hsc) sR hsrc hdst hsem) k) Q) :=
  step_send m K c (right c) (.send h 2) (.recv h 2) n hn hsS hsR rfl rfl cntV_eq.symm cntV_eq.symm l _ _ fullShare.left (uvC m c) (uvC m (right c))
    (by rw [show (((Memref.whole cc0_scratch2).slice (slotW (srcSlot h)) e1).squeeze S128x512 q1).view.set = (slotW (srcSlot h)).set from set_sq (b := cc0_scratch2) _ e1 _ q1]; rfl)
    (by rw [show (((Memref.whole cc0_scratch2).slice (slotW h.castSucc) e2).squeeze S128x512 q2).view.set = (slotW h.castSucc).set from set_sq (b := cc0_scratch2) _ e2 _ q2]; exact .rfl) .rfl
    (by rw [show (((Memref.whole cc0_scratch2).slice (slotW h.castSucc) e2).squeeze S128x512 q2).view.set = (slotW h.castSucc).set from set_sq (b := cc0_scratch2) _ e2 _ q2]; exact .rfl)
    (by
      intro fd x
      refine (View.write_emb_of_mem (v := (((Memref.whole cc0_scratch2).slice (slotW h.castSucc) e2).squeeze S128x512 q2).view) fd _ (Finset.mem_univ x)).trans ?_
      exact (uvC_hop m c h (Shape.reshapeEquiv q1.numel_eq x)).symm)

/-! ## The outputs -/

set_option maxRecDepth 8000 in
theorem give (K : Dev nD × Cel → ℕ) (c : Dev nD) (i : Fin 3) (j : Fin 4) (l : List (Dev nD × Cel)) (n : Dev nD) (hn : n = peer i c)
    {sS sR : SemLoc sig} (hsS : sS = semOf (.osend i j)) (hsR : sR = semOf (.orecv i j)) (off : Fin 3 → Nat) (hoff : off = ![(hq c).val, 0, 128 * j.val])
    (inb : ∀ a, off a + S1x1024x128.size a ≤ S4x1024x512.size a)
    {e1 e2 q2 hsc hsrc hdst hsem} {k : PUnit → Prog (TpuEff nD τ sig (Elt F) Λ₀ .tc) α} :
    iprop(Pers m K ∗ pts c cc0_scratch10 (colq j).set (oshare i) (oqC m c) ∗ some' (peer i c) cc0_scratch11 (oslab (hq c) j).set
        ∗ owesE c ((peer i c, .orecv i j) :: l) ∗ tok c (.osend i j) 0 ∗ tok (peer i c) (.orecv i j) 0)
      ⊢ iprop(((crd c (.osend i j) ∗ owesE c l) -∗ Wp c (k ⟨⟩) Q)
        -∗ Wp c (.op (.enqueueDma ((Memref.whole cc0_scratch10).slice (colq j) e1)
          (.remote (Dev.tc n) (((Memref.whole cc0_scratch11).slice (Rect.unit (s := S4x1024x512) off S1x1024x128.size inb) e2).squeeze S1024x128 q2) sS hsc) sR hsrc hdst hsem) k) Q) := by
  subst hoff
  have hd : (((Memref.whole cc0_scratch11).slice (oslab (hq c) j) e2).squeeze S1024x128 q2).view.set = (oslab (hq c) j).set := set_sq (b := cc0_scratch11) _ e2 _ q2
  have hs : ((Memref.whole cc0_scratch10).slice (colq j) e1).view.set = (colq j).set := set_sl (b := cc0_scratch10) _ e1
  exact step_send m K c (peer i c) (.osend i j) (.orecv i j) n hn hsS hsR rfl rfl cntO_eq.symm cntO_eq.symm l _ _ (oshare i) (oqC m c) (oaC m (peer i c))
    (by rw [hs]; rfl) (by rw [hd]; exact .rfl) .rfl
    (by
      rw [hd]
      have hq' : qx (hq (peer i c)) i.succ = hq c := by
        have := congrArg hq (peer_peer i c)
        rw [hq_peer] at this; exact this
      show _ ⊢ pts (peer i c) cc0_scratch11 (oslab (qx (hq (peer i c)) i.succ) j).set fullShare (oaC m (peer i c))
      rw [hq'])
    (by
      intro fd x
      refine (View.write_emb_of_mem (v := (((Memref.whole cc0_scratch11).slice (oslab (hq c) j) e2).squeeze S1024x128 q2).view) fd _ (Finset.mem_univ x)).trans ?_
      exact ((oaC_emb m c i j x).symm.trans (congrArg (fun y => oaC m (peer i c) ((oslab (hq c) j).emb y)) (Shape.reshapeEquiv_cons_one q2.numel_eq x).symm)))

/-! ## The weights -/

set_option maxRecDepth 8000 in
theorem fetchWq (K : Dev nD × Cel → ℕ) (c : Dev nD) {sem : SemLoc sig} (hs : sem = semOf .wq) (off : Fin 2 → Nat) (hoff : off = ![0, 512 * (hq c).val])
    (inb : ∀ a, off a + S2048x512.size a ≤ S2048x2048.size a)
    {e1 hsrc hdst hsem} {k : PUnit → Prog (TpuEff nD τ sig (Elt F) Λ₀ .tc) α} :
    iprop(Pers m K ∗ pts c main_arg4 (colwq (hq c)).set fullShare (xWq m c) ∗ some' c cc0_scratch3 Finset.univ ∗ tok c .wq 0)
      ⊢ iprop((crd c .wq -∗ Wp c (k ⟨⟩) Q)
        -∗ Wp c (.op (.enqueueDma ((Memref.whole main_arg4).slice (Rect.unit (s := S2048x2048) off S2048x512.size inb) e1)
          (.here (Memref.whole cc0_scratch3)) sem hsrc hdst hsem) k) Q) := by
  subst hoff
  have hs' : ((Memref.whole main_arg4).slice (colwq (hq c)) e1).view.set = (colwq (hq c)).set := set_sl (b := main_arg4) _ e1
  have hwhole : (Memref.whole cc0_scratch3).view.set = (Finset.univ : Finset (cc0_scratch3 : Ref sig .tc).ty.shape.Idx) := View.set_whole _
  exact step_copy m K c .wq hs rfl (by rw [hs]; exact cntQ_eq.symm) _ _ (xWq m c) (wqC m c)
    (by rw [hs']) (by rw [hwhole]; exact .rfl) (by rw [hwhole]; exact .rfl)
    (by
      intro fd x
      refine (View.write_emb_of_mem (v := (Memref.whole cc0_scratch3).view) fd _ (Finset.mem_univ x)).trans ?_
      rfl)

set_option maxRecDepth 8000 in
theorem fetchWo (K : Dev nD × Cel → ℕ) (c : Dev nD) (kk : Fin 4) {sem : SemLoc sig} (hs : sem = semOf (.wo kk)) (off : Fin 2 → Nat) (hoff : off = ![512 * (qx (hq c) kk).val, 0])
    (inb : ∀ a, off a + S512x2048.size a ≤ S2048x2048.size a) (s : Fin 2) (hks : s = ⟨kk.val % 2, Nat.mod_lt _ (by decide)⟩)
    {e1 e2 q2 hsrc hdst hsem} {k : PUnit → Prog (TpuEff nD τ sig (Elt F) Λ₀ .tc) α} :
    iprop(Pers m K ∗ pts c main_arg7 (rowo (qx (hq c) kk)).set fullShare (xWo m c) ∗ some' c cc0_scratch12 (wslot s).set ∗ tok c (.wo kk) 0)
      ⊢ iprop((crd c (.wo kk) -∗ Wp c (k ⟨⟩) Q)
        -∗ Wp c (.op (.enqueueDma ((Memref.whole main_arg7).slice (Rect.unit (s := S2048x2048) off S512x2048.size inb) e1)
          (.here (((Memref.whole cc0_scratch12).slice (wslot s) e2).squeeze S512x2048 q2)) sem hsrc hdst hsem) k) Q) := by
  subst hoff
  have hs' : ((Memref.whole main_arg7).slice (rowo (qx (hq c) kk)) e1).view.set = (rowo (qx (hq c) kk)).set := set_sl (b := main_arg7) _ e1
  have hd : (((Memref.whole cc0_scratch12).slice (wslot s) e2).squeeze S512x2048 q2).view.set = (wslot s).set := set_sq (b := cc0_scratch12) _ e2 _ q2
  exact step_copy m K c (.wo kk) hs rfl (by rw [hs]; exact cntW_eq.symm) _ _ (xWo m c) (woC m c kk)
    (by rw [hs']) (by rw [hd]; exact .rfl) (by rw [hd, hks]; exact .rfl)
    (by
      intro fd x
      refine (View.write_emb_of_mem (v := (((Memref.whole cc0_scratch12).slice (wslot s) e2).squeeze S512x2048 q2).view) fd _ (Finset.mem_univ x)).trans ?_
      exact ((woC_emb m c kk s x).symm.trans (congrArg (fun y => woC m c kk ((wslot s).emb y)) (Shape.reshapeEquiv_cons_one q2.numel_eq x).symm)))

end Cert.KernelIdealProof

end
-- ==== Proof.KernelIdeal.Call.lean ====
/-
# The buffers and cells a part of the kernel runs on

Every part of the kernel takes all its buffers; here they are the ones of the call.
-/
module

public import proofs.«01_k».proof.Proof.KernelIdeal.Transfers

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A part of the kernel, run on the buffers and semaphores of the call. -/
abbrev onCall {α : Sort*} (f : ∀
      (arg0 : Memref sig .tc .vmem S1x1024x2048 .f32)
      (_ : arg0.IsWhole)
      (arg1 : Memref sig .tc .vmem S2048x128 .f32)
      (_ : arg1.IsWhole)
      (arg2 : Memref sig .tc .vmem S128x2048 .f32)
      (_ : arg2.IsWhole)
      (arg3 : Memref sig .tc .vmem S128x2048 .f32)
      (_ : arg3.IsWhole)
      (arg4 : Memref sig .tc .hbm S2048x2048 .f32)
      (_ : arg4.IsWhole)
      (arg5 : Memref sig .tc .vmem S2048x512 .f32)
      (_ : arg5.IsWhole)
      (arg6 : Memref sig .tc .vmem S2048x32 .f32)
      (_ : arg6.IsWhole)
      (arg7 : Memref sig .tc .hbm S2048x2048 .f32)
      (_ : arg7.IsWhole)
      (arg8 : Memref sig .tc .vmem S1x1024x2048 .f32)
      (_ : arg8.IsWhole)
      (arg9 : Memref sig .tc .vmem S4x1024x128 .bf16)
      (_ : arg9.IsWhole)
      (arg10 : Memref sig .tc .vmem S4x128x512 .bf16)
      (_ : arg10.IsWhole)
      (arg11 : Memref sig .tc .vmem S4x128x512 .bf16)
      (_ : arg11.IsWhole)
      (arg12 : Memref sig .tc .vmem S2048x512 .f32)
      (_ : arg12.IsWhole)
      (arg13 : Memref sig .tc .vmem S2048x128 .f32)
      (_ : arg13.IsWhole)
      (arg14 : Memref sig .tc .vmem S1024x512 .f32)
      (_ : arg14.IsWhole)
      (arg15 : Memref sig .tc .vmem S1024x512 .f32)
      (_ : arg15.IsWhole)
      (arg16 : Memref sig .tc .vmem S1024x512 .f32)
      (_ : arg16.IsWhole)
      (arg17 : Memref sig .tc .vmem S1024x128 .f32)
      (_ : arg17.IsWhole)
      (arg18 : Memref sig .tc .vmem S1024x32 .f32)
      (_ : arg18.IsWhole)
      (arg19 : Memref sig .tc .vmem S1024x512 .bf16)
      (_ : arg19.IsWhole)
      (arg20 : Memref sig .tc .vmem S4x1024x512 .bf16)
      (_ : arg20.IsWhole)
      (arg21 : Memref sig .tc .vmem S2x512x2048 .f32)
      (_ : arg21.IsWhole)
      (arg22 : DmaSems sig S3x3)
      (arg23 : DmaSems sig S3x3)
      (arg24 : DmaSems sig S_)
      (arg25 : DmaSems sig S3x4)
      (arg26 : DmaSems sig S3x4)
      (arg27 : DmaSems sig S4)
      (arg28 : Sems sig S_), α) : α :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole main_arg4) (Memref.isWhole_whole _) (Memref.whole cc0_stg4_0) (Memref.isWhole_whole _)
    (Memref.whole cc0_stg5_0) (Memref.isWhole_whole _) (Memref.whole main_arg7) (Memref.isWhole_whole _) (Memref.whole cc0_stg6_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _) (Memref.whole cc0_scratch11) (Memref.isWhole_whole _)
    (Memref.whole cc0_scratch12) (Memref.isWhole_whole _) cc0_scratch13 cc0_scratch14 cc0_scratch15 cc0_scratch16
    cc0_scratch17 cc0_scratch18 cc0_scratch19

/-- What is owed lies above a level, by looking through the list. -/
theorem above {n : ℕ} {l : List (Dev nD × Cel)} (h : (l.map fun x => lvl x.2).all (fun v => decide (n < v)) = true) : ∀ x ∈ l, n < lvl x.2 := by
  intro x hx
  have := List.all_eq_true.mp h (lvl x.2) (List.mem_map_of_mem hx)
  exact of_decide_eq_true this

theorem above_mono {a b : ℕ} (hab : a ≤ b) {l : List (Dev nD × Cel)} (h : ∀ x ∈ l, b < lvl x.2) : ∀ x ∈ l, a < lvl x.2 :=
  fun x hx => lt_of_le_of_lt hab (h x hx)
theorem above_tail {n : ℕ} {y : Dev nD × Cel} {l : List (Dev nD × Cel)} (h : ∀ x ∈ y :: l, n < lvl x.2) : ∀ x ∈ l, n < lvl x.2 :=
  fun x hx => h x (List.mem_cons_of_mem _ hx)

end Cert.KernelIdealProof

end
-- ==== Proof.KernelIdeal.Moves.lean ====
/-
# Small moves

Loads and stores of buffers of which nothing is claimed, loads and stores of whole buffers, and the names of the pieces of
memory and of the rights that a part of the kernel works with.
-/
module

public import proofs.«01_k».proof.Proof.KernelIdeal.Call

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Cel → ℕ) (c : Dev nD) (l : List (Dev nD × Cel))

/-! ## Pieces -/

/-- A slot of one of the ring buffers, filled. -/
abbrev cbP (s : Fin 4) (q : PosShare TreeShare) : sProp 𝕄 := pts c cc0_scratch0 (slotC s).set q (cbC m c)
abbrev ukP (s : Fin 4) (q : PosShare TreeShare) : sProp 𝕄 := pts c cc0_scratch1 (slotW s).set q (ukC m c)
abbrev uvP (s : Fin 4) (q : PosShare TreeShare) : sProp 𝕄 := pts c cc0_scratch2 (slotW s).set q (uvC m c)
/-- A slot of the three ring buffers of a device, with no claim on what it holds. -/
abbrev cbS (c : Dev nD) (s : Fin 4) : sProp 𝕄 := some' (F := F) c cc0_scratch0 (slotC s).set
abbrev ukS (c : Dev nD) (s : Fin 4) : sProp 𝕄 := some' (F := F) c cc0_scratch1 (slotW s).set
abbrev uvS (c : Dev nD) (s : Fin 4) : sProp 𝕄 := some' (F := F) c cc0_scratch2 (slotW s).set
abbrev slots (c : Dev nD) (s : Fin 4) : sProp 𝕄 := iprop(cbS (F := F) c s ∗ ukS c s ∗ uvS c s)
/-- A whole buffer of the device. -/
abbrev whole (b : Ref sig .tc) (Y : b.ty.Contents (Elt F)) : sProp 𝕄 := pts c b Finset.univ fullShare Y
abbrev anyOf (b : Ref sig .tc) : sProp 𝕄 := some' (F := F) c b Finset.univ
/-- The queries of one head. -/
abbrev qsS (j : Fin 4) : sProp 𝕄 := some' (F := F) c cc0_scratch5 (colq j).set
abbrev qsP (j : Fin 4) : sProp 𝕄 := pts c cc0_scratch5 (colq j).set fullShare (qsC m c)
/-- The outputs of one head. -/
abbrev oqS (j : Fin 4) : sProp 𝕄 := some' (F := F) c cc0_scratch10 (colq j).set
abbrev oqP (j : Fin 4) (q : PosShare TreeShare) : sProp 𝕄 := pts c cc0_scratch10 (colq j).set q (oqC m c)
/-- The share of the outputs that the device keeps while they are sent. -/
abbrev kept : PosShare TreeShare := fullShare.right.right
/-- The place for one head's outputs in the peer's gathered outputs, -/
abbrev oaS (i : Fin 3) (j : Fin 4) : sProp 𝕄 := some' (F := F) (peer i c) cc0_scratch11 (oslab (hq c) j).set
/-- in the device's own, for the peer to fill, -/
abbrev oaO (i : Fin 3) (j : Fin 4) : sProp 𝕄 := some' (F := F) c cc0_scratch11 (oslab (qx (hq c) i.succ) j).set
/-- and filled. -/
abbrev oaP (i : Fin 3) (j : Fin 4) : sProp 𝕄 := pts c cc0_scratch11 (oslab (qx (hq c) i.succ) j).set fullShare (oaC m c)
abbrev oaS4 (i : Fin 3) : sProp 𝕄 := iprop(oaS (F := F) c i 0 ∗ oaS c i 1 ∗ oaS c i 2 ∗ oaS c i 3)
abbrev oaO4 (i : Fin 3) : sProp 𝕄 := iprop(oaO (F := F) c i 0 ∗ oaO c i 1 ∗ oaO c i 2 ∗ oaO c i 3)
abbrev oaW (i : Fin 3) : sProp 𝕄 := pts c cc0_scratch11 (oslabW (qx (hq c) i.succ)).set fullShare (oaC m c)
/-- A buffer of output weights, and the rows they come from. -/
abbrev woS (s : Fin 2) : sProp 𝕄 := some' (F := F) c cc0_scratch12 (wslot s).set
abbrev woP (s : Fin 2) (k : Fin 4) : sProp 𝕄 := pts c cc0_scratch12 (wslot s).set fullShare (woC m c k)
abbrev rowP (k : Fin 4) : sProp 𝕄 := pts c main_arg7 (rowo (qx (hq c) k)).set fullShare (xWo m c)
abbrev wqP : sProp 𝕄 := pts c main_arg4 (colwq (hq c)).set fullShare (xWq m c)

/-- The two rights a hop's transfer uses, and those of sending a head's outputs. -/
abbrev hopT (h t : Fin 3) : sProp 𝕄 := iprop(tok (F := F) c (.send h t) 0 ∗ tok (right c) (.recv h t) 0)
abbrev outT (i : Fin 3) (j : Fin 4) : sProp 𝕄 := iprop(tok (F := F) c (.osend i j) 0 ∗ tok (peer i c) (.orecv i j) 0)
/-- What a wait uses. -/
abbrev wt (k : Cel) : sProp 𝕄 := iprop(crd (F := F) c k ∗ own' c k)

/-- What the wait on the barrier gives: the first slots of the right neighbour. -/
theorem bar_payl : (bigSep (dutiesOf .bar) fun d => payl (F := F) m c .bar d) ⊢ iprop(slots (right c) 0 ∗ slots (right c) 1 ∗ slots (right c) 2) := by
  have hd : dutiesOf .bar = insert 0 {1} := by decide
  rw [hd, bigSep_insert (by decide), bigSep_singleton]
  show iprop((slots (right c) 0 ∗ slots (right c) 1 ∗ slots (right c) 2) ∗ emp) ⊢ _
  iintro ⟨H, -⟩
  iexact H

/-- What the meeting with the peers gives: a slab of each of them. -/
theorem xy_payl : (bigSep (dutiesOf .xy) fun d => payl (F := F) m c .xy d) ⊢ iprop(oaS4 c 0 ∗ oaS4 c 1 ∗ oaS4 c 2) := by
  have hd : dutiesOf .xy = insert 0 (insert 1 {2}) := by decide
  rw [hd, bigSep_insert (by decide), bigSep_insert (by decide), bigSep_singleton]
  exact .rfl

/-- The device hands peer `i` the slab that is for the peer's outputs. -/
theorem xy_give (i : Fin 3) : oaO4 (F := F) c i ⊢ payl m (peer i c) .xy i := by
  have : payl (F := F) m (peer i c) .xy i = iprop(some' (peer i (peer i c)) cc0_scratch11 (oslab (hq (peer i c)) 0).set ∗ some' (peer i (peer i c)) cc0_scratch11 (oslab (hq (peer i c)) 1).set
      ∗ some' (peer i (peer i c)) cc0_scratch11 (oslab (hq (peer i c)) 2).set ∗ some' (peer i (peer i c)) cc0_scratch11 (oslab (hq (peer i c)) 3).set) := rfl
  rw [this, peer_peer, hq_peer]

/-! ## Loads and stores of whole buffers -/

theorem emb_zero {s : Shape} {α : Type} (off : Fin s.rank → Nat) (hz : ∀ a, off a = 0) (inb : ∀ a, off a + s.size a ≤ s.size a) (Y : s.Idx → α) :
    (fun x => Y ((Rect.unit (s := s) off s.size inb).emb x)) = Y := by
  funext x
  refine congrArg Y (funext fun a => Fin.ext ?_)
  show off a + 1 * (x a).val = (x a).val
  rw [hz a]; omega

theorem set_zero {s : Shape} (off : Fin s.rank → Nat) (hz : ∀ a, off a = 0) (inb : ∀ a, off a + s.size a ≤ s.size a) :
    (Rect.unit (s := s) off s.size inb).set = Finset.univ := by
  ext i
  simp only [Finset.mem_univ, iff_true, Rect.mem_set_unit]
  intro a
  have := (i a).isLt
  rw [hz a]
  constructor <;> omega

theorem z2 : ∀ a, (![0, 0] : Fin 2 → Nat) a = 0 := by decide
theorem z3 : ∀ a, (![0, 0, 0] : Fin 3 → Nat) a = 0 := by decide

variable {α : Type} {Q : α → sProp (MT nD τ sig Unit (Elt F) ℕ UU ℕ)}

theorem step_ret (a : α) : Q a ⊢ Wp c (.ret a) Q := by
  unfold Wp
  rw [wp_ret]
  exact fupd_intro

/-- A load of a part, with the name of the value. -/
theorem load_val {i : Fin (sig.nNear .tc .vmem)} {hκ : sig.names .tc .vmem i = true}
    (r : Rect ((⟨.vmem, i, hκ⟩ : Ref sig .tc).ty.shape)) (Z : r.shape.Idx → Elt F _) (I : Finset (⟨.vmem, i, hκ⟩ : Ref sig .tc).ty.shape.Idx) (q : PosShare TreeShare)
    (Y : (⟨.vmem, i, hκ⟩ : Ref sig .tc).ty.Contents (Elt F))
    {hl} {k : (r.shape.Idx → Elt F _) → Prog (TpuEff nD τ sig (Elt F) Λ₀ .tc) α} (hS : r.set ⊆ I) (hr : (fun x => Y (r.emb x)) = Z) :
    pts c ⟨.vmem, i, hκ⟩ I q Y ⊢ iprop((pts c ⟨.vmem, i, hκ⟩ I q Y -∗ Wp c (k Z) Q)
      -∗ Wp c (.op (.load (Memref.whole (⟨.vmem, i, hκ⟩ : Ref sig .tc)) r.toLoadRect hl) k) Q) := by
  rw [← hr]
  exact step_load c r I q Y hS

/-- A load whose value is not used. -/
theorem load_any {i : Fin (sig.nNear .tc .vmem)} {hκ : sig.names .tc .vmem i = true}
    (r : Rect ((⟨.vmem, i, hκ⟩ : Ref sig .tc).ty.shape)) (I : Finset (⟨.vmem, i, hκ⟩ : Ref sig .tc).ty.shape.Idx)
    {hl} {k : (r.shape.Idx → Elt F _) → Prog (TpuEff nD τ sig (Elt F) Λ₀ .tc) α} (hS : r.set ⊆ I) :
    some' c ⟨.vmem, i, hκ⟩ I ⊢ iprop((∀ v, some' c ⟨.vmem, i, hκ⟩ I -∗ Wp c (k v) Q)
      -∗ Wp c (.op (.load (Memref.whole (⟨.vmem, i, hκ⟩ : Ref sig .tc)) r.toLoadRect hl) k) Q) := by
  unfold some'
  iintro ⟨%f, H⟩ Hk
  iapply (step_load c r I fullShare f hS) $$ H
  iintro H
  iapply Hk
  iexists f
  iexact H

/-- A store into a part of which nothing is claimed. -/
theorem store_any {i : Fin (sig.nNear .tc .vmem)} {hκ : sig.names .tc .vmem i = true}
    (r : Rect ((⟨.vmem, i, hκ⟩ : Ref sig .tc).ty.shape)) (I : Finset (⟨.vmem, i, hκ⟩ : Ref sig .tc).ty.shape.Idx)
    (Y' : (⟨.vmem, i, hκ⟩ : Ref sig .tc).ty.Contents (Elt F)) (w : r.shape.Idx → Elt F _)
    {hx hm} {k : PUnit → Prog (TpuEff nD τ sig (Elt F) Λ₀ .tc) α} (hI : r.set = I) (hw : ∀ x, w x = Y' (r.emb x)) :
    some' c ⟨.vmem, i, hκ⟩ I ⊢ iprop((pts c ⟨.vmem, i, hκ⟩ I fullShare Y' -∗ Wp c (k ⟨⟩) Q)
      -∗ Wp c (.op (.store (Memref.whole (⟨.vmem, i, hκ⟩ : Ref sig .tc)) r w Finset.univ hx hm) k) Q) := by
  unfold some'
  iintro ⟨%f, H⟩ Hk
  iapply (step_store c r I f Y' w hI hw) $$ H
  iexact Hk

/-- A load of a slab of the gathered outputs, at a place the program computes. -/
theorem load_slab (p : Fin 4) (off : Fin 3 → Nat) (hoff : off = ![p.val, 0, 0]) (inb : ∀ a, off a + S1x1024x512.size a ≤ S4x1024x512.size a)
    (q : PosShare TreeShare) (Y : S4x1024x512.Idx → Elt F .bf16) {hl} {k : (S1x1024x512.Idx → Elt F .bf16) → Prog (TpuEff nD τ sig (Elt F) Λ₀ .tc) α} :
    pts c cc0_scratch11 (oslabW p).set q Y ⊢ iprop((pts c cc0_scratch11 (oslabW p).set q Y -∗ Wp c (k (ld (oslabW p) Y)) Q)
      -∗ Wp c (.op (.load (Memref.whole cc0_scratch11) (Rect.unit (s := S4x1024x512) off S1x1024x512.size inb).toLoadRect hl) k) Q) := by
  subst hoff
  exact wp_load_rect 𝒱₀ (c : Thread nD τ) none Set.univ (m := Memref.whole cc0_scratch11) (r := oslabW p) (f := Y) (hl := hl) (k := k)
    (by rw [show ((Memref.whole cc0_scratch11).access (oslabW p)).set = (oslabW p).set from View.set_slice_whole ..])

/-- Four shares: three to lend, one to keep. -/
theorem oq_shares (j : Fin 4) : oqP m c j fullShare ⊢ iprop(oqP m c j (oshare 0) ∗ oqP m c j (oshare 1) ∗ oqP m c j (oshare 2) ∗ oqP m c j kept) := by
  iintro H
  ihave H' := (pts_halve c cc0_scratch10 _ fullShare _).1 $$ H
  icases H' with ⟨HL, HR⟩
  ihave HL' := (pts_halve c cc0_scratch10 _ fullShare.left _).1 $$ HL
  ihave HR' := (pts_halve c cc0_scratch10 _ fullShare.right _).1 $$ HR
  icases HL' with ⟨H0, H1⟩
  icases HR' with ⟨H2, H3⟩
  isplitl [H0]; · iexact H0
  isplitl [H1]; · iexact H1
  isplitl [H2]; · iexact H2
  iexact H3

/-- The four columns of a buffer make it up. -/
theorem cols_union : ((colq 0).set ∪ ((colq 1).set ∪ ((colq 2).set ∪ (colq 3).set)) : Finset S1024x512.Idx) = Finset.univ := by
  ext i
  have h0 : (i 0).val < 1024 := (i 0).isLt
  have h1 : (i 1).val < 512 := (i 1).isLt
  simp only [Finset.mem_union, Rect.mem_set_unit, Finset.mem_univ, iff_true, Fin.forall_fin_two]
  show (0 ≤ (i 0).val ∧ (i 0).val < 0 + 1024) ∧ (128 * 0 ≤ (i 1).val ∧ (i 1).val < 128 * 0 + 128) ∨
    (0 ≤ (i 0).val ∧ (i 0).val < 0 + 1024) ∧ (128 * 1 ≤ (i 1).val ∧ (i 1).val < 128 * 1 + 128) ∨
    (0 ≤ (i 0).val ∧ (i 0).val < 0 + 1024) ∧ (128 * 2 ≤ (i 1).val ∧ (i 1).val < 128 * 2 + 128) ∨
    (0 ≤ (i 0).val ∧ (i 0).val < 0 + 1024) ∧ (128 * 3 ≤ (i 1).val ∧ (i 1).val < 128 * 3 + 128)
  omega

theorem cols_disj (a b : Fin 4) (h : a ≠ b) : Disjoint (colq a).set (colq b).set := by
  have h' : a.val ≠ b.val := fun e => h (Fin.ext e)
  refine Rect.disjoint_of_axis _ _ (1 : Fin S1024x512.rank) fun j₁ h1 j₂ h2 => ?_
  have h1' : j₁ < 128 := h1
  have h2' : j₂ < 128 := h2
  show 128 * a.val + 1 * j₁ ≠ 128 * b.val + 1 * j₂
  omega

/-- The four columns of a slab make it up. -/
theorem slab_union (p : Fin 4) : ((oslab p 0).set ∪ ((oslab p 1).set ∪ ((oslab p 2).set ∪ (oslab p 3).set)) : Finset S4x1024x512.Idx) = (oslabW p).set := by
  ext i
  have h0 : (i 0).val < 4 := (i 0).isLt
  have h1 : (i 1).val < 1024 := (i 1).isLt
  have h2 : (i 2).val < 512 := (i 2).isLt
  have hp := p.isLt
  simp only [Finset.mem_union, Rect.mem_set_unit]
  have e : ∀ (j : Fin 4), (∀ a, (![p.val, 0, 128 * j.val] : Fin 3 → Nat) a ≤ (i a).val ∧ (i a).val < (![p.val, 0, 128 * j.val] : Fin 3 → Nat) a + S1x1024x128.size a)
      ↔ (i 0).val = p.val ∧ 128 * j.val ≤ (i 2).val ∧ (i 2).val < 128 * j.val + 128 := by
    intro j
    constructor
    · intro h
      have a0 : p.val ≤ (i 0).val ∧ (i 0).val < p.val + 1 := h 0
      have a2 : 128 * j.val ≤ (i 2).val ∧ (i 2).val < 128 * j.val + 128 := h 2
      exact ⟨by omega, a2.1, a2.2⟩
    · rintro ⟨a0, a2, a3⟩ a
      match a with
      | 0 => exact (show p.val ≤ (i 0).val ∧ (i 0).val < p.val + 1 from by omega)
      | 1 => exact (show 0 ≤ (i 1).val ∧ (i 1).val < 0 + 1024 from by omega)
      | 2 => exact ⟨a2, a3⟩
  have eW : (∀ a, (![p.val, 0, 0] : Fin 3 → Nat) a ≤ (i a).val ∧ (i a).val < (![p.val, 0, 0] : Fin 3 → Nat) a + S1x1024x512.size a) ↔ (i 0).val = p.val := by
    constructor
    · intro h
      have a0 : p.val ≤ (i 0).val ∧ (i 0).val < p.val + 1 := h 0
      omega
    · intro a0 a
      match a with
      | 0 => exact (show p.val ≤ (i 0).val ∧ (i 0).val < p.val + 1 from by omega)
      | 1 => exact (show 0 ≤ (i 1).val ∧ (i 1).val < 0 + 1024 from by omega)
      | 2 => exact (show 0 ≤ (i 2).val ∧ (i 2).val < 0 + 512 from by omega)
  rw [e 0, e 1, e 2, e 3, eW]
  show ((i 0).val = p.val ∧ 128 * 0 ≤ (i 2).val ∧ (i 2).val < 128 * 0 + 128) ∨ ((i 0).val = p.val ∧ 128 * 1 ≤ (i 2).val ∧ (i 2).val < 128 * 1 + 128) ∨
    ((i 0).val = p.val ∧ 128 * 2 ≤ (i 2).val ∧ (i 2).val < 128 * 2 + 128) ∨ ((i 0).val = p.val ∧ 128 * 3 ≤ (i 2).val ∧ (i 2).val < 128 * 3 + 128) ↔ _
  omega

theorem slab_disj (p a b : Fin 4) (h : a ≠ b) : Disjoint (oslab p a).set (oslab p b).set := by
  have h' : a.val ≠ b.val := fun e => h (Fin.ext e)
  refine Rect.disjoint_of_axis _ _ (2 : Fin S4x1024x512.rank) fun j₁ h1 j₂ h2 => ?_
  have h1' : j₁ < 128 := h1
  have h2' : j₂ < 128 := h2
  show 128 * a.val + 1 * j₁ ≠ 128 * b.val + 1 * j₂
  omega

/-- Four disjoint parts and their union. -/
theorem pts4 (b : Ref sig .tc) (A B C D : Finset b.ty.shape.Idx) (q : PosShare TreeShare) (f : b.ty.Contents (Elt F))
    (hAB : Disjoint A B) (hAC : Disjoint A C) (hAD : Disjoint A D) (hBC : Disjoint B C) (hBD : Disjoint B D) (hCD : Disjoint C D) :
    (pts c b (A ∪ (B ∪ (C ∪ D))) q f : sProp 𝕄) ⊣⊢ iprop(pts c b A q f ∗ pts c b B q f ∗ pts c b C q f ∗ pts c b D q f) := by
  have h1 : Disjoint A (B ∪ (C ∪ D)) := Finset.disjoint_union_right.mpr ⟨hAB, Finset.disjoint_union_right.mpr ⟨hAC, hAD⟩⟩
  have h2 : Disjoint B (C ∪ D) := Finset.disjoint_union_right.mpr ⟨hBC, hBD⟩
  constructor
  · iintro H
    ihave H1 := (pointsTo_union h1).1 $$ H
    icases H1 with ⟨HA, H⟩
    ihave H2 := (pointsTo_union h2).1 $$ H
    icases H2 with ⟨HB, H⟩
    ihave H3 := (pointsTo_union hCD).1 $$ H
    icases H3 with ⟨HC, HD⟩
    isplitl [HA]; · iexact HA
    isplitl [HB]; · iexact HB
    isplitl [HC] <;> iassumption
  · iintro ⟨HA, HB, HC, HD⟩
    iapply (pointsTo_union h1).2
    isplitl [HA]; · iexact HA
    iapply (pointsTo_union h2).2
    isplitl [HB]; · iexact HB
    iapply (pointsTo_union hCD).2
    isplitl [HC] <;> iassumption

/-- The columns of the outputs, at one share. -/
theorem oq_cols (q : PosShare TreeShare) (f : S1024x512.Idx → Elt F .bf16) :
    (pts c cc0_scratch10 Finset.univ q f : sProp 𝕄) ⊣⊢ iprop(pts c cc0_scratch10 (colq 0).set q f ∗ pts c cc0_scratch10 (colq 1).set q f
      ∗ pts c cc0_scratch10 (colq 2).set q f ∗ pts c cc0_scratch10 (colq 3).set q f) := by
  have h := pts4 (F := F) c cc0_scratch10 (colq 0).set (colq 1).set (colq 2).set (colq 3).set q f (cols_disj 0 1 (by decide)) (cols_disj 0 2 (by decide))
    (cols_disj 0 3 (by decide)) (cols_disj 1 2 (by decide)) (cols_disj 1 3 (by decide)) (cols_disj 2 3 (by decide))
  rw [show ((colq 0).set ∪ ((colq 1).set ∪ ((colq 2).set ∪ (colq 3).set)) : Finset (cc0_scratch10 : Ref sig .tc).ty.shape.Idx) = Finset.univ from cols_union] at h
  exact h

/-- The columns of a slab. -/
theorem oa_cols (i : Fin 3) : iprop(oaP m c i 0 ∗ oaP m c i 1 ∗ oaP m c i 2 ∗ oaP m c i 3) ⊢ oaW m c i := by
  have h := (pts4 (F := F) c cc0_scratch11 (oslab (qx (hq c) i.succ) 0).set (oslab (qx (hq c) i.succ) 1).set (oslab (qx (hq c) i.succ) 2).set (oslab (qx (hq c) i.succ) 3).set
    fullShare (oaC m c) (slab_disj _ 0 1 (by decide)) (slab_disj _ 0 2 (by decide))
    (slab_disj _ 0 3 (by decide)) (slab_disj _ 1 2 (by decide)) (slab_disj _ 1 3 (by decide)) (slab_disj _ 2 3 (by decide))).2
  rw [show ((oslab (qx (hq c) i.succ) 0).set ∪ ((oslab (qx (hq c) i.succ) 1).set ∪ ((oslab (qx (hq c) i.succ) 2).set ∪ (oslab (qx (hq c) i.succ) 3).set))
    : Finset (cc0_scratch11 : Ref sig .tc).ty.shape.Idx) = (oslabW (qx (hq c) i.succ)).set from slab_union _] at h
  exact h

end Cert.KernelIdealProof

end
-- ==== Proof.KernelIdeal.First.lean ====
/-
# The start of the kernel

The device finds its place, the two local fetches start, and the device computes its own blocks.
-/
module

public import proofs.«01_k».proof.Proof.KernelIdeal.Moves

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Cel → ℕ) (c : Dev nD) (l : List (Dev nD × Cel))

/-- The number of the head quarter, as the program computes it. -/
theorem quarter_word (c : Dev nD) :
    Scalar.addi (Scalar.muli (Scalar.remsi (Scalar.divsi (Dev.word c) 8#32) 2#32) 2#32) (Scalar.remsi (Scalar.divsi (Dev.word c) 4#32) 2#32)
      = BitVec.ofNat 32 (hq c).val := by
  revert c; decide +kernel

set_option maxRecDepth 20000 in
/-- The device finds its place. -/
theorem part1 {Q : (Σ' (d0 : Dev nD) (v2 : BitVec 32) (v5 : BitVec 32) (v8 : BitVec 32) (v10 : BitVec 32) (v22 : BitVec 32), BitVec 32) → sProp 𝕄} :
    iprop(∀ v2 v5 v8 v22 v33, Q ⟨c, v2, v5, v8, BitVec.ofNat 32 (hq c).val, v22, v33⟩) ⊢ Wp c (onCall k0_part1) Q := by
  rw [k0_part1_eq_skeleton]
  unfold k0_part1_skel
  simp only [Prog.lift, Prog.bind_op, Prog.bind_ret, Prog.pure_eq_ret, wp_deviceId]
  rw [quarter_word]
  iintro H
  iapply (step_ret c)
  iapply H

/-- More words are computed. -/
theorem part19 (w10 w494 w495 : BitVec 32) (w496 : BitVec 1)
    {Q : (Σ' (v502 : BitVec 32) (v503 : BitVec 32) (v520 : BitVec 32) (v530 : BitVec 32) (v531 : BitVec 32) (c2_i32_531 : BitVec 32) (v532 : BitVec 32) (v534 : BitVec 32), BitVec 32) → sProp 𝕄} :
    iprop(∀ w, Q w) ⊢ Wp c (onCall k0_part19 w10 w494 w495 w496) Q := by
  rw [k0_part19_eq_skeleton]
  unfold k0_part19_skel
  simp only [Prog.lift, Prog.bind_op, Prog.bind_ret, Prog.pure_eq_ret]
  iintro H
  iapply (step_ret c)
  iapply H

set_option maxRecDepth 20000 in
/-- The two fetches start; the own blocks are computed. -/
theorem part2 {Q : (Σ' (v55 : FVec F S1024x2048 .f32), Sems sig S_) → sProp 𝕄} :
    iprop(Pers m K ∗ whole c cc0_stg0_0 (xX m c) ∗ whole c cc0_stg1_0 (xWd m c) ∗ whole c cc0_stg2_0 (xWu m c) ∗ whole c cc0_stg3_0 (xWv m c)
        ∗ whole c cc0_stg4_0 (xWqr m c) ∗ slots c 3 ∗ anyOf c cc0_scratch4 ∗ wqP m c ∗ anyOf c cc0_scratch3 ∗ tok c .wq 0
        ∗ rowP m c 0 ∗ woS c 0 ∗ tok c (.wo 0) 0)
      ⊢ iprop(((whole c cc0_stg0_0 (xX m c) ∗ whole c cc0_stg1_0 (xWd m c) ∗ whole c cc0_stg2_0 (xWu m c) ∗ whole c cc0_stg3_0 (xWv m c)
          ∗ whole c cc0_stg4_0 (xWqr m c) ∗ cbP m c 3 fullShare ∗ ukP m c 3 fullShare ∗ uvP m c 3 fullShare ∗ whole c cc0_scratch4 (wqrC m c)
          ∗ crd c .wq ∗ crd c (.wo 0)) -∗ Q ⟨xv m c, SemArray.scalar (sig.barrier 0 rfl)⟩)
        -∗ Wp c (onCall k0_part2 c (BitVec.ofNat 32 (hq c).val)) Q) := by
  rw [k0_part2_eq_skeleton]
  unfold k0_part2_skel
  have hcase : hq c = 0 ∨ hq c = 1 ∨ hq c = 2 ∨ hq c = 3 := by
    generalize hq c = q
    revert q; decide
  iintro ⟨#HP, HX, Hd, Hu, Hv, Hr, ⟨Sc, Su, Sv⟩, H4, Ha4, H3, Tq, R0, Hw, Tw⟩ Hk
  simp only [Prog.lift, Prog.bind_op, Prog.bind_ret, Prog.pure_eq_ret]
  iapply (fetchWq m K c rfl _ (off1_eq c) _) $$ [Ha4 H3 Tq]
  · isplitr; · iexact HP
    isplitl [Ha4]; · iexact Ha4
    isplitl [H3]; · iexact H3
    iexact Tq
  iintro Cq
  iapply (fetchWo m K c 0 rfl _ (off2_eq c) _ 0 rfl) $$ [R0 Hw Tw]
  · isplitr; · iexact HP
    isplitl [R0]; · iexact R0
    isplitl [Hw]; · iexact Hw
    iexact Tw
  iintro Cw
  rcases hcase with h | h | h | h
  · have hb : BitVec.ofNat 32 (hq c).val = 0#32 := by rw [h]; rfl
    have hu : uOwn m c = k0_pay1 (ld (colu 0) (xWu m c)) := by unfold uOwn; rw [h]
    have hv : vOwn m c = k0_pay2 (ld (colu 0) (xWv m c)) := by unfold vOwn; rw [h]
    have hr : wqrC m c = k0_pay3 (ld (colr 0) (xWqr m c)) := by unfold wqrC; rw [h]
    rw [hb]
    simp only [show Scalar.cmpi .ne (Scalar.extui (Scalar.cmpi .eq 0#32 0#32)) 0#32 = 1#1 from by decide,
      show Scalar.cmpi .ne (Scalar.extui (Scalar.cmpi .eq 0#32 1#32)) 0#32 = 0#1 from by decide,
      show Scalar.cmpi .ne (Scalar.extui (Scalar.cmpi .eq 0#32 2#32)) 0#32 = 0#1 from by decide,
      show Scalar.cmpi .ne (Scalar.extui (Scalar.cmpi .eq 0#32 3#32)) 0#32 = 0#1 from by decide,
      show ¬ ((0#1 : BitVec 1) = 1#1) from by decide, dite_true, dite_false, ↓reduceDIte, Prog.bind_op, Prog.bind_ret, Prog.pure_eq_ret]
    iapply (load_val (i := (cc0_stg2_0 : Ref sig .tc).idx) (hκ := rfl) c (colu 0) (ld (colu 0) (xWu m c)) _ _ _ (Finset.subset_univ _) (by rfl)) $$ Hu
    iintro Hu
    iapply (load_any (i := (cc0_scratch1 : Ref sig .tc).idx) (hκ := rfl) c _ _ (Finset.Subset.refl _)) $$ Su
    iintro %_ Su
    iapply (store_any (i := (cc0_scratch1 : Ref sig .tc).idx) (hκ := rfl) c _ _ (ukC m c) _ rfl (by exact fun x => ((ukC_emb m c 3 x).trans (congrFun hu x)).symm)) $$ Su
    iintro Su
    iapply (load_val (i := (cc0_stg3_0 : Ref sig .tc).idx) (hκ := rfl) c (colu 0) (ld (colu 0) (xWv m c)) _ _ _ (Finset.subset_univ _) (by rfl)) $$ Hv
    iintro Hv
    iapply (load_any (i := (cc0_scratch2 : Ref sig .tc).idx) (hκ := rfl) c _ _ (Finset.Subset.refl _)) $$ Sv
    iintro %_ Sv
    iapply (store_any (i := (cc0_scratch2 : Ref sig .tc).idx) (hκ := rfl) c _ _ (uvC m c) _ rfl (by exact fun x => ((uvC_emb m c 3 x).trans (congrFun hv x)).symm)) $$ Sv
    iintro Sv
    iapply (load_val (i := (cc0_stg4_0 : Ref sig .tc).idx) (hκ := rfl) c (colr 0) (ld (colr 0) (xWqr m c)) _ _ _ (Finset.subset_univ _) (by rfl)) $$ Hr
    iintro Hr
    iapply (load_any (i := (cc0_scratch4 : Ref sig .tc).idx) (hκ := rfl) c _ _ (Finset.subset_univ _)) $$ H4
    iintro %_ H4
    iapply (store_any (i := (cc0_scratch4 : Ref sig .tc).idx) (hκ := rfl) c _ _ (wqrC m c) _ (set_zero _ z2 _)
      (by exact fun x => (congrFun hr.symm x).trans (congrFun (emb_zero _ z2 _ (wqrC m c)) x).symm)) $$ H4
    iintro H4
    iapply (step_load_whole c rfl _ _ _ (xX m c) (emb_zero _ z3 _ _)) $$ HX
    iintro HX
    iapply (step_load_whole c rfl _ _ _ (xWd m c) (emb_zero _ z2 _ _)) $$ Hd
    iintro Hd
    iapply (load_any (i := (cc0_scratch0 : Ref sig .tc).idx) (hκ := rfl) c _ _ (Finset.Subset.refl _)) $$ Sc
    iintro %_ Sc
    iapply (store_any (i := (cc0_scratch0 : Ref sig .tc).idx) (hκ := rfl) c _ _ (cbC m c) _ rfl (by exact fun x => (cbC_emb m c 3 x).symm)) $$ Sc
    iintro Sc
    iapply (step_ret c)
    iapply Hk
    isplitl [HX]; · iexact HX
    isplitl [Hd]; · iexact Hd
    isplitl [Hu]; · iexact Hu
    isplitl [Hv]; · iexact Hv
    isplitl [Hr]; · iexact Hr
    isplitl [Sc]; · iexact Sc
    isplitl [Su]; · iexact Su
    isplitl [Sv]; · iexact Sv
    isplitl [H4]; · iexact H4
    isplitl [Cq]; · iexact Cq
    iexact Cw
  · have hb : BitVec.ofNat 32 (hq c).val = 1#32 := by rw [h]; rfl
    have hu : uOwn m c = k0_pay4 (ld (colu 1) (xWu m c)) := by unfold uOwn; rw [h]; rfl
    have hv : vOwn m c = k0_pay5 (ld (colu 1) (xWv m c)) := by unfold vOwn; rw [h]; rfl
    have hr : wqrC m c = k0_pay6 (ld (colr 1) (xWqr m c)) := by unfold wqrC; rw [h]; rfl
    rw [hb]
    simp only [show Scalar.cmpi .ne (Scalar.extui (Scalar.cmpi .eq 1#32 0#32)) 0#32 = 0#1 from by decide,
      show Scalar.cmpi .ne (Scalar.extui (Scalar.cmpi .eq 1#32 1#32)) 0#32 = 1#1 from by decide,
      show Scalar.cmpi .ne (Scalar.extui (Scalar.cmpi .eq 1#32 2#32)) 0#32 = 0#1 from by decide,
      show Scalar.cmpi .ne (Scalar.extui (Scalar.cmpi .eq 1#32 3#32)) 0#32 = 0#1 from by decide,
      show ¬ ((0#1 : BitVec 1) = 1#1) from by decide, dite_true, dite_false, ↓reduceDIte, Prog.bind_op, Prog.bind_ret, Prog.pure_eq_ret]
    iapply (load_val (i := (cc0_stg2_0 : Ref sig .tc).idx) (hκ := rfl) c (colu 1) (ld (colu 1) (xWu m c)) _ _ _ (Finset.subset_univ _) (by rfl)) $$ Hu
    iintro Hu
    iapply (load_any (i := (cc0_scratch1 : Ref sig .tc).idx) (hκ := rfl) c _ _ (Finset.Subset.refl _)) $$ Su
    iintro %_ Su
    iapply (store_any (i := (cc0_scratch1 : Ref sig .tc).idx) (hκ := rfl) c _ _ (ukC m c) _ rfl (by exact fun x => ((ukC_emb m c 3 x).trans (congrFun hu x)).symm)) $$ Su
    iintro Su
    iapply (load_val (i := (cc0_stg3_0 : Ref sig .tc).idx) (hκ := rfl) c (colu 1) (ld (colu 1) (xWv m c)) _ _ _ (Finset.subset_univ _) (by rfl)) $$ Hv
    iintro Hv
    iapply (load_any (i := (cc0_scratch2 : Ref sig .tc).idx) (hκ := rfl) c _ _ (Finset.Subset.refl _)) $$ Sv
    iintro %_ Sv
    iapply (store_any (i := (cc0_scratch2 : Ref sig .tc).idx) (hκ := rfl) c _ _ (uvC m c) _ rfl (by exact fun x => ((uvC_emb m c 3 x).trans (congrFun hv x)).symm)) $$ Sv
    iintro Sv
    iapply (load_val (i := (cc0_stg4_0 : Ref sig .tc).idx) (hκ := rfl) c (colr 1) (ld (colr 1) (xWqr m c)) _ _ _ (Finset.subset_univ _) (by rfl)) $$ Hr
    iintro Hr
    iapply (load_any (i := (cc0_scratch4 : Ref sig .tc).idx) (hκ := rfl) c _ _ (Finset.subset_univ _)) $$ H4
    iintro %_ H4
    iapply (store_any (i := (cc0_scratch4 : Ref sig .tc).idx) (hκ := rfl) c _ _ (wqrC m c) _ (set_zero _ z2 _)
      (by exact fun x => (congrFun hr.symm x).trans (congrFun (emb_zero _ z2 _ (wqrC m c)) x).symm)) $$ H4
    iintro H4
    iapply (step_load_whole c rfl _ _ _ (xX m c) (emb_zero _ z3 _ _)) $$ HX
    iintro HX
    iapply (step_load_whole c rfl _ _ _ (xWd m c) (emb_zero _ z2 _ _)) $$ Hd
    iintro Hd
    iapply (load_any (i := (cc0_scratch0 : Ref sig .tc).idx) (hκ := rfl) c _ _ (Finset.Subset.refl _)) $$ Sc
    iintro %_ Sc
    iapply (store_any (i := (cc0_scratch0 : Ref sig .tc).idx) (hκ := rfl) c _ _ (cbC m c) _ rfl (by exact fun x => (cbC_emb m c 3 x).symm)) $$ Sc
    iintro Sc
    iapply (step_ret c)
    iapply Hk
    isplitl [HX]; · iexact HX
    isplitl [Hd]; · iexact Hd
    isplitl [Hu]; · iexact Hu
    isplitl [Hv]; · iexact Hv
    isplitl [Hr]; · iexact Hr
    isplitl [Sc]; · iexact Sc
    isplitl [Su]; · iexact Su
    isplitl [Sv]; · iexact Sv
    isplitl [H4]; · iexact H4
    isplitl [Cq]; · iexact Cq
    iexact Cw
  · have hb : BitVec.ofNat 32 (hq c).val = 2#32 := by rw [h]; rfl
    have hu : uOwn m c = k0_pay7 (ld (colu 2) (xWu m c)) := by unfold uOwn; rw [h]; rfl
    have hv : vOwn m c = k0_pay8 (ld (colu 2) (xWv m c)) := by unfold vOwn; rw [h]; rfl
    have hr : wqrC m c = k0_pay9 (ld (colr 2) (xWqr m c)) := by unfold wqrC; rw [h]; rfl
    rw [hb]
    simp only [show Scalar.cmpi .ne (Scalar.extui (Scalar.cmpi .eq 2#32 0#32)) 0#32 = 0#1 from by decide,
      show Scalar.cmpi .ne (Scalar.extui (Scalar.cmpi .eq 2#32 1#32)) 0#32 = 0#1 from by decide,
      show Scalar.cmpi .ne (Scalar.extui (Scalar.cmpi .eq 2#32 2#32)) 0#32 = 1#1 from by decide,
      show Scalar.cmpi .ne (Scalar.extui (Scalar.cmpi .eq 2#32 3#32)) 0#32 = 0#1 from by decide,
      show ¬ ((0#1 : BitVec 1) = 1#1) from by decide, dite_true, dite_false, ↓reduceDIte, Prog.bind_op, Prog.bind_ret, Prog.pure_eq_ret]
    iapply (load_val (i := (cc0_stg2_0 : Ref sig .tc).idx) (hκ := rfl) c (colu 2) (ld (colu 2) (xWu m c)) _ _ _ (Finset.subset_univ _) (by rfl)) $$ Hu
    iintro Hu
    iapply (load_any (i := (cc0_scratch1 : Ref sig .tc).idx) (hκ := rfl) c _ _ (Finset.Subset.refl _)) $$ Su
    iintro %_ Su
    iapply (store_any (i := (cc0_scratch1 : Ref sig .tc).idx) (hκ := rfl) c _ _ (ukC m c) _ rfl (by exact fun x => ((ukC_emb m c 3 x).trans (congrFun hu x)).symm)) $$ Su
    iintro Su
    iapply (load_val (i := (cc0_stg3_0 : Ref sig .tc).idx) (hκ := rfl) c (colu 2) (ld (colu 2) (xWv m c)) _ _ _ (Finset.subset_univ _) (by rfl)) $$ Hv
    iintro Hv
    iapply (load_any (i := (cc0_scratch2 : Ref sig .tc).idx) (hκ := rfl) c _ _ (Finset.Subset.refl _)) $$ Sv
    iintro %_ Sv
    iapply (store_any (i := (cc0_scratch2 : Ref sig .tc).idx) (hκ := rfl) c _ _ (uvC m c) _ rfl (by exact fun x => ((uvC_emb m c 3 x).trans (congrFun hv x)).symm)) $$ Sv
    iintro Sv
    iapply (load_val (i := (cc0_stg4_0 : Ref sig .tc).idx) (hκ := rfl) c (colr 2) (ld (colr 2) (xWqr m c)) _ _ _ (Finset.subset_univ _) (by rfl)) $$ Hr
    iintro Hr
    iapply (load_any (i := (cc0_scratch4 : Ref sig .tc).idx) (hκ := rfl) c _ _ (Finset.subset_univ _)) $$ H4
    iintro %_ H4
    iapply (store_any (i := (cc0_scratch4 : Ref sig .tc).idx) (hκ := rfl) c _ _ (wqrC m c) _ (set_zero _ z2 _)
      (by exact fun x => (congrFun hr.symm x).trans (congrFun (emb_zero _ z2 _ (wqrC m c)) x).symm)) $$ H4
    iintro H4
    iapply (step_load_whole c rfl _ _ _ (xX m c) (emb_zero _ z3 _ _)) $$ HX
    iintro HX
    iapply (step_load_whole c rfl _ _ _ (xWd m c) (emb_zero _ z2 _ _)) $$ Hd
    iintro Hd
    iapply (load_any (i := (cc0_scratch0 : Ref sig .tc).idx) (hκ := rfl) c _ _ (Finset.Subset.refl _)) $$ Sc
    iintro %_ Sc
    iapply (store_any (i := (cc0_scratch0 : Ref sig .tc).idx) (hκ := rfl) c _ _ (cbC m c) _ rfl (by exact fun x => (cbC_emb m c 3 x).symm)) $$ Sc
    iintro Sc
    iapply (step_ret c)
    iapply Hk
    isplitl [HX]; · iexact HX
    isplitl [Hd]; · iexact Hd
    isplitl [Hu]; · iexact Hu
    isplitl [Hv]; · iexact Hv
    isplitl [Hr]; · iexact Hr
    isplitl [Sc]; · iexact Sc
    isplitl [Su]; · iexact Su
    isplitl [Sv]; · iexact Sv
    isplitl [H4]; · iexact H4
    isplitl [Cq]; · iexact Cq
    iexact Cw
  · have hb : BitVec.ofNat 32 (hq c).val = 3#32 := by rw [h]; rfl
    have hu : uOwn m c = k0_pay10 (ld (colu 3) (xWu m c)) := by unfold uOwn; rw [h]; rfl
    have hv : vOwn m c = k0_pay11 (ld (colu 3) (xWv m c)) := by unfold vOwn; rw [h]; rfl
    have hr : wqrC m c = k0_pay12 (ld (colr 3) (xWqr m c)) := by unfold wqrC; rw [h]; rfl
    rw [hb]
    simp only [show Scalar.cmpi .ne (Scalar.extui (Scalar.cmpi .eq 3#32 0#32)) 0#32 = 0#1 from by decide,
      show Scalar.cmpi .ne (Scalar.extui (Scalar.cmpi .eq 3#32 1#32)) 0#32 = 0#1 from by decide,
      show Scalar.cmpi .ne (Scalar.extui (Scalar.cmpi .eq 3#32 2#32)) 0#32 = 0#1 from by decide,
      show Scalar.cmpi .ne (Scalar.extui (Scalar.cmpi .eq 3#32 3#32)) 0#32 = 1#1 from by decide,
      show ¬ ((0#1 : BitVec 1) = 1#1) from by decide, dite_true, dite_false, ↓reduceDIte, Prog.bind_op, Prog.bind_ret, Prog.pure_eq_ret]
    iapply (load_val (i := (cc0_stg2_0 : Ref sig .tc).idx) (hκ := rfl) c (colu 3) (ld (colu 3) (xWu m c)) _ _ _ (Finset.subset_univ _) (by rfl)) $$ Hu
    iintro Hu
    iapply (load_any (i := (cc0_scratch1 : Ref sig .tc).idx) (hκ := rfl) c _ _ (Finset.Subset.refl _)) $$ Su
    iintro %_ Su
    iapply (store_any (i := (cc0_scratch1 : Ref sig .tc).idx) (hκ := rfl) c _ _ (ukC m c) _ rfl (by exact fun x => ((ukC_emb m c 3 x).trans (congrFun hu x)).symm)) $$ Su
    iintro Su
    iapply (load_val (i := (cc0_stg3_0 : Ref sig .tc).idx) (hκ := rfl) c (colu 3) (ld (colu 3) (xWv m c)) _ _ _ (Finset.subset_univ _) (by rfl)) $$ Hv
    iintro Hv
    iapply (load_any (i := (cc0_scratch2 : Ref sig .tc).idx) (hκ := rfl) c _ _ (Finset.Subset.refl _)) $$ Sv
    iintro %_ Sv
    iapply (store_any (i := (cc0_scratch2 : Ref sig .tc).idx) (hκ := rfl) c _ _ (uvC m c) _ rfl (by exact fun x => ((uvC_emb m c 3 x).trans (congrFun hv x)).symm)) $$ Sv
    iintro Sv
    iapply (load_val (i := (cc0_stg4_0 : Ref sig .tc).idx) (hκ := rfl) c (colr 3) (ld (colr 3) (xWqr m c)) _ _ _ (Finset.subset_univ _) (by rfl)) $$ Hr
    iintro Hr
    iapply (load_any (i := (cc0_scratch4 : Ref sig .tc).idx) (hκ := rfl) c _ _ (Finset.subset_univ _)) $$ H4
    iintro %_ H4
    iapply (store_any (i := (cc0_scratch4 : Ref sig .tc).idx) (hκ := rfl) c _ _ (wqrC m c) _ (set_zero _ z2 _)
      (by exact fun x => (congrFun hr.symm x).trans (congrFun (emb_zero _ z2 _ (wqrC m c)) x).symm)) $$ H4
    iintro H4
    iapply (step_load_whole c rfl _ _ _ (xX m c) (emb_zero _ z3 _ _)) $$ HX
    iintro HX
    iapply (step_load_whole c rfl _ _ _ (xWd m c) (emb_zero _ z2 _ _)) $$ Hd
    iintro Hd
    iapply (load_any (i := (cc0_scratch0 : Ref sig .tc).idx) (hκ := rfl) c _ _ (Finset.Subset.refl _)) $$ Sc
    iintro %_ Sc
    iapply (store_any (i := (cc0_scratch0 : Ref sig .tc).idx) (hκ := rfl) c _ _ (cbC m c) _ rfl (by exact fun x => (cbC_emb m c 3 x).symm)) $$ Sc
    iintro Sc
    iapply (step_ret c)
    iapply Hk
    isplitl [HX]; · iexact HX
    isplitl [Hd]; · iexact Hd
    isplitl [Hu]; · iexact Hu
    isplitl [Hv]; · iexact Hv
    isplitl [Hr]; · iexact Hr
    isplitl [Sc]; · iexact Sc
    isplitl [Su]; · iexact Su
    isplitl [Sv]; · iexact Sv
    isplitl [H4]; · iexact H4
    isplitl [Cq]; · iexact Cq
    iexact Cw

end Cert.KernelIdealProof

end
-- ==== Proof.KernelIdeal.Ring1.lean ====
/-
# The first hop of the ring

One rule for each part of the kernel, from what it uses to what it leaves.
-/
module

public import proofs.«01_k».proof.Proof.KernelIdeal.Moves

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Cel → ℕ) (c : Dev nD) (l : List (Dev nD × Cel))

set_option maxRecDepth 20000 in
/-- Both neighbours are told that this device is ready; then the first block of the latent is sent on. -/
theorem part3 (w2 w5 w22 w33 : BitVec 32) {Q : PUnit → sProp 𝕄} (hl : ∀ x ∈ l, 1 < lvl x.2) :
    iprop(Pers m K ∗ (slots (F := F) c 0 ∗ slots c 1 ∗ slots c 2) ∗ tok (left c) .bar 0 ∗ tok (right c) .bar 1 ∗ wt c .bar ∗ cbP m c 3 fullShare ∗ hopT c 0 0 ∗ owesE c ((left c, .bar) :: (right c, .bar) :: (right c, .recv 0 0) :: l))
      ⊢ iprop(((done c .bar ∗ cbP m c 3 fullShare.right ∗ crd c (.send 0 0) ∗ ukS (right c) 0 ∗ uvS (right c) 0 ∗ slots (right c) 1 ∗ slots (right c) 2 ∗ owesE c (l)) -∗ Q ⟨⟩) -∗ Wp c (onCall k0_part3 c w2 w5 w22 w33 (SemArray.scalar (sig.barrier 0 rfl))) Q) := by
  rw [k0_part3_eq_skeleton]
  unfold k0_part3_skel
  simp only [semSignalWord, semWaitWord, Prog.lift, Prog.bind_op, Prog.bind_ret, Prog.pure_eq_ret]
  iintro ⟨#HP, Hs, Ht0, Ht1, Wb, Hc, T, HO⟩ Hk
  icases Wb with ⟨Wbc, Wbo⟩
  iapply (step_signal m K c (left c) .bar 0 _ (dev1_eq c) rfl (by decide) rfl _ (by decide)) $$ [HO Ht0 Hs]
  · isplitr; · iexact HP
    isplitl [HO]; · iexact HO
    isplitl [Ht0]; · iexact Ht0
    have hpay : (payl (F := F) m (left c) .bar 0 : sProp 𝕄) = iprop(slots c 0 ∗ slots c 1 ∗ slots c 2) := by
      show iprop(slots (right (left c)) 0 ∗ slots (right (left c)) 1 ∗ slots (right (left c)) 2) = _
      rw [right_left]
    rw [hpay]
    iexact Hs
  iintro HO
  iapply (step_signal m K c (right c) .bar 1 _ (dev2_eq c) rfl (by decide) rfl _ (by decide)) $$ [HO Ht1]
  · isplitr; · iexact HP
    isplitl [HO]; · iexact HO
    isplitl [Ht1]; · iexact Ht1
    show _ ⊢ emp
    iintro _
    iempintro
  iintro HO
  iapply (step_wait m K c .bar 1 (by decide) ((right c, .recv 0 0) :: l) (fun x hx => (List.mem_cons.mp hx).elim (fun e => e ▸ (by decide : 1 < lvl (.recv 0 0))) (hl x))
    (wpE_semWait_eq 𝒱₀ (c : Thread nD τ) none Set.univ) rfl (by decide)) $$ [Wbc Wbo HO]
  · isplitr; · iexact HP
    isplitl [Wbc]; · iexact Wbc
    isplitl [Wbo] <;> iassumption
  iintro ⟨Db, HO, Hp⟩
  ihave Hp' := (bar_payl m c) $$ Hp
  icases Hp' with ⟨⟨Ha, Hb0, Hb1⟩, Hs1, Hs2⟩
  ihave Hc := (pts_halve c cc0_scratch0 _ fullShare (cbC m c)).1 $$ Hc
  icases Hc with ⟨HcL, Hc⟩
  icases T with ⟨Ts, Tr⟩
  iapply (hop0 m K c 0 _ _ (dev3_eq c) rfl rfl) $$ [HcL Ha HO Ts Tr]
  · isplitr; · iexact HP
    isplitl [HcL]; · iexact HcL
    isplitl [Ha]; · iexact Ha
    isplitl [HO]; · iexact HO
    isplitl [Ts]; · iexact Ts
    iexact Tr
  iintro ⟨C00, HO⟩
  iapply (step_ret c)
  iapply Hk
  isplitl [Db]; · iexact Db
  isplitl [Hc]; · iexact Hc
  isplitl [C00]; · iexact C00
  isplitl [Hb0]; · iexact Hb0
  isplitl [Hb1]; · iexact Hb1
  isplitl [Hs1]; · iexact Hs1
  isplitl [Hs2]; · iexact Hs2
  iexact HO

set_option maxRecDepth 20000 in
/-- The first blocks of the up-projections are sent on; the own latent block is read. -/
theorem part4 (w2 w5 w33 : BitVec 32) {Q : FVec F S1024x128 .bf16 → sProp 𝕄} :
    iprop(Pers m K ∗ ukP m c 3 fullShare ∗ uvP m c 3 fullShare ∗ cbP m c 3 fullShare.right ∗ hopT c 0 1 ∗ hopT c 0 2 ∗ ukS (right c) 0 ∗ uvS (right c) 0 ∗ owesE c ((right c, .recv 0 1) :: (right c, .recv 0 2) :: l))
      ⊢ iprop(((cbP m c 3 fullShare.right ∗ ukP m c 3 fullShare.right ∗ uvP m c 3 fullShare.right ∗ crd c (.send 0 1) ∗ crd c (.send 0 2) ∗ owesE c (l)) -∗ Q (k0_pay15 (cS m c 3))) -∗ Wp c (onCall k0_part4 c w2 w5 w33) Q) := by
  rw [k0_part4_eq_skeleton]
  unfold k0_part4_skel
  simp only [semSignalWord, semWaitWord, Prog.lift, Prog.bind_op, Prog.bind_ret, Prog.pure_eq_ret]
  iintro ⟨#HP, Hu, Hv, Hc, T1, T2, Hb0, Hb1, HO⟩ Hk
  ihave Hu := (pts_halve c cc0_scratch1 _ fullShare (ukC m c)).1 $$ Hu
  icases Hu with ⟨HuL, Hu⟩
  icases T1 with ⟨T1s, T1r⟩
  iapply (hop1 m K c 0 _ _ (dev4_eq c) rfl rfl) $$ [HuL Hb0 HO T1s T1r]
  · isplitr; · iexact HP
    isplitl [HuL]; · iexact HuL
    isplitl [Hb0]; · iexact Hb0
    isplitl [HO]; · iexact HO
    isplitl [T1s]; · iexact T1s
    iexact T1r
  iintro ⟨C01, HO⟩
  ihave Hv := (pts_halve c cc0_scratch2 _ fullShare (uvC m c)).1 $$ Hv
  icases Hv with ⟨HvL, Hv⟩
  icases T2 with ⟨T2s, T2r⟩
  iapply (hop2 m K c 0 _ _ (dev5_eq c) rfl rfl) $$ [HvL Hb1 HO T2s T2r]
  · isplitr; · iexact HP
    isplitl [HvL]; · iexact HvL
    isplitl [Hb1]; · iexact Hb1
    isplitl [HO]; · iexact HO
    isplitl [T2s]; · iexact T2s
    iexact T2r
  iintro ⟨C02, HO⟩
  iapply (load_val (i := (cc0_scratch0 : Ref sig .tc).idx) (hκ := rfl) c (slotC 3) (cS m c 3) _ _ _ (Finset.Subset.refl _) (by rfl)) $$ Hc
  iintro Hc
  iapply (step_ret c)
  iapply Hk
  isplitl [Hc]; · iexact Hc
  isplitl [Hu]; · iexact Hu
  isplitl [Hv]; · iexact Hv
  isplitl [C01]; · iexact C01
  isplitl [C02]; · iexact C02
  iexact HO

set_option maxRecDepth 20000 in
/-- The first terms of the keys and the values, the rotary queries and keys, and the first head of the queries. -/
theorem part5 {Q : (Σ' (v148 : FVec F S1024x128 .f32), F .f32) → sProp 𝕄} (hl : ∀ x ∈ l, 0 < lvl x.2) :
    iprop(Pers m K ∗ ukP m c 3 fullShare.right ∗ uvP m c 3 fullShare.right ∗ anyOf c cc0_scratch6 ∗ anyOf c cc0_scratch7 ∗ whole c cc0_scratch4 (wqrC m c) ∗ anyOf c cc0_scratch8 ∗ anyOf c cc0_scratch9 ∗ whole c cc0_stg5_0 (xWkr m c) ∗ wt c .wq ∗ owesE c (l))
      ⊢ iprop(((ukP m c 3 fullShare.right ∗ uvP m c 3 fullShare.right ∗ whole c cc0_scratch4 (wqrC m c) ∗ whole c cc0_stg5_0 (xWkr m c) ∗ whole c cc0_scratch6 (kA0 m c) ∗ whole c cc0_scratch7 (vA0 m c) ∗ whole c cc0_scratch8 (qrC m c) ∗ whole c cc0_scratch9 (krC m c) ∗ whole c cc0_scratch3 (wqC m c) ∗ wqP m c ∗ done c .wq ∗ owesE c (l)) -∗ Q ⟨k0_pay20 (xv m c) (ld (colr 0) (wqC m c)), Scalar.ofBits .f32 0x3DA1E89B#32⟩) -∗ Wp c (onCall k0_part5 c (xv m c) (k0_pay15 (cS m c 3))) Q) := by
  rw [k0_part5_eq_skeleton]
  unfold k0_part5_skel
  simp only [semSignalWord, semWaitWord, Prog.lift, Prog.bind_op, Prog.bind_ret, Prog.pure_eq_ret]
  iintro ⟨#HP, Hu, Hv, H6, H7, H4, H8, H9, Hkr, Wq, HO⟩ Hk
  iapply (load_val (i := (cc0_scratch1 : Ref sig .tc).idx) (hκ := rfl) c (slotW 3) (uS m c 3) _ _ _ (Finset.Subset.refl _) (by rfl)) $$ Hu
  iintro Hu
  iapply (load_val (i := (cc0_scratch2 : Ref sig .tc).idx) (hκ := rfl) c (slotW 3) (vS m c 3) _ _ _ (Finset.Subset.refl _) (by rfl)) $$ Hv
  iintro Hv
  iapply (load_any (i := (cc0_scratch6 : Ref sig .tc).idx) (hκ := rfl) c _ _ (Finset.subset_univ _)) $$ H6
  iintro %_ H6
  iapply (store_any (i := (cc0_scratch6 : Ref sig .tc).idx) (hκ := rfl) c _ _ (kA0 m c) _ (set_zero _ z2 _) fun x => (congrFun (emb_zero _ z2 _ (kA0 m c)) x).symm) $$ H6
  iintro H6
  iapply (load_any (i := (cc0_scratch7 : Ref sig .tc).idx) (hκ := rfl) c _ _ (Finset.subset_univ _)) $$ H7
  iintro %_ H7
  iapply (store_any (i := (cc0_scratch7 : Ref sig .tc).idx) (hκ := rfl) c _ _ (vA0 m c) _ (set_zero _ z2 _) fun x => (congrFun (emb_zero _ z2 _ (vA0 m c)) x).symm) $$ H7
  iintro H7
  iapply (step_load_whole c rfl _ _ _ (wqrC m c) (emb_zero _ z2 _ _)) $$ H4
  iintro H4
  iapply (load_any (i := (cc0_scratch8 : Ref sig .tc).idx) (hκ := rfl) c _ _ (Finset.subset_univ _)) $$ H8
  iintro %_ H8
  iapply (store_any (i := (cc0_scratch8 : Ref sig .tc).idx) (hκ := rfl) c _ _ (qrC m c) _ (set_zero _ z2 _) fun x => (congrFun (emb_zero _ z2 _ (qrC m c)) x).symm) $$ H8
  iintro H8
  iapply (step_load_whole c rfl _ _ _ (xWkr m c) (emb_zero _ z2 _ _)) $$ Hkr
  iintro Hkr
  iapply (load_any (i := (cc0_scratch9 : Ref sig .tc).idx) (hκ := rfl) c _ _ (Finset.subset_univ _)) $$ H9
  iintro %_ H9
  iapply (store_any (i := (cc0_scratch9 : Ref sig .tc).idx) (hκ := rfl) c _ _ (krC m c) _ (set_zero _ z2 _) fun x => (congrFun (emb_zero _ z2 _ (krC m c)) x).symm) $$ H9
  iintro H9
  icases Wq with ⟨Wqc, Wqo⟩
  iapply (step_waitDma m K c (.wq) 0 (by decide) _ hl rfl rfl cntQ_eq.symm) $$ [Wqc Wqo HO]
  · isplitr; · iexact HP
    isplitl [Wqc]; · iexact Wqc
    isplitl [Wqo]; · iexact Wqo
    iexact HO
  iintro ⟨DWq, HO, Hq⟩
  ihave Hq := (show payl (F := F) m c (.wq) 0 ⊢ iprop(whole c cc0_scratch3 (wqC m c) ∗ wqP m c) from .rfl) $$ Hq
  icases Hq with ⟨H3, Ha4⟩
  iapply (load_val (i := (cc0_scratch3 : Ref sig .tc).idx) (hκ := rfl) c (colr 0) (ld (colr 0) (wqC m c)) _ _ _ (Finset.subset_univ _) (by rfl)) $$ H3
  iintro H3
  iapply (step_ret c)
  iapply Hk
  isplitl [Hu]; · iexact Hu
  isplitl [Hv]; · iexact Hv
  isplitl [H4]; · iexact H4
  isplitl [Hkr]; · iexact Hkr
  isplitl [H6]; · iexact H6
  isplitl [H7]; · iexact H7
  isplitl [H8]; · iexact H8
  isplitl [H9]; · iexact H9
  isplitl [H3]; · iexact H3
  isplitl [Ha4]; · iexact Ha4
  isplitl [DWq]; · iexact DWq
  iexact HO

set_option maxRecDepth 20000 in
/-- The first head of the queries is stored; the first hop of the latent ends. -/
theorem part6 (w2 w5 w33 : BitVec 32) {Q : PUnit → sProp 𝕄} (hl : ∀ x ∈ l, 2 < lvl x.2) :
    iprop(Pers m K ∗ qsS c 0 ∗ wt c (.send 0 0) ∗ cbP m c 3 fullShare.right ∗ wt c (.recv 0 0) ∗ owesE c (l))
      ⊢ iprop(((qsP m c 0 ∗ done c (.send 0 0) ∗ cbP m c 3 fullShare ∗ done c (.recv 0 0) ∗ cbP m c 0 fullShare ∗ owesE c (l)) -∗ Q ⟨⟩) -∗ Wp c (onCall k0_part6 w2 w5 w33 (k0_pay20 (xv m c) (ld (colr 0) (wqC m c))) (Scalar.ofBits .f32 0x3DA1E89B#32)) Q) := by
  rw [k0_part6_eq_skeleton]
  unfold k0_part6_skel
  simp only [semSignalWord, semWaitWord, Prog.lift, Prog.bind_op, Prog.bind_ret, Prog.pure_eq_ret]
  iintro ⟨#HP, Hq, W00s, Bcb3, W00r, HO⟩ Hk
  iapply (load_any (i := (cc0_scratch5 : Ref sig .tc).idx) (hκ := rfl) c _ _ (Finset.Subset.refl _)) $$ Hq
  iintro %_ Hq
  iapply (store_any (i := (cc0_scratch5 : Ref sig .tc).idx) (hκ := rfl) c (colq 0) _ (qsC m c) _ rfl (by exact fun x => (cols4_emb (qH m c) 0 x).symm)) $$ Hq
  iintro Hq
  icases W00s with ⟨W00sc, W00so⟩
  iapply (step_waitDma m K c (.send 0 0) 2 (by decide) _ hl rfl rfl cntC_eq.symm) $$ [W00sc W00so HO]
  · isplitr; · iexact HP
    isplitl [W00sc]; · iexact W00sc
    isplitl [W00so]; · iexact W00so
    iexact HO
  iintro ⟨DW00s, HO, Hx⟩
  ihave Hx := (show payl (F := F) m c (.send 0 0) 0 ⊢ cbP m c 3 fullShare.left from .rfl) $$ Hx
  ihave Bcb3 := (pts_halve c cc0_scratch0 _ fullShare (cbC m c)).2 $$ [Hx Bcb3]
  · isplitl [Hx]; · iexact Hx
    iexact Bcb3
  icases W00r with ⟨W00rc, W00ro⟩
  iapply (step_waitDma m K c (.recv 0 0) 2 (by decide) _ hl rfl rfl cntC_eq.symm) $$ [W00rc W00ro HO]
  · isplitr; · iexact HP
    isplitl [W00rc]; · iexact W00rc
    isplitl [W00ro]; · iexact W00ro
    iexact HO
  iintro ⟨DW00r, HO, Ncb0⟩
  ihave Ncb0 := (show payl (F := F) m c (.recv 0 0) 0 ⊢ cbP m c 0 fullShare from .rfl) $$ Ncb0
  iapply (step_ret c)
  iapply Hk
  isplitl [Hq]; · iexact Hq
  isplitl [DW00s]; · iexact DW00s
  isplitl [Bcb3]; · iexact Bcb3
  isplitl [DW00r]; · iexact DW00r
  isplitl [Ncb0]; · iexact Ncb0
  iexact HO

set_option maxRecDepth 20000 in
/-- The first hop of the up-projections. -/
theorem part7 (w2 w5 w33 : BitVec 32) {Q : PUnit → sProp 𝕄} (hl : ∀ x ∈ l, 2 < lvl x.2) :
    iprop(Pers m K ∗ wt c (.send 0 1) ∗ ukP m c 3 fullShare.right ∗ wt c (.recv 0 1) ∗ wt c (.send 0 2) ∗ uvP m c 3 fullShare.right ∗ owesE c (l))
      ⊢ iprop(((done c (.send 0 1) ∗ ukP m c 3 fullShare ∗ done c (.recv 0 1) ∗ ukP m c 0 fullShare ∗ done c (.send 0 2) ∗ uvP m c 3 fullShare ∗ owesE c (l)) -∗ Q ⟨⟩) -∗ Wp c (onCall k0_part7 w2 w5 w33) Q) := by
  rw [k0_part7_eq_skeleton]
  unfold k0_part7_skel
  simp only [semSignalWord, semWaitWord, Prog.lift, Prog.bind_op, Prog.bind_ret, Prog.pure_eq_ret]
  iintro ⟨#HP, W01s, Buk3, W01r, W02s, Buv3, HO⟩ Hk
  icases W01s with ⟨W01sc, W01so⟩
  iapply (step_waitDma m K c (.send 0 1) 2 (by decide) _ hl rfl rfl cntU_eq.symm) $$ [W01sc W01so HO]
  · isplitr; · iexact HP
    isplitl [W01sc]; · iexact W01sc
    isplitl [W01so]; · iexact W01so
    iexact HO
  iintro ⟨DW01s, HO, Hx⟩
  ihave Hx := (show payl (F := F) m c (.send 0 1) 0 ⊢ ukP m c 3 fullShare.left from .rfl) $$ Hx
  ihave Buk3 := (pts_halve c cc0_scratch1 _ fullShare (ukC m c)).2 $$ [Hx Buk3]
  · isplitl [Hx]; · iexact Hx
    iexact Buk3
  icases W01r with ⟨W01rc, W01ro⟩
  iapply (step_waitDma m K c (.recv 0 1) 2 (by decide) _ hl rfl rfl cntU_eq.symm) $$ [W01rc W01ro HO]
  · isplitr; · iexact HP
    isplitl [W01rc]; · iexact W01rc
    isplitl [W01ro]; · iexact W01ro
    iexact HO
  iintro ⟨DW01r, HO, Nuk0⟩
  ihave Nuk0 := (show payl (F := F) m c (.recv 0 1) 0 ⊢ ukP m c 0 fullShare from .rfl) $$ Nuk0
  icases W02s with ⟨W02sc, W02so⟩
  iapply (step_waitDma m K c (.send 0 2) 2 (by decide) _ hl rfl rfl cntV_eq.symm) $$ [W02sc W02so HO]
  · isplitr; · iexact HP
    isplitl [W02sc]; · iexact W02sc
    isplitl [W02so]; · iexact W02so
    iexact HO
  iintro ⟨DW02s, HO, Hx⟩
  ihave Hx := (show payl (F := F) m c (.send 0 2) 0 ⊢ uvP m c 3 fullShare.left from .rfl) $$ Hx
  ihave Buv3 := (pts_halve c cc0_scratch2 _ fullShare (uvC m c)).2 $$ [Hx Buv3]
  · isplitl [Hx]; · iexact Hx
    iexact Buv3
  iapply (step_ret c)
  iapply Hk
  isplitl [DW01s]; · iexact DW01s
  isplitl [Buk3]; · iexact Buk3
  isplitl [DW01r]; · iexact DW01r
  isplitl [Nuk0]; · iexact Nuk0
  isplitl [DW02s]; · iexact DW02s
  isplitl [Buv3]; · iexact Buv3
  iexact HO

set_option maxRecDepth 20000 in
/-- The first hop ends, and the latent starts on the second. -/
theorem part8 (w2 w5 w33 : BitVec 32) {Q : BitVec 32 → sProp 𝕄} (hl : ∀ x ∈ (right c, .recv 1 0) :: l, 2 < lvl x.2) :
    iprop(Pers m K ∗ wt c (.recv 0 2) ∗ cbP m c 0 fullShare ∗ cbS (right c) 1 ∗ hopT c 1 0 ∗ owesE c ((right c, .recv 1 0) :: l))
      ⊢ iprop((∀ w, (done c (.recv 0 2) ∗ uvP m c 0 fullShare ∗ cbP m c 0 fullShare.right ∗ crd c (.send 1 0) ∗ owesE c (l)) -∗ Q w) -∗ Wp c (onCall k0_part8 c w2 w5 w33) Q) := by
  rw [k0_part8_eq_skeleton]
  unfold k0_part8_skel
  simp only [semSignalWord, semWaitWord, Prog.lift, Prog.bind_op, Prog.bind_ret, Prog.pure_eq_ret]
  iintro ⟨#HP, W02r, Hc, Hd, T, HO⟩ Hk
  icases W02r with ⟨W02rc, W02ro⟩
  iapply (step_waitDma m K c (.recv 0 2) 2 (by decide) _ hl rfl rfl cntV_eq.symm) $$ [W02rc W02ro HO]
  · isplitr; · iexact HP
    isplitl [W02rc]; · iexact W02rc
    isplitl [W02ro]; · iexact W02ro
    iexact HO
  iintro ⟨DW02r, HO, Nuv0⟩
  ihave Nuv0 := (show payl (F := F) m c (.recv 0 2) 0 ⊢ uvP m c 0 fullShare from .rfl) $$ Nuv0
  ihave Hc := (pts_halve c cc0_scratch0 _ fullShare (cbC m c)).1 $$ Hc
  icases Hc with ⟨HcL, Hc⟩
  icases T with ⟨Ts, Tr⟩
  iapply (hop0 m K c 1 _ _ (dev6_eq c) rfl rfl) $$ [HcL Hd HO Ts Tr]
  · isplitr; · iexact HP
    isplitl [HcL]; · iexact HcL
    isplitl [Hd]; · iexact Hd
    isplitl [HO]; · iexact HO
    isplitl [Ts]; · iexact Ts
    iexact Tr
  iintro ⟨C10, HO⟩
  iapply (step_ret c)
  iapply Hk
  isplitl [DW02r]; · iexact DW02r
  isplitl [Nuv0]; · iexact Nuv0
  isplitl [Hc]; · iexact Hc
  isplitl [C10]; · iexact C10
  iexact HO

end Cert.KernelIdealProof

end
-- ==== Proof.KernelIdeal.Ring2.lean ====
/-
# The second hop

One rule for each part of the kernel, from what it uses to what it leaves.
-/
module

public import proofs.«01_k».proof.Proof.KernelIdeal.Moves

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Cel → ℕ) (c : Dev nD) (l : List (Dev nD × Cel))

set_option maxRecDepth 20000 in
/-- The up-projections start on the second hop; the blocks that came are read. -/
theorem part9 (w2 w5 w33 w222 : BitVec 32) {Q : (Σ' (v251 : FVec F S1024x128 .bf16), FVec F S128x512 .bf16) → sProp 𝕄} :
    iprop(Pers m K ∗ ukP m c 0 fullShare ∗ uvP m c 0 fullShare ∗ ukS (right c) 1 ∗ uvS (right c) 1 ∗ hopT c 1 1 ∗ hopT c 1 2 ∗ cbP m c 0 fullShare.right ∗ owesE c ((right c, .recv 1 1) :: (right c, .recv 1 2) :: l))
      ⊢ iprop(((cbP m c 0 fullShare.right ∗ ukP m c 0 fullShare.right ∗ uvP m c 0 fullShare.right ∗ crd c (.send 1 1) ∗ crd c (.send 1 2) ∗ owesE c (l)) -∗ Q ⟨k0_pay22 (cS m c 0), k0_pay23 (uS m c 0)⟩) -∗ Wp c (onCall k0_part9 c w2 w5 w33 w222) Q) := by
  rw [k0_part9_eq_skeleton]
  unfold k0_part9_skel
  simp only [semSignalWord, semWaitWord, Prog.lift, Prog.bind_op, Prog.bind_ret, Prog.pure_eq_ret]
  iintro ⟨#HP, Hu, Hv, Hd1, Hd2, T1, T2, Hc, HO⟩ Hk
  ihave Hu := (pts_halve c cc0_scratch1 _ fullShare (ukC m c)).1 $$ Hu
  icases Hu with ⟨HuL, Hu⟩
  icases T1 with ⟨T1s, T1r⟩
  iapply (hop1 m K c 1 _ _ (dev7_eq c) rfl rfl) $$ [HuL Hd1 HO T1s T1r]
  · isplitr; · iexact HP
    isplitl [HuL]; · iexact HuL
    isplitl [Hd1]; · iexact Hd1
    isplitl [HO]; · iexact HO
    isplitl [T1s]; · iexact T1s
    iexact T1r
  iintro ⟨C11, HO⟩
  ihave Hv := (pts_halve c cc0_scratch2 _ fullShare (uvC m c)).1 $$ Hv
  icases Hv with ⟨HvL, Hv⟩
  icases T2 with ⟨T2s, T2r⟩
  iapply (hop2 m K c 1 _ _ (dev8_eq c) rfl rfl) $$ [HvL Hd2 HO T2s T2r]
  · isplitr; · iexact HP
    isplitl [HvL]; · iexact HvL
    isplitl [Hd2]; · iexact Hd2
    isplitl [HO]; · iexact HO
    isplitl [T2s]; · iexact T2s
    iexact T2r
  iintro ⟨C12, HO⟩
  iapply (load_val (i := (cc0_scratch0 : Ref sig .tc).idx) (hκ := rfl) c (slotC 0) (cS m c 0) _ _ _ (Finset.Subset.refl _) (by rfl)) $$ Hc
  iintro Hc
  iapply (load_val (i := (cc0_scratch1 : Ref sig .tc).idx) (hκ := rfl) c (slotW 0) (uS m c 0) _ _ _ (Finset.Subset.refl _) (by rfl)) $$ Hu
  iintro Hu
  iapply (step_ret c)
  iapply Hk
  isplitl [Hc]; · iexact Hc
  isplitl [Hu]; · iexact Hu
  isplitl [Hv]; · iexact Hv
  isplitl [C11]; · iexact C11
  isplitl [C12]; · iexact C12
  iexact HO

set_option maxRecDepth 20000 in
/-- The second terms of the keys and the values, and the second head of the queries. -/
theorem part10 {Q : PUnit → sProp 𝕄} :
    iprop(Pers m K ∗ uvP m c 0 fullShare.right ∗ whole c cc0_scratch6 (kA0 m c) ∗ whole c cc0_scratch7 (vA0 m c) ∗ whole c cc0_scratch3 (wqC m c) ∗ qsS c 1)
      ⊢ iprop(((uvP m c 0 fullShare.right ∗ whole c cc0_scratch3 (wqC m c) ∗ qsP m c 1 ∗ whole c cc0_scratch6 (kA1 m c) ∗ whole c cc0_scratch7 (vA1 m c)) -∗ Q ⟨⟩) -∗ Wp c (onCall k0_part10 (xv m c) (k0_pay22 (cS m c 0)) (k0_pay23 (uS m c 0))) Q) := by
  rw [k0_part10_eq_skeleton]
  unfold k0_part10_skel
  simp only [semSignalWord, semWaitWord, Prog.lift, Prog.bind_op, Prog.bind_ret, Prog.pure_eq_ret]
  iintro ⟨#HP, Hv, H6, H7, H3, Hq⟩ Hk
  iapply (load_val (i := (cc0_scratch2 : Ref sig .tc).idx) (hκ := rfl) c (slotW 0) (vS m c 0) _ _ _ (Finset.Subset.refl _) (by rfl)) $$ Hv
  iintro Hv
  iapply (step_load_whole c rfl _ _ _ (kA0 m c) (emb_zero _ z2 _ _)) $$ H6
  iintro H6
  iapply (step_load_whole c rfl _ _ _ (kA0 m c) (emb_zero _ z2 _ _)) $$ H6
  iintro H6
  iapply (step_store c _ _ _ (kA1 m c) _ (set_zero _ z2 _) fun x => (congrFun (emb_zero _ z2 _ (kA1 m c)) x).symm) $$ H6
  iintro H6
  iapply (step_load_whole c rfl _ _ _ (vA0 m c) (emb_zero _ z2 _ _)) $$ H7
  iintro H7
  iapply (step_load_whole c rfl _ _ _ (vA0 m c) (emb_zero _ z2 _ _)) $$ H7
  iintro H7
  iapply (step_store c _ _ _ (vA1 m c) _ (set_zero _ z2 _) fun x => (congrFun (emb_zero _ z2 _ (vA1 m c)) x).symm) $$ H7
  iintro H7
  iapply (load_val (i := (cc0_scratch3 : Ref sig .tc).idx) (hκ := rfl) c (colr 1) (ld (colr 1) (wqC m c)) _ _ _ (Finset.subset_univ _) (by rfl)) $$ H3
  iintro H3
  iapply (load_any (i := (cc0_scratch5 : Ref sig .tc).idx) (hκ := rfl) c _ _ (Finset.Subset.refl _)) $$ Hq
  iintro %_ Hq
  iapply (store_any (i := (cc0_scratch5 : Ref sig .tc).idx) (hκ := rfl) c (colq 1) _ (qsC m c) _ rfl (by exact fun x => (cols4_emb (qH m c) 1 x).symm)) $$ Hq
  iintro Hq
  iapply (step_ret c)
  iapply Hk
  isplitl [Hv]; · iexact Hv
  isplitl [H3]; · iexact H3
  isplitl [Hq]; · iexact Hq
  isplitl [H6]; · iexact H6
  iexact H7

set_option maxRecDepth 20000 in
/-- The second hop, first half. -/
theorem part11 (w2 w5 w33 : BitVec 32) {Q : (Σ' (v302 : BitVec 32), BitVec 32) → sProp 𝕄} (hl : ∀ x ∈ l, 3 < lvl x.2) :
    iprop(Pers m K ∗ wt c (.send 1 0) ∗ cbP m c 0 fullShare.right ∗ wt c (.recv 1 0) ∗ wt c (.send 1 1) ∗ ukP m c 0 fullShare.right ∗ owesE c (l))
      ⊢ iprop((∀ w, (done c (.send 1 0) ∗ cbP m c 0 fullShare ∗ done c (.recv 1 0) ∗ cbP m c 1 fullShare ∗ done c (.send 1 1) ∗ ukP m c 0 fullShare ∗ owesE c (l)) -∗ Q w) -∗ Wp c (onCall k0_part11 w2 w5 w33) Q) := by
  rw [k0_part11_eq_skeleton]
  unfold k0_part11_skel
  simp only [semSignalWord, semWaitWord, Prog.lift, Prog.bind_op, Prog.bind_ret, Prog.pure_eq_ret]
  iintro ⟨#HP, W10s, Bcb0, W10r, W11s, Buk0, HO⟩ Hk
  icases W10s with ⟨W10sc, W10so⟩
  iapply (step_waitDma m K c (.send 1 0) 3 (by decide) _ hl rfl rfl cntC_eq.symm) $$ [W10sc W10so HO]
  · isplitr; · iexact HP
    isplitl [W10sc]; · iexact W10sc
    isplitl [W10so]; · iexact W10so
    iexact HO
  iintro ⟨DW10s, HO, Hx⟩
  ihave Hx := (show payl (F := F) m c (.send 1 0) 0 ⊢ cbP m c 0 fullShare.left from .rfl) $$ Hx
  ihave Bcb0 := (pts_halve c cc0_scratch0 _ fullShare (cbC m c)).2 $$ [Hx Bcb0]
  · isplitl [Hx]; · iexact Hx
    iexact Bcb0
  icases W10r with ⟨W10rc, W10ro⟩
  iapply (step_waitDma m K c (.recv 1 0) 3 (by decide) _ hl rfl rfl cntC_eq.symm) $$ [W10rc W10ro HO]
  · isplitr; · iexact HP
    isplitl [W10rc]; · iexact W10rc
    isplitl [W10ro]; · iexact W10ro
    iexact HO
  iintro ⟨DW10r, HO, Ncb1⟩
  ihave Ncb1 := (show payl (F := F) m c (.recv 1 0) 0 ⊢ cbP m c 1 fullShare from .rfl) $$ Ncb1
  icases W11s with ⟨W11sc, W11so⟩
  iapply (step_waitDma m K c (.send 1 1) 3 (by decide) _ hl rfl rfl cntU_eq.symm) $$ [W11sc W11so HO]
  · isplitr; · iexact HP
    isplitl [W11sc]; · iexact W11sc
    isplitl [W11so]; · iexact W11so
    iexact HO
  iintro ⟨DW11s, HO, Hx⟩
  ihave Hx := (show payl (F := F) m c (.send 1 1) 0 ⊢ ukP m c 0 fullShare.left from .rfl) $$ Hx
  ihave Buk0 := (pts_halve c cc0_scratch1 _ fullShare (ukC m c)).2 $$ [Hx Buk0]
  · isplitl [Hx]; · iexact Hx
    iexact Buk0
  iapply (step_ret c)
  iapply Hk
  isplitl [DW10s]; · iexact DW10s
  isplitl [Bcb0]; · iexact Bcb0
  isplitl [DW10r]; · iexact DW10r
  isplitl [Ncb1]; · iexact Ncb1
  isplitl [DW11s]; · iexact DW11s
  isplitl [Buk0]; · iexact Buk0
  iexact HO

set_option maxRecDepth 20000 in
/-- The second hop, second half. -/
theorem part12 (w2 w5 w33 w302 w309 : BitVec 32) {Q : PUnit → sProp 𝕄} (hl : ∀ x ∈ l, 3 < lvl x.2) :
    iprop(Pers m K ∗ wt c (.recv 1 1) ∗ wt c (.send 1 2) ∗ uvP m c 0 fullShare.right ∗ wt c (.recv 1 2) ∗ owesE c (l))
      ⊢ iprop(((done c (.recv 1 1) ∗ ukP m c 1 fullShare ∗ done c (.send 1 2) ∗ uvP m c 0 fullShare ∗ done c (.recv 1 2) ∗ uvP m c 1 fullShare ∗ owesE c (l)) -∗ Q ⟨⟩) -∗ Wp c (onCall k0_part12 w2 w5 w33 w302 w309) Q) := by
  rw [k0_part12_eq_skeleton]
  unfold k0_part12_skel
  simp only [semSignalWord, semWaitWord, Prog.lift, Prog.bind_op, Prog.bind_ret, Prog.pure_eq_ret]
  iintro ⟨#HP, W11r, W12s, Buv0, W12r, HO⟩ Hk
  icases W11r with ⟨W11rc, W11ro⟩
  iapply (step_waitDma m K c (.recv 1 1) 3 (by decide) _ hl rfl rfl cntU_eq.symm) $$ [W11rc W11ro HO]
  · isplitr; · iexact HP
    isplitl [W11rc]; · iexact W11rc
    isplitl [W11ro]; · iexact W11ro
    iexact HO
  iintro ⟨DW11r, HO, Nuk1⟩
  ihave Nuk1 := (show payl (F := F) m c (.recv 1 1) 0 ⊢ ukP m c 1 fullShare from .rfl) $$ Nuk1
  icases W12s with ⟨W12sc, W12so⟩
  iapply (step_waitDma m K c (.send 1 2) 3 (by decide) _ hl rfl rfl cntV_eq.symm) $$ [W12sc W12so HO]
  · isplitr; · iexact HP
    isplitl [W12sc]; · iexact W12sc
    isplitl [W12so]; · iexact W12so
    iexact HO
  iintro ⟨DW12s, HO, Hx⟩
  ihave Hx := (show payl (F := F) m c (.send 1 2) 0 ⊢ uvP m c 0 fullShare.left from .rfl) $$ Hx
  ihave Buv0 := (pts_halve c cc0_scratch2 _ fullShare (uvC m c)).2 $$ [Hx Buv0]
  · isplitl [Hx]; · iexact Hx
    iexact Buv0
  icases W12r with ⟨W12rc, W12ro⟩
  iapply (step_waitDma m K c (.recv 1 2) 3 (by decide) _ hl rfl rfl cntV_eq.symm) $$ [W12rc W12ro HO]
  · isplitr; · iexact HP
    isplitl [W12rc]; · iexact W12rc
    isplitl [W12ro]; · iexact W12ro
    iexact HO
  iintro ⟨DW12r, HO, Nuv1⟩
  ihave Nuv1 := (show payl (F := F) m c (.recv 1 2) 0 ⊢ uvP m c 1 fullShare from .rfl) $$ Nuv1
  iapply (step_ret c)
  iapply Hk
  isplitl [DW11r]; · iexact DW11r
  isplitl [Nuk1]; · iexact Nuk1
  isplitl [DW12s]; · iexact DW12s
  isplitl [Buv0]; · iexact Buv0
  isplitl [DW12r]; · iexact DW12r
  isplitl [Nuv1]; · iexact Nuv1
  iexact HO

set_option maxRecDepth 20000 in
/-- The third hop starts. -/
theorem part13 (w2 w5 w33 : BitVec 32) {Q : PUnit → sProp 𝕄} :
    iprop(Pers m K ∗ cbP m c 1 fullShare ∗ ukP m c 1 fullShare ∗ cbS (right c) 2 ∗ ukS (right c) 2 ∗ hopT c 2 0 ∗ hopT c 2 1 ∗ owesE c ((right c, .recv 2 0) :: (right c, .recv 2 1) :: l))
      ⊢ iprop(((cbP m c 1 fullShare.right ∗ ukP m c 1 fullShare.right ∗ crd c (.send 2 0) ∗ crd c (.send 2 1) ∗ owesE c (l)) -∗ Q ⟨⟩) -∗ Wp c (onCall k0_part13 c w2 w5 w33) Q) := by
  rw [k0_part13_eq_skeleton]
  unfold k0_part13_skel
  simp only [semSignalWord, semWaitWord, Prog.lift, Prog.bind_op, Prog.bind_ret, Prog.pure_eq_ret]
  iintro ⟨#HP, Hc, Hu, Hd0, Hd1, T0, T1, HO⟩ Hk
  ihave Hc := (pts_halve c cc0_scratch0 _ fullShare (cbC m c)).1 $$ Hc
  icases Hc with ⟨HcL, Hc⟩
  icases T0 with ⟨T0s, T0r⟩
  iapply (hop0 m K c 2 _ _ (dev9_eq c) rfl rfl) $$ [HcL Hd0 HO T0s T0r]
  · isplitr; · iexact HP
    isplitl [HcL]; · iexact HcL
    isplitl [Hd0]; · iexact Hd0
    isplitl [HO]; · iexact HO
    isplitl [T0s]; · iexact T0s
    iexact T0r
  iintro ⟨C20, HO⟩
  ihave Hu := (pts_halve c cc0_scratch1 _ fullShare (ukC m c)).1 $$ Hu
  icases Hu with ⟨HuL, Hu⟩
  icases T1 with ⟨T1s, T1r⟩
  iapply (hop1 m K c 2 _ _ (dev10_eq c) rfl rfl) $$ [HuL Hd1 HO T1s T1r]
  · isplitr; · iexact HP
    isplitl [HuL]; · iexact HuL
    isplitl [Hd1]; · iexact Hd1
    isplitl [HO]; · iexact HO
    isplitl [T1s]; · iexact T1s
    iexact T1r
  iintro ⟨C21, HO⟩
  iapply (step_ret c)
  iapply Hk
  isplitl [Hc]; · iexact Hc
  isplitl [Hu]; · iexact Hu
  isplitl [C20]; · iexact C20
  isplitl [C21]; · iexact C21
  iexact HO

set_option maxRecDepth 20000 in
/-- The last block starts on the third hop; the third terms of the keys and the values. -/
theorem part14 (w2 w5 w33 : BitVec 32) {Q : FVec F S1024x512 .f32 → sProp 𝕄} :
    iprop(Pers m K ∗ uvP m c 1 fullShare ∗ uvS (right c) 2 ∗ hopT c 2 2 ∗ cbP m c 1 fullShare.right ∗ ukP m c 1 fullShare.right ∗ whole c cc0_scratch6 (kA1 m c) ∗ whole c cc0_scratch7 (vA1 m c) ∗ owesE c ((right c, .recv 2 2) :: l))
      ⊢ iprop(((cbP m c 1 fullShare.right ∗ ukP m c 1 fullShare.right ∗ whole c cc0_scratch7 (vA1 m c) ∗ uvP m c 1 fullShare.right ∗ crd c (.send 2 2) ∗ whole c cc0_scratch6 (kA2 m c) ∗ owesE c (l)) -∗ Q (k0_pay29 (cS m c 1) (vS m c 1) (vA1 m c))) -∗ Wp c (onCall k0_part14 c w2 w5 w33) Q) := by
  rw [k0_part14_eq_skeleton]
  unfold k0_part14_skel
  simp only [semSignalWord, semWaitWord, Prog.lift, Prog.bind_op, Prog.bind_ret, Prog.pure_eq_ret]
  iintro ⟨#HP, Hv, Hd2, T2, Hc, Hu, H6, H7, HO⟩ Hk
  ihave Hv := (pts_halve c cc0_scratch2 _ fullShare (uvC m c)).1 $$ Hv
  icases Hv with ⟨HvL, Hv⟩
  icases T2 with ⟨T2s, T2r⟩
  iapply (hop2 m K c 2 _ _ (dev11_eq c) rfl rfl) $$ [HvL Hd2 HO T2s T2r]
  · isplitr; · iexact HP
    isplitl [HvL]; · iexact HvL
    isplitl [Hd2]; · iexact Hd2
    isplitl [HO]; · iexact HO
    isplitl [T2s]; · iexact T2s
    iexact T2r
  iintro ⟨C22, HO⟩
  iapply (load_val (i := (cc0_scratch0 : Ref sig .tc).idx) (hκ := rfl) c (slotC 1) (cS m c 1) _ _ _ (Finset.Subset.refl _) (by rfl)) $$ Hc
  iintro Hc
  iapply (load_val (i := (cc0_scratch1 : Ref sig .tc).idx) (hκ := rfl) c (slotW 1) (uS m c 1) _ _ _ (Finset.Subset.refl _) (by rfl)) $$ Hu
  iintro Hu
  iapply (load_val (i := (cc0_scratch2 : Ref sig .tc).idx) (hκ := rfl) c (slotW 1) (vS m c 1) _ _ _ (Finset.Subset.refl _) (by rfl)) $$ Hv
  iintro Hv
  iapply (step_load_whole c rfl _ _ _ (kA1 m c) (emb_zero _ z2 _ _)) $$ H6
  iintro H6
  iapply (step_load_whole c rfl _ _ _ (kA1 m c) (emb_zero _ z2 _ _)) $$ H6
  iintro H6
  iapply (step_store c _ _ _ (kA2 m c) _ (set_zero _ z2 _) fun x => (congrFun (emb_zero _ z2 _ (kA2 m c)) x).symm) $$ H6
  iintro H6
  iapply (step_load_whole c rfl _ _ _ (vA1 m c) (emb_zero _ z2 _ _)) $$ H7
  iintro H7
  iapply (step_ret c)
  iapply Hk
  isplitl [Hc]; · iexact Hc
  isplitl [Hu]; · iexact Hu
  isplitl [H7]; · iexact H7
  isplitl [Hv]; · iexact Hv
  isplitl [C22]; · iexact C22
  isplitl [H6]; · iexact H6
  iexact HO

end Cert.KernelIdealProof

end
-- ==== Proof.KernelIdeal.Ring3.lean ====
/-
# The third hop

One rule for each part of the kernel, from what it uses to what it leaves.
-/
module

public import proofs.«01_k».proof.Proof.KernelIdeal.Moves

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Cel → ℕ) (c : Dev nD) (l : List (Dev nD × Cel))

set_option maxRecDepth 20000 in
/-- The third term of the values is stored, and the third head of the queries. -/
theorem part15 (w2 w5 w33 : BitVec 32) {Q : PUnit → sProp 𝕄} (hl : ∀ x ∈ l, 0 < lvl x.2) :
    iprop(Pers m K ∗ whole c cc0_scratch7 (vA1 m c) ∗ whole c cc0_scratch3 (wqC m c) ∗ qsS c 2 ∗ wt c (.send 2 0) ∗ cbP m c 1 fullShare.right ∗ owesE c (l))
      ⊢ iprop(((whole c cc0_scratch3 (wqC m c) ∗ done c (.send 2 0) ∗ cbP m c 1 fullShare ∗ whole c cc0_scratch7 (vA2 m c) ∗ qsP m c 2 ∗ owesE c (l)) -∗ Q ⟨⟩) -∗ Wp c (onCall k0_part15 w2 w5 w33 (xv m c) (k0_pay29 (cS m c 1) (vS m c 1) (vA1 m c))) Q) := by
  rw [k0_part15_eq_skeleton]
  unfold k0_part15_skel
  simp only [semSignalWord, semWaitWord, Prog.lift, Prog.bind_op, Prog.bind_ret, Prog.pure_eq_ret]
  iintro ⟨#HP, H7, H3, Hq, W20s, Bcb1, HO⟩ Hk
  iapply (step_load_whole c rfl _ _ _ (vA1 m c) (emb_zero _ z2 _ _)) $$ H7
  iintro H7
  iapply (step_store c _ _ _ (vA2 m c) _ (set_zero _ z2 _) fun x => (congrFun (emb_zero _ z2 _ (vA2 m c)) x).symm) $$ H7
  iintro H7
  iapply (load_val (i := (cc0_scratch3 : Ref sig .tc).idx) (hκ := rfl) c (colr 2) (ld (colr 2) (wqC m c)) _ _ _ (Finset.subset_univ _) (by rfl)) $$ H3
  iintro H3
  iapply (load_any (i := (cc0_scratch5 : Ref sig .tc).idx) (hκ := rfl) c _ _ (Finset.Subset.refl _)) $$ Hq
  iintro %_ Hq
  iapply (store_any (i := (cc0_scratch5 : Ref sig .tc).idx) (hκ := rfl) c (colq 2) _ (qsC m c) _ rfl (by exact fun x => (cols4_emb (qH m c) 2 x).symm)) $$ Hq
  iintro Hq
  icases W20s with ⟨W20sc, W20so⟩
  iapply (step_waitDma m K c (.send 2 0) 0 (by decide) _ hl rfl rfl cntC_eq.symm) $$ [W20sc W20so HO]
  · isplitr; · iexact HP
    isplitl [W20sc]; · iexact W20sc
    isplitl [W20so]; · iexact W20so
    iexact HO
  iintro ⟨DW20s, HO, Hx⟩
  ihave Hx := (show payl (F := F) m c (.send 2 0) 0 ⊢ cbP m c 1 fullShare.left from .rfl) $$ Hx
  ihave Bcb1 := (pts_halve c cc0_scratch0 _ fullShare (cbC m c)).2 $$ [Hx Bcb1]
  · isplitl [Hx]; · iexact Hx
    iexact Bcb1
  iapply (step_ret c)
  iapply Hk
  isplitl [H3]; · iexact H3
  isplitl [DW20s]; · iexact DW20s
  isplitl [Bcb1]; · iexact Bcb1
  isplitl [H7]; · iexact H7
  isplitl [Hq]; · iexact Hq
  iexact HO

set_option maxRecDepth 20000 in
/-- The third hop, first half. -/
theorem part16 (w2 w5 w33 : BitVec 32) {Q : PUnit → sProp 𝕄} (hl : ∀ x ∈ l, 4 < lvl x.2) :
    iprop(Pers m K ∗ wt c (.recv 2 0) ∗ wt c (.send 2 1) ∗ ukP m c 1 fullShare.right ∗ wt c (.recv 2 1) ∗ owesE c (l))
      ⊢ iprop(((done c (.recv 2 0) ∗ cbP m c 2 fullShare ∗ done c (.send 2 1) ∗ ukP m c 1 fullShare ∗ done c (.recv 2 1) ∗ ukP m c 2 fullShare ∗ owesE c (l)) -∗ Q ⟨⟩) -∗ Wp c (onCall k0_part16 w2 w5 w33) Q) := by
  rw [k0_part16_eq_skeleton]
  unfold k0_part16_skel
  simp only [semSignalWord, semWaitWord, Prog.lift, Prog.bind_op, Prog.bind_ret, Prog.pure_eq_ret]
  iintro ⟨#HP, W20r, W21s, Buk1, W21r, HO⟩ Hk
  icases W20r with ⟨W20rc, W20ro⟩
  iapply (step_waitDma m K c (.recv 2 0) 4 (by decide) _ hl rfl rfl cntC_eq.symm) $$ [W20rc W20ro HO]
  · isplitr; · iexact HP
    isplitl [W20rc]; · iexact W20rc
    isplitl [W20ro]; · iexact W20ro
    iexact HO
  iintro ⟨DW20r, HO, Ncb2⟩
  ihave Ncb2 := (show payl (F := F) m c (.recv 2 0) 0 ⊢ cbP m c 2 fullShare from .rfl) $$ Ncb2
  icases W21s with ⟨W21sc, W21so⟩
  iapply (step_waitDma m K c (.send 2 1) 4 (by decide) _ hl rfl rfl cntU_eq.symm) $$ [W21sc W21so HO]
  · isplitr; · iexact HP
    isplitl [W21sc]; · iexact W21sc
    isplitl [W21so]; · iexact W21so
    iexact HO
  iintro ⟨DW21s, HO, Hx⟩
  ihave Hx := (show payl (F := F) m c (.send 2 1) 0 ⊢ ukP m c 1 fullShare.left from .rfl) $$ Hx
  ihave Buk1 := (pts_halve c cc0_scratch1 _ fullShare (ukC m c)).2 $$ [Hx Buk1]
  · isplitl [Hx]; · iexact Hx
    iexact Buk1
  icases W21r with ⟨W21rc, W21ro⟩
  iapply (step_waitDma m K c (.recv 2 1) 4 (by decide) _ hl rfl rfl cntU_eq.symm) $$ [W21rc W21ro HO]
  · isplitr; · iexact HP
    isplitl [W21rc]; · iexact W21rc
    isplitl [W21ro]; · iexact W21ro
    iexact HO
  iintro ⟨DW21r, HO, Nuk2⟩
  ihave Nuk2 := (show payl (F := F) m c (.recv 2 1) 0 ⊢ ukP m c 2 fullShare from .rfl) $$ Nuk2
  iapply (step_ret c)
  iapply Hk
  isplitl [DW20r]; · iexact DW20r
  isplitl [Ncb2]; · iexact Ncb2
  isplitl [DW21s]; · iexact DW21s
  isplitl [Buk1]; · iexact Buk1
  isplitl [DW21r]; · iexact DW21r
  isplitl [Nuk2]; · iexact Nuk2
  iexact HO

set_option maxRecDepth 20000 in
/-- The third hop ends; the last terms of the keys and the values. -/
theorem part17 (w2 w5 w33 : BitVec 32) {Q : (Σ' (v457 : FVec F S1024x512 .f32), FVec F S1024x512 .f32) → sProp 𝕄} (hl : ∀ x ∈ l, 4 < lvl x.2) :
    iprop(Pers m K ∗ wt c (.send 2 2) ∗ uvP m c 1 fullShare.right ∗ wt c (.recv 2 2) ∗ cbP m c 2 fullShare ∗ ukP m c 2 fullShare ∗ whole c cc0_scratch6 (kA2 m c) ∗ owesE c (l))
      ⊢ iprop(((done c (.send 2 2) ∗ uvP m c 1 fullShare ∗ done c (.recv 2 2) ∗ uvP m c 2 fullShare ∗ cbP m c 2 fullShare ∗ ukP m c 2 fullShare ∗ whole c cc0_scratch6 (kA2 m c) ∗ owesE c (l)) -∗ Q ⟨k0_pay33 (cS m c 2) (vS m c 2), k0_pay34 (cS m c 2) (uS m c 2) (kA2 m c)⟩) -∗ Wp c (onCall k0_part17 w2 w5 w33) Q) := by
  rw [k0_part17_eq_skeleton]
  unfold k0_part17_skel
  simp only [semSignalWord, semWaitWord, Prog.lift, Prog.bind_op, Prog.bind_ret, Prog.pure_eq_ret]
  iintro ⟨#HP, W22s, Buv1, W22r, Hc, Hu, H6, HO⟩ Hk
  icases W22s with ⟨W22sc, W22so⟩
  iapply (step_waitDma m K c (.send 2 2) 4 (by decide) _ hl rfl rfl cntV_eq.symm) $$ [W22sc W22so HO]
  · isplitr; · iexact HP
    isplitl [W22sc]; · iexact W22sc
    isplitl [W22so]; · iexact W22so
    iexact HO
  iintro ⟨DW22s, HO, Hx⟩
  ihave Hx := (show payl (F := F) m c (.send 2 2) 0 ⊢ uvP m c 1 fullShare.left from .rfl) $$ Hx
  ihave Buv1 := (pts_halve c cc0_scratch2 _ fullShare (uvC m c)).2 $$ [Hx Buv1]
  · isplitl [Hx]; · iexact Hx
    iexact Buv1
  icases W22r with ⟨W22rc, W22ro⟩
  iapply (step_waitDma m K c (.recv 2 2) 4 (by decide) _ hl rfl rfl cntV_eq.symm) $$ [W22rc W22ro HO]
  · isplitr; · iexact HP
    isplitl [W22rc]; · iexact W22rc
    isplitl [W22ro]; · iexact W22ro
    iexact HO
  iintro ⟨DW22r, HO, Nuv2⟩
  ihave Nuv2 := (show payl (F := F) m c (.recv 2 2) 0 ⊢ uvP m c 2 fullShare from .rfl) $$ Nuv2
  iapply (load_val (i := (cc0_scratch0 : Ref sig .tc).idx) (hκ := rfl) c (slotC 2) (cS m c 2) _ _ _ (Finset.Subset.refl _) (by rfl)) $$ Hc
  iintro Hc
  iapply (load_val (i := (cc0_scratch1 : Ref sig .tc).idx) (hκ := rfl) c (slotW 2) (uS m c 2) _ _ _ (Finset.Subset.refl _) (by rfl)) $$ Hu
  iintro Hu
  iapply (load_val (i := (cc0_scratch2 : Ref sig .tc).idx) (hκ := rfl) c (slotW 2) (vS m c 2) _ _ _ (Finset.Subset.refl _) (by rfl)) $$ Nuv2
  iintro Nuv2
  iapply (step_load_whole c rfl _ _ _ (kA2 m c) (emb_zero _ z2 _ _)) $$ H6
  iintro H6
  iapply (step_load_whole c rfl _ _ _ (kA2 m c) (emb_zero _ z2 _ _)) $$ H6
  iintro H6
  iapply (step_ret c)
  iapply Hk
  isplitl [DW22s]; · iexact DW22s
  isplitl [Buv1]; · iexact Buv1
  isplitl [DW22r]; · iexact DW22r
  isplitl [Nuv2]; · iexact Nuv2
  isplitl [Hc]; · iexact Hc
  isplitl [Hu]; · iexact Hu
  isplitl [H6]; · iexact H6
  iexact HO

set_option maxRecDepth 20000 in
/-- The keys and the values are complete, and so are the queries. -/
theorem part18 (w10 : BitVec 32) {Q : (Σ' (v475 : BitVec 32) (v492 : BitVec 32) (v494 : BitVec 32) (v495 : BitVec 32), BitVec 1) → sProp 𝕄} :
    iprop(Pers m K ∗ whole c cc0_scratch6 (kA2 m c) ∗ whole c cc0_scratch7 (vA2 m c) ∗ whole c cc0_scratch3 (wqC m c) ∗ qsS c 3)
      ⊢ iprop((∀ w, (whole c cc0_scratch3 (wqC m c) ∗ whole c cc0_scratch6 (kA3 m c) ∗ whole c cc0_scratch7 (vA3 m c) ∗ qsP m c 3) -∗ Q w) -∗ Wp c (onCall k0_part18 w10 (xv m c) (k0_pay33 (cS m c 2) (vS m c 2)) (k0_pay34 (cS m c 2) (uS m c 2) (kA2 m c))) Q) := by
  rw [k0_part18_eq_skeleton]
  unfold k0_part18_skel
  simp only [semSignalWord, semWaitWord, Prog.lift, Prog.bind_op, Prog.bind_ret, Prog.pure_eq_ret]
  iintro ⟨#HP, H6, H7, H3, Hq⟩ Hk
  iapply (step_store c _ _ _ (kA3 m c) _ (set_zero _ z2 _) fun x => (congrFun (emb_zero _ z2 _ (kA3 m c)) x).symm) $$ H6
  iintro H6
  iapply (step_load_whole c rfl _ _ _ (vA2 m c) (emb_zero _ z2 _ _)) $$ H7
  iintro H7
  iapply (step_load_whole c rfl _ _ _ (vA2 m c) (emb_zero _ z2 _ _)) $$ H7
  iintro H7
  iapply (step_store c _ _ _ (vA3 m c) _ (set_zero _ z2 _) fun x => (congrFun (emb_zero _ z2 _ (vA3 m c)) x).symm) $$ H7
  iintro H7
  iapply (load_val (i := (cc0_scratch3 : Ref sig .tc).idx) (hκ := rfl) c (colr 3) (ld (colr 3) (wqC m c)) _ _ _ (Finset.subset_univ _) (by rfl)) $$ H3
  iintro H3
  iapply (load_any (i := (cc0_scratch5 : Ref sig .tc).idx) (hκ := rfl) c _ _ (Finset.Subset.refl _)) $$ Hq
  iintro %_ Hq
  iapply (store_any (i := (cc0_scratch5 : Ref sig .tc).idx) (hκ := rfl) c (colq 3) _ (qsC m c) _ rfl (by exact fun x => (cols4_emb (qH m c) 3 x).symm)) $$ Hq
  iintro Hq
  iapply (step_ret c)
  iapply Hk
  isplitl [H3]; · iexact H3
  isplitl [H6]; · iexact H6
  isplitl [H7]; · iexact H7
  iexact Hq

end Cert.KernelIdealProof

end
-- ==== Proof.KernelIdeal.Heads.lean ====
/-
# The heads

One rule for each part of the kernel, from what it uses to what it leaves.
-/
module

public import proofs.«01_k».proof.Proof.KernelIdeal.Moves

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Cel → ℕ) (c : Dev nD) (l : List (Dev nD × Cel))

set_option maxRecDepth 20000 in
/-- Two peers are told that this device is ready for their outputs. -/
theorem part20 (w8 w492 w502 w520 w530 w531 w5310 w532 w534 w536 : BitVec 32) {Q : (Σ' (v548 : BitVec 32) (v558 : BitVec 32) (v571 : BitVec 32), BitVec 32) → sProp 𝕄} :
    iprop(Pers m K ∗ tok (peer 0 c) .xy 0 ∗ tok (peer 1 c) .xy 1 ∗ oaO4 c 0 ∗ oaO4 c 1 ∗ owesE c ((peer 0 c, .xy) :: (peer 1 c, .xy) :: l))
      ⊢ iprop((∀ w, (owesE c (l)) -∗ Q w) -∗ Wp c (onCall k0_part20 c w8 w492 w502 w520 w530 w531 w5310 w532 w534 w536) Q) := by
  rw [k0_part20_eq_skeleton]
  unfold k0_part20_skel
  simp only [semSignalWord, semWaitWord, Prog.lift, Prog.bind_op, Prog.bind_ret, Prog.pure_eq_ret]
  iintro ⟨#HP, Tx0, Tx1, Ho0, Ho1, HO⟩ Hk
  iapply (step_signal m K c (peer 0 c) .xy 0 _ (dev12_eq c) rfl (by decide) rfl _ (by decide)) $$ [HO Tx0 Ho0]
  · isplitr; · iexact HP
    isplitl [HO]; · iexact HO
    isplitl [Tx0]; · iexact Tx0
    iapply (xy_give m c 0)
    iexact Ho0
  iintro HO
  iapply (step_signal m K c (peer 1 c) .xy 1 _ (dev13_eq c) rfl (by decide) rfl _ (by decide)) $$ [HO Tx1 Ho1]
  · isplitr; · iexact HP
    isplitl [HO]; · iexact HO
    isplitl [Tx1]; · iexact Tx1
    iapply (xy_give m c 1)
    iexact Ho1
  iintro HO
  iapply (step_ret c)
  iapply Hk
  iexact HO

set_option maxRecDepth 20000 in
/-- The third peer is told, all three are waited for, and the first head is computed. -/
theorem part21 (w8 w492 w502 w558 w571 w556 : BitVec 32) {Q : Vec F S1024x32 .f32 → sProp 𝕄} (hl : ∀ x ∈ l, 5 < lvl x.2) :
    iprop(Pers m K ∗ tok (peer 2 c) .xy 2 ∗ oaO4 c 2 ∗ wt c .xy ∗ qsP m c 0 ∗ oqS c 0 ∗ whole c cc0_scratch9 (krC m c) ∗ whole c cc0_scratch6 (kA3 m c) ∗ whole c cc0_scratch7 (vA3 m c) ∗ whole c cc0_scratch8 (qrC m c) ∗ owesE c ((peer 2 c, .xy) :: l))
      ⊢ iprop(((qsP m c 0 ∗ whole c cc0_scratch9 (krC m c) ∗ whole c cc0_scratch6 (kA3 m c) ∗ whole c cc0_scratch7 (vA3 m c) ∗ whole c cc0_scratch8 (qrC m c) ∗ oqP m c 0 (oshare 0) ∗ oqP m c 0 (oshare 1) ∗ oqP m c 0 (oshare 2) ∗ oqP m c 0 kept ∗ done c .xy ∗ oaS4 c 0 ∗ oaS4 c 1 ∗ oaS4 c 2 ∗ owesE c (l)) -∗ Q (krC m c)) -∗ Wp c (onCall k0_part21 c w8 w492 w502 w558 w571 w556) Q) := by
  rw [k0_part21_eq_skeleton]
  unfold k0_part21_skel
  simp only [semSignalWord, semWaitWord, Prog.lift, Prog.bind_op, Prog.bind_ret, Prog.pure_eq_ret]
  iintro ⟨#HP, Tx2, Ho2, Wx, Hq, Hoq, Hkr, H6, H7, H8, HO⟩ Hk
  iapply (step_signal m K c (peer 2 c) .xy 2 _ (dev14_eq c) rfl (by decide) rfl _ (by decide)) $$ [HO Tx2 Ho2]
  · isplitr; · iexact HP
    isplitl [HO]; · iexact HO
    isplitl [Tx2]; · iexact Tx2
    iapply (xy_give m c 2)
    iexact Ho2
  iintro HO
  icases Wx with ⟨Wxc, Wxo⟩
  iapply (step_wait m K c .xy 5 (by decide) l hl (wpE_semWait_eq 𝒱₀ (c : Thread nD τ) none Set.univ) rfl (by decide)) $$ [Wxc Wxo HO]
  · isplitr; · iexact HP
    isplitl [Wxc]; · iexact Wxc
    isplitl [Wxo] <;> iassumption
  iintro ⟨Dx, HO, Hp⟩
  ihave Hp' := (xy_payl m c) $$ Hp
  icases Hp' with ⟨Hp0, Hp1, Hp2⟩
  iapply (step_load_whole c rfl _ _ _ (krC m c) (emb_zero _ z2 _ _)) $$ Hkr
  iintro Hkr
  iapply (load_val (i := (cc0_scratch5 : Ref sig .tc).idx) (hκ := rfl) c (colq 0) (ld (colq 0) (qsC m c)) _ _ _ (Finset.Subset.refl _) (by rfl)) $$ Hq
  iintro Hq
  iapply (load_val (i := (cc0_scratch6 : Ref sig .tc).idx) (hκ := rfl) c (colq 0) (ld (colq 0) (kA3 m c)) _ _ _ (Finset.subset_univ _) (by rfl)) $$ H6
  iintro H6
  iapply (load_val (i := (cc0_scratch8 : Ref sig .tc).idx) (hκ := rfl) c (colh 0) (ld (colh 0) (qrC m c)) _ _ _ (Finset.subset_univ _) (by rfl)) $$ H8
  iintro H8
  iapply (load_val (i := (cc0_scratch7 : Ref sig .tc).idx) (hκ := rfl) c (colq 0) (ld (colq 0) (vA3 m c)) _ _ _ (Finset.subset_univ _) (by rfl)) $$ H7
  iintro H7
  iapply (load_any (i := (cc0_scratch10 : Ref sig .tc).idx) (hκ := rfl) c _ _ (Finset.Subset.refl _)) $$ Hoq
  iintro %_ Hoq
  iapply (store_any (i := (cc0_scratch10 : Ref sig .tc).idx) (hκ := rfl) c (colq 0) _ (oqC m c) _ rfl (by exact fun x => (cols4_emb (oH m c) 0 x).symm)) $$ Hoq
  iintro Hoq
  ihave Hoq := (oq_shares m c 0) $$ Hoq
  icases Hoq with ⟨Hoa, Hob, Hoc, Hod⟩
  iapply (step_ret c)
  iapply Hk
  isplitl [Hq]; · iexact Hq
  isplitl [Hkr]; · iexact Hkr
  isplitl [H6]; · iexact H6
  isplitl [H7]; · iexact H7
  isplitl [H8]; · iexact H8
  isplitl [Hoa]; · iexact Hoa
  isplitl [Hob]; · iexact Hob
  isplitl [Hoc]; · iexact Hoc
  isplitl [Hod]; · iexact Hod
  isplitl [Dx]; · iexact Dx
  isplitl [Hp0]; · iexact Hp0
  isplitl [Hp1]; · iexact Hp1
  isplitl [Hp2]; · iexact Hp2
  iexact HO

set_option maxRecDepth 20000 in
/-- The first head is sent to two peers. -/
theorem part22 (w8 w520 w530 w548 w558 : BitVec 32) {Q : PUnit → sProp 𝕄} :
    iprop(Pers m K ∗ oqP m c 0 (oshare 0) ∗ oaS c 0 0 ∗ outT c 0 0 ∗ oqP m c 0 (oshare 1) ∗ oaS c 1 0 ∗ outT c 1 0 ∗ owesE c ((peer 0 c, .orecv 0 0) :: (peer 1 c, .orecv 1 0) :: l))
      ⊢ iprop(((crd c (.osend 0 0) ∗ crd c (.osend 1 0) ∗ owesE c (l)) -∗ Q ⟨⟩) -∗ Wp c (onCall k0_part22 c w8 w520 w530 w548 w558) Q) := by
  rw [k0_part22_eq_skeleton]
  unfold k0_part22_skel
  simp only [semSignalWord, semWaitWord, Prog.lift, Prog.bind_op, Prog.bind_ret, Prog.pure_eq_ret]
  iintro ⟨#HP, O00, A00, T00, O10, A10, T10, HO⟩ Hk
  icases T00 with ⟨T00s, T00r⟩
  iapply (give m K c 0 0 _ _ (dev15_eq c) rfl rfl _ (off3_eq c) _) $$ [O00 A00 HO T00s T00r]
  · isplitr; · iexact HP
    isplitl [O00]; · iexact O00
    isplitl [A00]; · iexact A00
    isplitl [HO]; · iexact HO
    isplitl [T00s]; · iexact T00s
    iexact T00r
  iintro ⟨CO00, HO⟩
  icases T10 with ⟨T10s, T10r⟩
  iapply (give m K c 1 0 _ _ (dev16_eq c) rfl rfl _ (off3_eq c) _) $$ [O10 A10 HO T10s T10r]
  · isplitr; · iexact HP
    isplitl [O10]; · iexact O10
    isplitl [A10]; · iexact A10
    isplitl [HO]; · iexact HO
    isplitl [T10s]; · iexact T10s
    iexact T10r
  iintro ⟨CO10, HO⟩
  iapply (step_ret c)
  iapply Hk
  isplitl [CO00]; · iexact CO00
  isplitl [CO10]; · iexact CO10
  iexact HO

set_option maxRecDepth 20000 in
/-- And to the third; the second head is computed. -/
theorem part23 (w8 w492 w502 : BitVec 32) {Q : PUnit → sProp 𝕄} :
    iprop(Pers m K ∗ oqP m c 0 (oshare 2) ∗ oaS c 2 0 ∗ outT c 2 0 ∗ qsP m c 1 ∗ oqS c 1 ∗ whole c cc0_scratch6 (kA3 m c) ∗ whole c cc0_scratch7 (vA3 m c) ∗ whole c cc0_scratch8 (qrC m c) ∗ owesE c ((peer 2 c, .orecv 2 0) :: l))
      ⊢ iprop(((qsP m c 1 ∗ whole c cc0_scratch6 (kA3 m c) ∗ whole c cc0_scratch7 (vA3 m c) ∗ whole c cc0_scratch8 (qrC m c) ∗ crd c (.osend 2 0) ∗ oqP m c 1 (oshare 0) ∗ oqP m c 1 (oshare 1) ∗ oqP m c 1 (oshare 2) ∗ oqP m c 1 kept ∗ owesE c (l)) -∗ Q ⟨⟩) -∗ Wp c (onCall k0_part23 c w8 w492 w502 (krC m c)) Q) := by
  rw [k0_part23_eq_skeleton]
  unfold k0_part23_skel
  simp only [semSignalWord, semWaitWord, Prog.lift, Prog.bind_op, Prog.bind_ret, Prog.pure_eq_ret]
  iintro ⟨#HP, O20, A20, T20, Hq, Hoq, H6, H7, H8, HO⟩ Hk
  icases T20 with ⟨T20s, T20r⟩
  iapply (give m K c 2 0 _ _ (dev17_eq c) rfl rfl _ (off3_eq c) _) $$ [O20 A20 HO T20s T20r]
  · isplitr; · iexact HP
    isplitl [O20]; · iexact O20
    isplitl [A20]; · iexact A20
    isplitl [HO]; · iexact HO
    isplitl [T20s]; · iexact T20s
    iexact T20r
  iintro ⟨CO20, HO⟩
  iapply (load_val (i := (cc0_scratch5 : Ref sig .tc).idx) (hκ := rfl) c (colq 1) (ld (colq 1) (qsC m c)) _ _ _ (Finset.Subset.refl _) (by rfl)) $$ Hq
  iintro Hq
  iapply (load_val (i := (cc0_scratch6 : Ref sig .tc).idx) (hκ := rfl) c (colq 1) (ld (colq 1) (kA3 m c)) _ _ _ (Finset.subset_univ _) (by rfl)) $$ H6
  iintro H6
  iapply (load_val (i := (cc0_scratch8 : Ref sig .tc).idx) (hκ := rfl) c (colh 1) (ld (colh 1) (qrC m c)) _ _ _ (Finset.subset_univ _) (by rfl)) $$ H8
  iintro H8
  iapply (load_val (i := (cc0_scratch7 : Ref sig .tc).idx) (hκ := rfl) c (colq 1) (ld (colq 1) (vA3 m c)) _ _ _ (Finset.subset_univ _) (by rfl)) $$ H7
  iintro H7
  iapply (load_any (i := (cc0_scratch10 : Ref sig .tc).idx) (hκ := rfl) c _ _ (Finset.Subset.refl _)) $$ Hoq
  iintro %_ Hoq
  iapply (store_any (i := (cc0_scratch10 : Ref sig .tc).idx) (hκ := rfl) c (colq 1) _ (oqC m c) _ rfl (by exact fun x => (cols4_emb (oH m c) 1 x).symm)) $$ Hoq
  iintro Hoq
  ihave Hoq := (oq_shares m c 1) $$ Hoq
  icases Hoq with ⟨Hoa, Hob, Hoc, Hod⟩
  iapply (step_ret c)
  iapply Hk
  isplitl [Hq]; · iexact Hq
  isplitl [H6]; · iexact H6
  isplitl [H7]; · iexact H7
  isplitl [H8]; · iexact H8
  isplitl [CO20]; · iexact CO20
  isplitl [Hoa]; · iexact Hoa
  isplitl [Hob]; · iexact Hob
  isplitl [Hoc]; · iexact Hoc
  isplitl [Hod]; · iexact Hod
  iexact HO

set_option maxRecDepth 20000 in
/-- The second head is sent to the peers. -/
theorem part24 (w8 w520 w530 w548 w558 : BitVec 32) {Q : (Σ' (v690 : Vec F S1024x128 .f32), Vec F S1024x128 .f32) → sProp 𝕄} :
    iprop(Pers m K ∗ oqP m c 1 (oshare 0) ∗ oaS c 0 1 ∗ outT c 0 1 ∗ oqP m c 1 (oshare 1) ∗ oaS c 1 1 ∗ outT c 1 1 ∗ oqP m c 1 (oshare 2) ∗ oaS c 2 1 ∗ outT c 2 1 ∗ qsP m c 2 ∗ whole c cc0_scratch6 (kA3 m c) ∗ owesE c ((peer 0 c, .orecv 0 1) :: (peer 1 c, .orecv 1 1) :: (peer 2 c, .orecv 2 1) :: l))
      ⊢ iprop(((qsP m c 2 ∗ whole c cc0_scratch6 (kA3 m c) ∗ crd c (.osend 0 1) ∗ crd c (.osend 1 1) ∗ crd c (.osend 2 1) ∗ owesE c (l)) -∗ Q ⟨ld (colq 2) (qsC m c), ld (colq 2) (kA3 m c)⟩) -∗ Wp c (onCall k0_part24 c w8 w520 w530 w548 w558) Q) := by
  rw [k0_part24_eq_skeleton]
  unfold k0_part24_skel
  simp only [semSignalWord, semWaitWord, Prog.lift, Prog.bind_op, Prog.bind_ret, Prog.pure_eq_ret]
  iintro ⟨#HP, O01, A01, T01, O11, A11, T11, O21, A21, T21, Hq, H6, HO⟩ Hk
  icases T01 with ⟨T01s, T01r⟩
  iapply (give m K c 0 1 _ _ (dev18_eq c) rfl rfl _ (off4_eq c) _) $$ [O01 A01 HO T01s T01r]
  · isplitr; · iexact HP
    isplitl [O01]; · iexact O01
    isplitl [A01]; · iexact A01
    isplitl [HO]; · iexact HO
    isplitl [T01s]; · iexact T01s
    iexact T01r
  iintro ⟨CO01, HO⟩
  icases T11 with ⟨T11s, T11r⟩
  iapply (give m K c 1 1 _ _ (dev19_eq c) rfl rfl _ (off4_eq c) _) $$ [O11 A11 HO T11s T11r]
  · isplitr; · iexact HP
    isplitl [O11]; · iexact O11
    isplitl [A11]; · iexact A11
    isplitl [HO]; · iexact HO
    isplitl [T11s]; · iexact T11s
    iexact T11r
  iintro ⟨CO11, HO⟩
  icases T21 with ⟨T21s, T21r⟩
  iapply (give m K c 2 1 _ _ (dev20_eq c) rfl rfl _ (off4_eq c) _) $$ [O21 A21 HO T21s T21r]
  · isplitr; · iexact HP
    isplitl [O21]; · iexact O21
    isplitl [A21]; · iexact A21
    isplitl [HO]; · iexact HO
    isplitl [T21s]; · iexact T21s
    iexact T21r
  iintro ⟨CO21, HO⟩
  iapply (load_val (i := (cc0_scratch5 : Ref sig .tc).idx) (hκ := rfl) c (colq 2) (ld (colq 2) (qsC m c)) _ _ _ (Finset.Subset.refl _) (by rfl)) $$ Hq
  iintro Hq
  iapply (load_val (i := (cc0_scratch6 : Ref sig .tc).idx) (hκ := rfl) c (colq 2) (ld (colq 2) (kA3 m c)) _ _ _ (Finset.subset_univ _) (by rfl)) $$ H6
  iintro H6
  iapply (step_ret c)
  iapply Hk
  isplitl [Hq]; · iexact Hq
  isplitl [H6]; · iexact H6
  isplitl [CO01]; · iexact CO01
  isplitl [CO11]; · iexact CO11
  isplitl [CO21]; · iexact CO21
  iexact HO

end Cert.KernelIdealProof

end
-- ==== Proof.KernelIdeal.Heads2.lean ====
/-
# The last heads

One rule for each part of the kernel, from what it uses to what it leaves.
-/
module

public import proofs.«01_k».proof.Proof.KernelIdeal.Moves

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Cel → ℕ) (c : Dev nD) (l : List (Dev nD × Cel))

set_option maxRecDepth 20000 in
/-- The third head is computed and sent to one peer. -/
theorem part25 (w8 w492 w502 w520 : BitVec 32) {Q : BitVec 32 → sProp 𝕄} :
    iprop(Pers m K ∗ whole c cc0_scratch8 (qrC m c) ∗ whole c cc0_scratch7 (vA3 m c) ∗ oqS c 2 ∗ oaS c 0 2 ∗ outT c 0 2 ∗ owesE c ((peer 0 c, .orecv 0 2) :: l))
      ⊢ iprop((∀ w, (whole c cc0_scratch8 (qrC m c) ∗ whole c cc0_scratch7 (vA3 m c) ∗ crd c (.osend 0 2) ∗ oqP m c 2 (oshare 1) ∗ oqP m c 2 (oshare 2) ∗ oqP m c 2 kept ∗ owesE c (l)) -∗ Q w) -∗ Wp c (onCall k0_part25 c w8 w492 w502 w520 (krC m c) (ld (colq 2) (qsC m c)) (ld (colq 2) (kA3 m c))) Q) := by
  rw [k0_part25_eq_skeleton]
  unfold k0_part25_skel
  simp only [semSignalWord, semWaitWord, Prog.lift, Prog.bind_op, Prog.bind_ret, Prog.pure_eq_ret]
  iintro ⟨#HP, H8, H7, Hoq, A02, T02, HO⟩ Hk
  iapply (load_val (i := (cc0_scratch8 : Ref sig .tc).idx) (hκ := rfl) c (colh 2) (ld (colh 2) (qrC m c)) _ _ _ (Finset.subset_univ _) (by rfl)) $$ H8
  iintro H8
  iapply (load_val (i := (cc0_scratch7 : Ref sig .tc).idx) (hκ := rfl) c (colq 2) (ld (colq 2) (vA3 m c)) _ _ _ (Finset.subset_univ _) (by rfl)) $$ H7
  iintro H7
  iapply (load_any (i := (cc0_scratch10 : Ref sig .tc).idx) (hκ := rfl) c _ _ (Finset.Subset.refl _)) $$ Hoq
  iintro %_ Hoq
  iapply (store_any (i := (cc0_scratch10 : Ref sig .tc).idx) (hκ := rfl) c (colq 2) _ (oqC m c) _ rfl (by exact fun x => (cols4_emb (oH m c) 2 x).symm)) $$ Hoq
  iintro Hoq
  ihave Hoq := (oq_shares m c 2) $$ Hoq
  icases Hoq with ⟨Hoa, Hob, Hoc, Hod⟩
  icases T02 with ⟨T02s, T02r⟩
  iapply (give m K c 0 2 _ _ (dev21_eq c) rfl rfl _ (off5_eq c) _) $$ [Hoa A02 HO T02s T02r]
  · isplitr; · iexact HP
    isplitl [Hoa]; · iexact Hoa
    isplitl [A02]; · iexact A02
    isplitl [HO]; · iexact HO
    isplitl [T02s]; · iexact T02s
    iexact T02r
  iintro ⟨CO02, HO⟩
  iapply (step_ret c)
  iapply Hk
  isplitl [H8]; · iexact H8
  isplitl [H7]; · iexact H7
  isplitl [CO02]; · iexact CO02
  isplitl [Hob]; · iexact Hob
  isplitl [Hoc]; · iexact Hoc
  isplitl [Hod]; · iexact Hod
  iexact HO

set_option maxRecDepth 20000 in
/-- The third head is sent to the others; the scores of the fourth. -/
theorem part26 (w8 w530 w548 w558 w721 : BitVec 32) {Q : FVec F S1024x1024 .f32 → sProp 𝕄} :
    iprop(Pers m K ∗ oqP m c 2 (oshare 1) ∗ oaS c 1 2 ∗ outT c 1 2 ∗ oqP m c 2 (oshare 2) ∗ oaS c 2 2 ∗ outT c 2 2 ∗ qsP m c 3 ∗ whole c cc0_scratch6 (kA3 m c) ∗ whole c cc0_scratch8 (qrC m c) ∗ owesE c ((peer 1 c, .orecv 1 2) :: (peer 2 c, .orecv 2 2) :: l))
      ⊢ iprop(((qsP m c 3 ∗ whole c cc0_scratch6 (kA3 m c) ∗ whole c cc0_scratch8 (qrC m c) ∗ crd c (.osend 1 2) ∗ crd c (.osend 2 2) ∗ owesE c (l)) -∗ Q (k0_pay41 (krC m c) (ld (colq 3) (qsC m c)) (ld (colq 3) (kA3 m c)) (ld (colh 3) (qrC m c)))) -∗ Wp c (onCall k0_part26 c w8 w530 w548 w558 (krC m c) w721) Q) := by
  rw [k0_part26_eq_skeleton]
  unfold k0_part26_skel
  simp only [semSignalWord, semWaitWord, Prog.lift, Prog.bind_op, Prog.bind_ret, Prog.pure_eq_ret]
  iintro ⟨#HP, O12, A12, T12, O22, A22, T22, Hq, H6, H8, HO⟩ Hk
  icases T12 with ⟨T12s, T12r⟩
  iapply (give m K c 1 2 _ _ (dev22_eq c) rfl rfl _ (off5_eq c) _) $$ [O12 A12 HO T12s T12r]
  · isplitr; · iexact HP
    isplitl [O12]; · iexact O12
    isplitl [A12]; · iexact A12
    isplitl [HO]; · iexact HO
    isplitl [T12s]; · iexact T12s
    iexact T12r
  iintro ⟨CO12, HO⟩
  icases T22 with ⟨T22s, T22r⟩
  iapply (give m K c 2 2 _ _ (dev23_eq c) rfl rfl _ (off5_eq c) _) $$ [O22 A22 HO T22s T22r]
  · isplitr; · iexact HP
    isplitl [O22]; · iexact O22
    isplitl [A22]; · iexact A22
    isplitl [HO]; · iexact HO
    isplitl [T22s]; · iexact T22s
    iexact T22r
  iintro ⟨CO22, HO⟩
  iapply (load_val (i := (cc0_scratch5 : Ref sig .tc).idx) (hκ := rfl) c (colq 3) (ld (colq 3) (qsC m c)) _ _ _ (Finset.Subset.refl _) (by rfl)) $$ Hq
  iintro Hq
  iapply (load_val (i := (cc0_scratch6 : Ref sig .tc).idx) (hκ := rfl) c (colq 3) (ld (colq 3) (kA3 m c)) _ _ _ (Finset.subset_univ _) (by rfl)) $$ H6
  iintro H6
  iapply (load_val (i := (cc0_scratch8 : Ref sig .tc).idx) (hκ := rfl) c (colh 3) (ld (colh 3) (qrC m c)) _ _ _ (Finset.subset_univ _) (by rfl)) $$ H8
  iintro H8
  iapply (step_ret c)
  iapply Hk
  isplitl [Hq]; · iexact Hq
  isplitl [H6]; · iexact H6
  isplitl [H8]; · iexact H8
  isplitl [CO12]; · iexact CO12
  isplitl [CO22]; · iexact CO22
  iexact HO

set_option maxRecDepth 20000 in
/-- The fourth head is computed and sent to one peer. -/
theorem part27 (w8 w492 w502 w520 w530 : BitVec 32) {Q : PUnit → sProp 𝕄} :
    iprop(Pers m K ∗ whole c cc0_scratch7 (vA3 m c) ∗ oqS c 3 ∗ oaS c 0 3 ∗ outT c 0 3 ∗ owesE c ((peer 0 c, .orecv 0 3) :: l))
      ⊢ iprop(((whole c cc0_scratch7 (vA3 m c) ∗ crd c (.osend 0 3) ∗ oqP m c 3 (oshare 1) ∗ oqP m c 3 (oshare 2) ∗ oqP m c 3 kept ∗ owesE c (l)) -∗ Q ⟨⟩) -∗ Wp c (onCall k0_part27 c w8 w492 w502 w520 w530 (k0_pay41 (krC m c) (ld (colq 3) (qsC m c)) (ld (colq 3) (kA3 m c)) (ld (colh 3) (qrC m c)))) Q) := by
  rw [k0_part27_eq_skeleton]
  unfold k0_part27_skel
  simp only [semSignalWord, semWaitWord, Prog.lift, Prog.bind_op, Prog.bind_ret, Prog.pure_eq_ret]
  iintro ⟨#HP, H7, Hoq, A03, T03, HO⟩ Hk
  iapply (load_val (i := (cc0_scratch7 : Ref sig .tc).idx) (hκ := rfl) c (colq 3) (ld (colq 3) (vA3 m c)) _ _ _ (Finset.subset_univ _) (by rfl)) $$ H7
  iintro H7
  iapply (load_any (i := (cc0_scratch10 : Ref sig .tc).idx) (hκ := rfl) c _ _ (Finset.Subset.refl _)) $$ Hoq
  iintro %_ Hoq
  iapply (store_any (i := (cc0_scratch10 : Ref sig .tc).idx) (hκ := rfl) c (colq 3) _ (oqC m c) _ rfl (by exact fun x => (cols4_emb (oH m c) 3 x).symm)) $$ Hoq
  iintro Hoq
  ihave Hoq := (oq_shares m c 3) $$ Hoq
  icases Hoq with ⟨Hoa, Hob, Hoc, Hod⟩
  icases T03 with ⟨T03s, T03r⟩
  iapply (give m K c 0 3 _ _ (dev24_eq c) rfl rfl _ (off6_eq c) _) $$ [Hoa A03 HO T03s T03r]
  · isplitr; · iexact HP
    isplitl [Hoa]; · iexact Hoa
    isplitl [A03]; · iexact A03
    isplitl [HO]; · iexact HO
    isplitl [T03s]; · iexact T03s
    iexact T03r
  iintro ⟨CO03, HO⟩
  iapply (step_ret c)
  iapply Hk
  isplitl [H7]; · iexact H7
  isplitl [CO03]; · iexact CO03
  isplitl [Hob]; · iexact Hob
  isplitl [Hoc]; · iexact Hoc
  isplitl [Hod]; · iexact Hod
  iexact HO

set_option maxRecDepth 20000 in
/-- The fourth head is sent to the others; the next rows of the output weights are asked for, and the first awaited. -/
theorem part28 (w8 w475 w548 w558 : BitVec 32) {Q : PUnit → sProp 𝕄} (hl : ∀ x ∈ l, 0 < lvl x.2) :
    iprop(Pers m K ∗ oqP m c 3 (oshare 1) ∗ oaS c 1 3 ∗ outT c 1 3 ∗ oqP m c 3 (oshare 2) ∗ oaS c 2 3 ∗ outT c 2 3 ∗ rowP m c 1 ∗ woS c 1 ∗ tok c (.wo 1) 0 ∗ wt c (.wo 0) ∗ owesE c ((peer 1 c, .orecv 1 3) :: (peer 2 c, .orecv 2 3) :: l))
      ⊢ iprop(((crd c (.osend 1 3) ∗ crd c (.osend 2 3) ∗ crd c (.wo 1) ∗ done c (.wo 0) ∗ rowP m c 0 ∗ woP m c 0 0 ∗ owesE c (l)) -∗ Q ⟨⟩) -∗ Wp c (onCall k0_part28 c w8 w475 w548 w558) Q) := by
  rw [k0_part28_eq_skeleton]
  unfold k0_part28_skel
  simp only [semSignalWord, semWaitWord, Prog.lift, Prog.bind_op, Prog.bind_ret, Prog.pure_eq_ret]
  iintro ⟨#HP, O13, A13, T13, O23, A23, T23, R1, Hs1, Tw1, Ww0, HO⟩ Hk
  icases T13 with ⟨T13s, T13r⟩
  iapply (give m K c 1 3 _ _ (dev25_eq c) rfl rfl _ (off6_eq c) _) $$ [O13 A13 HO T13s T13r]
  · isplitr; · iexact HP
    isplitl [O13]; · iexact O13
    isplitl [A13]; · iexact A13
    isplitl [HO]; · iexact HO
    isplitl [T13s]; · iexact T13s
    iexact T13r
  iintro ⟨CO13, HO⟩
  icases T23 with ⟨T23s, T23r⟩
  iapply (give m K c 2 3 _ _ (dev26_eq c) rfl rfl _ (off6_eq c) _) $$ [O23 A23 HO T23s T23r]
  · isplitr; · iexact HP
    isplitl [O23]; · iexact O23
    isplitl [A23]; · iexact A23
    isplitl [HO]; · iexact HO
    isplitl [T23s]; · iexact T23s
    iexact T23r
  iintro ⟨CO23, HO⟩
  iapply (fetchWo m K c 1 rfl _ (off7_eq1 c) _ 1 rfl) $$ [R1 Hs1 Tw1]
  · isplitr; · iexact HP
    isplitl [R1]; · iexact R1
    isplitl [Hs1]; · iexact Hs1
    iexact Tw1
  iintro CW1
  icases Ww0 with ⟨Ww0c, Ww0o⟩
  iapply (step_waitDma m K c (.wo 0) 0 (by decide) _ hl rfl rfl cntW_eq.symm) $$ [Ww0c Ww0o HO]
  · isplitr; · iexact HP
    isplitl [Ww0c]; · iexact Ww0c
    isplitl [Ww0o]; · iexact Ww0o
    iexact HO
  iintro ⟨DWw0, HO, Hw0⟩
  ihave Hw0 := (show payl (F := F) m c (.wo 0) 0 ⊢ iprop(woP m c 0 0 ∗ rowP m c 0) from .rfl) $$ Hw0
  icases Hw0 with ⟨Hw0, R0⟩
  iapply (step_ret c)
  iapply Hk
  isplitl [CO13]; · iexact CO13
  isplitl [CO23]; · iexact CO23
  isplitl [CW1]; · iexact CW1
  isplitl [DWw0]; · iexact DWw0
  isplitl [R0]; · iexact R0
  isplitl [Hw0]; · iexact Hw0
  iexact HO

end Cert.KernelIdealProof

end
-- ==== Proof.KernelIdeal.Gather.lean ====
/-
# The output weights

One rule for each part of the kernel, from what it uses to what it leaves.
-/
module

public import proofs.«01_k».proof.Proof.KernelIdeal.Moves

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Cel → ℕ) (c : Dev nD) (l : List (Dev nD × Cel))

set_option maxRecDepth 20000 in
/-- The own head quarter goes through the output weights; the third rows are asked for. -/
theorem part29 (w8 w492 w502 w503 : BitVec 32) {Q : BitVec 32 → sProp 𝕄} (hl : ∀ x ∈ l, 6 < lvl x.2) :
    iprop(Pers m K ∗ pts c cc0_scratch10 Finset.univ kept (oqC m c) ∗ woP m c 0 0 ∗ anyOf c cc0_stg6_0 ∗ rowP m c 2 ∗ tok c (.wo 2) 0 ∗ wt c (.orecv 0 0) ∗ owesE c (l))
      ⊢ iprop((∀ w, (pts c cc0_scratch10 Finset.univ kept (oqC m c) ∗ crd c (.wo 2) ∗ done c (.orecv 0 0) ∗ oaP m c 0 0 ∗ whole c cc0_stg6_0 (out0 m c) ∗ owesE c (l)) -∗ Q w) -∗ Wp c (onCall k0_part29 c w8 w492 w502 w503) Q) := by
  rw [k0_part29_eq_skeleton]
  unfold k0_part29_skel
  simp only [semSignalWord, semWaitWord, Prog.lift, Prog.bind_op, Prog.bind_ret, Prog.pure_eq_ret]
  iintro ⟨#HP, Ho, Hs0, Hout, R2, Tw2, Wr00, HO⟩ Hk
  iapply (step_load_whole c rfl _ _ _ (oqC m c) (emb_zero _ z2 _ _)) $$ Ho
  iintro Ho
  iapply (load_val (i := (cc0_scratch12 : Ref sig .tc).idx) (hκ := rfl) c (wslot 0) (ld (wslot 0) (woC m c 0)) _ _ _ (Finset.Subset.refl _) (by rfl)) $$ Hs0
  iintro Hs0
  iapply (load_any (i := (cc0_stg6_0 : Ref sig .tc).idx) (hκ := rfl) c _ _ (Finset.subset_univ _)) $$ Hout
  iintro %_ Hout
  iapply (store_any (i := (cc0_stg6_0 : Ref sig .tc).idx) (hκ := rfl) c _ _ (out0 m c) _ (set_zero _ z3 _) fun x => (congrFun (emb_zero _ z3 _ (out0 m c)) x).symm) $$ Hout
  iintro Hout
  ihave Hs0 := (some_intro c cc0_scratch12 _ _) $$ Hs0
  iapply (fetchWo m K c 2 rfl _ (off7_eq2 c) _ 0 rfl) $$ [R2 Hs0 Tw2]
  · isplitr; · iexact HP
    isplitl [R2]; · iexact R2
    isplitl [Hs0]; · iexact Hs0
    iexact Tw2
  iintro CW2
  icases Wr00 with ⟨Wr00c, Wr00o⟩
  iapply (step_waitDma m K c (.orecv 0 0) 6 (by decide) _ hl rfl rfl cntO_eq.symm) $$ [Wr00c Wr00o HO]
  · isplitr; · iexact HP
    isplitl [Wr00c]; · iexact Wr00c
    isplitl [Wr00o]; · iexact Wr00o
    iexact HO
  iintro ⟨DWr00, HO, N00⟩
  ihave N00 := (show payl (F := F) m c (.orecv 0 0) 0 ⊢ oaP m c 0 0 from .rfl) $$ N00
  iapply (step_ret c)
  iapply Hk
  isplitl [Ho]; · iexact Ho
  isplitl [CW2]; · iexact CW2
  isplitl [DWr00]; · iexact DWr00
  isplitl [N00]; · iexact N00
  isplitl [Hout]; · iexact Hout
  iexact HO

set_option maxRecDepth 20000 in
/-- Two more heads of the first peer arrive. -/
theorem part30 (w8 w492 w502 w838 : BitVec 32) {Q : PUnit → sProp 𝕄} (hl : ∀ x ∈ l, 6 < lvl x.2) :
    iprop(Pers m K ∗ wt c (.orecv 0 1) ∗ wt c (.orecv 0 2) ∗ owesE c (l))
      ⊢ iprop(((done c (.orecv 0 1) ∗ oaP m c 0 1 ∗ done c (.orecv 0 2) ∗ oaP m c 0 2 ∗ owesE c (l)) -∗ Q ⟨⟩) -∗ Wp c (onCall k0_part30 c w8 w492 w502 w838) Q) := by
  rw [k0_part30_eq_skeleton]
  unfold k0_part30_skel
  simp only [semSignalWord, semWaitWord, Prog.lift, Prog.bind_op, Prog.bind_ret, Prog.pure_eq_ret]
  iintro ⟨#HP, Wr01, Wr02, HO⟩ Hk
  icases Wr01 with ⟨Wr01c, Wr01o⟩
  iapply (step_waitDma m K c (.orecv 0 1) 6 (by decide) _ hl rfl rfl cntO_eq.symm) $$ [Wr01c Wr01o HO]
  · isplitr; · iexact HP
    isplitl [Wr01c]; · iexact Wr01c
    isplitl [Wr01o]; · iexact Wr01o
    iexact HO
  iintro ⟨DWr01, HO, N01⟩
  ihave N01 := (show payl (F := F) m c (.orecv 0 1) 0 ⊢ oaP m c 0 1 from .rfl) $$ N01
  icases Wr02 with ⟨Wr02c, Wr02o⟩
  iapply (step_waitDma m K c (.orecv 0 2) 6 (by decide) _ hl rfl rfl cntO_eq.symm) $$ [Wr02c Wr02o HO]
  · isplitr; · iexact HP
    isplitl [Wr02c]; · iexact Wr02c
    isplitl [Wr02o]; · iexact Wr02o
    iexact HO
  iintro ⟨DWr02, HO, N02⟩
  ihave N02 := (show payl (F := F) m c (.orecv 0 2) 0 ⊢ oaP m c 0 2 from .rfl) $$ N02
  iapply (step_ret c)
  iapply Hk
  isplitl [DWr01]; · iexact DWr01
  isplitl [N01]; · iexact N01
  isplitl [DWr02]; · iexact DWr02
  isplitl [N02]; · iexact N02
  iexact HO

set_option maxRecDepth 20000 in
/-- The first peer's outputs are complete and go through their rows; the last rows are asked for. -/
theorem part31 (w475 w520 w531 : BitVec 32) {Q : (Σ' (v893 : BitVec 32), BitVec 32) → sProp 𝕄} (hl : ∀ x ∈ l, 6 < lvl x.2) :
    iprop(Pers m K ∗ wt c (.orecv 0 3) ∗ wt c (.wo 1) ∗ oaP m c 0 0 ∗ oaP m c 0 1 ∗ oaP m c 0 2 ∗ whole c cc0_stg6_0 (out0 m c) ∗ rowP m c 3 ∗ tok c (.wo 3) 0 ∗ owesE c (l))
      ⊢ iprop((∀ w, (done c (.orecv 0 3) ∗ done c (.wo 1) ∗ rowP m c 1 ∗ crd c (.wo 3) ∗ oaW m c 0 ∗ whole c cc0_stg6_0 (out1 m c) ∗ owesE c (l)) -∗ Q w) -∗ Wp c (onCall k0_part31 c w475 w520 w531) Q) := by
  rw [k0_part31_eq_skeleton]
  unfold k0_part31_skel
  simp only [semSignalWord, semWaitWord, Prog.lift, Prog.bind_op, Prog.bind_ret, Prog.pure_eq_ret]
  iintro ⟨#HP, Wr03, Ww1, N00, N01, N02, Hout, R3, Tw3, HO⟩ Hk
  icases Wr03 with ⟨Wr03c, Wr03o⟩
  iapply (step_waitDma m K c (.orecv 0 3) 6 (by decide) _ hl rfl rfl cntO_eq.symm) $$ [Wr03c Wr03o HO]
  · isplitr; · iexact HP
    isplitl [Wr03c]; · iexact Wr03c
    isplitl [Wr03o]; · iexact Wr03o
    iexact HO
  iintro ⟨DWr03, HO, N03⟩
  ihave N03 := (show payl (F := F) m c (.orecv 0 3) 0 ⊢ oaP m c 0 3 from .rfl) $$ N03
  icases Ww1 with ⟨Ww1c, Ww1o⟩
  iapply (step_waitDma m K c (.wo 1) 6 (by decide) _ hl rfl rfl cntW_eq.symm) $$ [Ww1c Ww1o HO]
  · isplitr; · iexact HP
    isplitl [Ww1c]; · iexact Ww1c
    isplitl [Ww1o]; · iexact Ww1o
    iexact HO
  iintro ⟨DWw1, HO, Hw1⟩
  ihave Hw1 := (show payl (F := F) m c (.wo 1) 0 ⊢ iprop(woP m c 1 1 ∗ rowP m c 1) from .rfl) $$ Hw1
  icases Hw1 with ⟨Hw1, R1⟩
  ihave Hsl := (oa_cols m c 0) $$ [N00 N01 N02 N03]
  · isplitl [N00]; · iexact N00
    isplitl [N01]; · iexact N01
    isplitl [N02]; · iexact N02
    iexact N03
  iapply (step_load_whole c rfl _ _ _ (out0 m c) (emb_zero _ z3 _ _)) $$ Hout
  iintro Hout
  ihave Hsl := (show oaW m c 0 ⊢ pts c cc0_scratch11 (oslabW (qx (hq c) 1)).set fullShare (oaC m c) from .rfl) $$ Hsl
  iapply (load_slab c (qx (hq c) 1) _ (off12_eq1 c) _ fullShare (oaC m c)) $$ Hsl
  iintro Hsl
  iapply (load_val (i := (cc0_scratch12 : Ref sig .tc).idx) (hκ := rfl) c (wslot 1) (ld (wslot 1) (woC m c 1)) _ _ _ (Finset.Subset.refl _) (by rfl)) $$ Hw1
  iintro Hw1
  iapply (step_load_whole c rfl _ _ _ (out0 m c) (emb_zero _ z3 _ _)) $$ Hout
  iintro Hout
  iapply (step_store c _ _ _ (out1 m c) _ (set_zero _ z3 _) fun x => (congrFun (emb_zero _ z3 _ (out1 m c)) x).symm) $$ Hout
  iintro Hout
  ihave Hs1 := (some_intro c cc0_scratch12 _ _) $$ Hw1
  iapply (fetchWo m K c 3 rfl _ (off7_eq3 c) _ 1 rfl) $$ [R3 Hs1 Tw3]
  · isplitr; · iexact HP
    isplitl [R3]; · iexact R3
    isplitl [Hs1]; · iexact Hs1
    iexact Tw3
  iintro CW3
  iapply (step_ret c)
  iapply Hk
  isplitl [DWr03]; · iexact DWr03
  isplitl [DWw1]; · iexact DWw1
  isplitl [R1]; · iexact R1
  isplitl [CW3]; · iexact CW3
  isplitl [Hsl]; · iexact Hsl
  isplitl [Hout]; · iexact Hout
  iexact HO

set_option maxRecDepth 20000 in
/-- Two heads of the second peer arrive. -/
theorem part32 (w8 w520 w530 w893 w859 : BitVec 32) {Q : PUnit → sProp 𝕄} (hl : ∀ x ∈ l, 6 < lvl x.2) :
    iprop(Pers m K ∗ wt c (.orecv 1 0) ∗ wt c (.orecv 1 1) ∗ owesE c (l))
      ⊢ iprop(((done c (.orecv 1 0) ∗ oaP m c 1 0 ∗ done c (.orecv 1 1) ∗ oaP m c 1 1 ∗ owesE c (l)) -∗ Q ⟨⟩) -∗ Wp c (onCall k0_part32 c w8 w520 w530 w893 w859) Q) := by
  rw [k0_part32_eq_skeleton]
  unfold k0_part32_skel
  simp only [semSignalWord, semWaitWord, Prog.lift, Prog.bind_op, Prog.bind_ret, Prog.pure_eq_ret]
  iintro ⟨#HP, Wr10, Wr11, HO⟩ Hk
  icases Wr10 with ⟨Wr10c, Wr10o⟩
  iapply (step_waitDma m K c (.orecv 1 0) 6 (by decide) _ hl rfl rfl cntO_eq.symm) $$ [Wr10c Wr10o HO]
  · isplitr; · iexact HP
    isplitl [Wr10c]; · iexact Wr10c
    isplitl [Wr10o]; · iexact Wr10o
    iexact HO
  iintro ⟨DWr10, HO, N10⟩
  ihave N10 := (show payl (F := F) m c (.orecv 1 0) 0 ⊢ oaP m c 1 0 from .rfl) $$ N10
  icases Wr11 with ⟨Wr11c, Wr11o⟩
  iapply (step_waitDma m K c (.orecv 1 1) 6 (by decide) _ hl rfl rfl cntO_eq.symm) $$ [Wr11c Wr11o HO]
  · isplitr; · iexact HP
    isplitl [Wr11c]; · iexact Wr11c
    isplitl [Wr11o]; · iexact Wr11o
    iexact HO
  iintro ⟨DWr11, HO, N11⟩
  ihave N11 := (show payl (F := F) m c (.orecv 1 1) 0 ⊢ oaP m c 1 1 from .rfl) $$ N11
  iapply (step_ret c)
  iapply Hk
  isplitl [DWr10]; · iexact DWr10
  isplitl [N10]; · iexact N10
  isplitl [DWr11]; · iexact DWr11
  isplitl [N11]; · iexact N11
  iexact HO

set_option maxRecDepth 20000 in
/-- The second peer's outputs are complete and go through their rows. -/
theorem part33 (w8 w503 w520 w530 : BitVec 32) {Q : FVec F S1024x2048 .f32 → sProp 𝕄} (hl : ∀ x ∈ l, 6 < lvl x.2) :
    iprop(Pers m K ∗ wt c (.orecv 1 2) ∗ wt c (.orecv 1 3) ∗ wt c (.wo 2) ∗ oaP m c 1 0 ∗ oaP m c 1 1 ∗ whole c cc0_stg6_0 (out1 m c) ∗ owesE c (l))
      ⊢ iprop(((done c (.orecv 1 2) ∗ done c (.orecv 1 3) ∗ done c (.wo 2) ∗ rowP m c 2 ∗ whole c cc0_stg6_0 (out1 m c) ∗ oaW m c 1 ∗ woP m c 0 2 ∗ owesE c (l)) -∗ Q (k0_pay45 (out1 m c) (ld (oslabW (qx (hq c) 2)) (oaC m c)) (ld (wslot 0) (woC m c 2)))) -∗ Wp c (onCall k0_part33 c w8 w503 w520 w530) Q) := by
  rw [k0_part33_eq_skeleton]
  unfold k0_part33_skel
  simp only [semSignalWord, semWaitWord, Prog.lift, Prog.bind_op, Prog.bind_ret, Prog.pure_eq_ret]
  iintro ⟨#HP, Wr12, Wr13, Ww2, N10, N11, Hout, HO⟩ Hk
  icases Wr12 with ⟨Wr12c, Wr12o⟩
  iapply (step_waitDma m K c (.orecv 1 2) 6 (by decide) _ hl rfl rfl cntO_eq.symm) $$ [Wr12c Wr12o HO]
  · isplitr; · iexact HP
    isplitl [Wr12c]; · iexact Wr12c
    isplitl [Wr12o]; · iexact Wr12o
    iexact HO
  iintro ⟨DWr12, HO, N12⟩
  ihave N12 := (show payl (F := F) m c (.orecv 1 2) 0 ⊢ oaP m c 1 2 from .rfl) $$ N12
  icases Wr13 with ⟨Wr13c, Wr13o⟩
  iapply (step_waitDma m K c (.orecv 1 3) 6 (by decide) _ hl rfl rfl cntO_eq.symm) $$ [Wr13c Wr13o HO]
  · isplitr; · iexact HP
    isplitl [Wr13c]; · iexact Wr13c
    isplitl [Wr13o]; · iexact Wr13o
    iexact HO
  iintro ⟨DWr13, HO, N13⟩
  ihave N13 := (show payl (F := F) m c (.orecv 1 3) 0 ⊢ oaP m c 1 3 from .rfl) $$ N13
  icases Ww2 with ⟨Ww2c, Ww2o⟩
  iapply (step_waitDma m K c (.wo 2) 6 (by decide) _ hl rfl rfl cntW_eq.symm) $$ [Ww2c Ww2o HO]
  · isplitr; · iexact HP
    isplitl [Ww2c]; · iexact Ww2c
    isplitl [Ww2o]; · iexact Ww2o
    iexact HO
  iintro ⟨DWw2, HO, Hw2⟩
  ihave Hw2 := (show payl (F := F) m c (.wo 2) 0 ⊢ iprop(woP m c 0 2 ∗ rowP m c 2) from .rfl) $$ Hw2
  icases Hw2 with ⟨Hw2, R2⟩
  ihave Hsl := (oa_cols m c 1) $$ [N10 N11 N12 N13]
  · isplitl [N10]; · iexact N10
    isplitl [N11]; · iexact N11
    isplitl [N12]; · iexact N12
    iexact N13
  iapply (step_load_whole c rfl _ _ _ (out1 m c) (emb_zero _ z3 _ _)) $$ Hout
  iintro Hout
  ihave Hsl := (show oaW m c 1 ⊢ pts c cc0_scratch11 (oslabW (qx (hq c) 2)).set fullShare (oaC m c) from .rfl) $$ Hsl
  iapply (load_slab c (qx (hq c) 2) _ (off12_eq2 c) _ fullShare (oaC m c)) $$ Hsl
  iintro Hsl
  iapply (load_val (i := (cc0_scratch12 : Ref sig .tc).idx) (hκ := rfl) c (wslot 0) (ld (wslot 0) (woC m c 2)) _ _ _ (Finset.Subset.refl _) (by rfl)) $$ Hw2
  iintro Hw2
  iapply (step_ret c)
  iapply Hk
  isplitl [DWr12]; · iexact DWr12
  isplitl [DWr13]; · iexact DWr13
  isplitl [DWw2]; · iexact DWw2
  isplitl [R2]; · iexact R2
  isplitl [Hout]; · iexact Hout
  isplitl [Hsl]; · iexact Hsl
  isplitl [Hw2]; · iexact Hw2
  iexact HO

end Cert.KernelIdealProof

end
-- ==== Proof.KernelIdeal.Gather2.lean ====
/-
# The end

One rule for each part of the kernel, from what it uses to what it leaves.
-/
module

public import proofs.«01_k».proof.Proof.KernelIdeal.Moves

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Cel → ℕ) (c : Dev nD) (l : List (Dev nD × Cel))

set_option maxRecDepth 20000 in
/-- Their term is added; two heads of the third peer arrive. -/
theorem part34 (w8 w548 w558 : BitVec 32) {Q : (Σ' (v976 : BitVec 32), BitVec 32) → sProp 𝕄} (hl : ∀ x ∈ l, 6 < lvl x.2) :
    iprop(Pers m K ∗ whole c cc0_stg6_0 (out1 m c) ∗ wt c (.orecv 2 0) ∗ wt c (.orecv 2 1) ∗ owesE c (l))
      ⊢ iprop((∀ w, (done c (.orecv 2 0) ∗ oaP m c 2 0 ∗ done c (.orecv 2 1) ∗ oaP m c 2 1 ∗ whole c cc0_stg6_0 (out2 m c) ∗ owesE c (l)) -∗ Q w) -∗ Wp c (onCall k0_part34 c w8 w548 w558 (k0_pay45 (out1 m c) (ld (oslabW (qx (hq c) 2)) (oaC m c)) (ld (wslot 0) (woC m c 2)))) Q) := by
  rw [k0_part34_eq_skeleton]
  unfold k0_part34_skel
  simp only [semSignalWord, semWaitWord, Prog.lift, Prog.bind_op, Prog.bind_ret, Prog.pure_eq_ret]
  iintro ⟨#HP, Hout, Wr20, Wr21, HO⟩ Hk
  iapply (step_load_whole c rfl _ _ _ (out1 m c) (emb_zero _ z3 _ _)) $$ Hout
  iintro Hout
  iapply (step_store c _ _ _ (out2 m c) _ (set_zero _ z3 _) fun x => (congrFun (emb_zero _ z3 _ (out2 m c)) x).symm) $$ Hout
  iintro Hout
  icases Wr20 with ⟨Wr20c, Wr20o⟩
  iapply (step_waitDma m K c (.orecv 2 0) 6 (by decide) _ hl rfl rfl cntO_eq.symm) $$ [Wr20c Wr20o HO]
  · isplitr; · iexact HP
    isplitl [Wr20c]; · iexact Wr20c
    isplitl [Wr20o]; · iexact Wr20o
    iexact HO
  iintro ⟨DWr20, HO, N20⟩
  ihave N20 := (show payl (F := F) m c (.orecv 2 0) 0 ⊢ oaP m c 2 0 from .rfl) $$ N20
  icases Wr21 with ⟨Wr21c, Wr21o⟩
  iapply (step_waitDma m K c (.orecv 2 1) 6 (by decide) _ hl rfl rfl cntO_eq.symm) $$ [Wr21c Wr21o HO]
  · isplitr; · iexact HP
    isplitl [Wr21c]; · iexact Wr21c
    isplitl [Wr21o]; · iexact Wr21o
    iexact HO
  iintro ⟨DWr21, HO, N21⟩
  ihave N21 := (show payl (F := F) m c (.orecv 2 1) 0 ⊢ oaP m c 2 1 from .rfl) $$ N21
  iapply (step_ret c)
  iapply Hk
  isplitl [DWr20]; · iexact DWr20
  isplitl [N20]; · iexact N20
  isplitl [DWr21]; · iexact DWr21
  isplitl [N21]; · iexact N21
  isplitl [Hout]; · iexact Hout
  iexact HO

set_option maxRecDepth 20000 in
/-- The third peer's outputs are complete. -/
theorem part35 (w8 w531 w548 w558 w976 w948 : BitVec 32) {Q : FVec F S1024x2048 .f32 → sProp 𝕄} (hl : ∀ x ∈ l, 6 < lvl x.2) :
    iprop(Pers m K ∗ wt c (.orecv 2 2) ∗ wt c (.orecv 2 3) ∗ wt c (.wo 3) ∗ whole c cc0_stg6_0 (out2 m c) ∗ owesE c (l))
      ⊢ iprop(((done c (.orecv 2 2) ∗ oaP m c 2 2 ∗ done c (.orecv 2 3) ∗ oaP m c 2 3 ∗ done c (.wo 3) ∗ rowP m c 3 ∗ whole c cc0_stg6_0 (out2 m c) ∗ woP m c 1 3 ∗ owesE c (l)) -∗ Q (k0_pay47 (out2 m c))) -∗ Wp c (onCall k0_part35 c w8 w531 w548 w558 w976 w948) Q) := by
  rw [k0_part35_eq_skeleton]
  unfold k0_part35_skel
  simp only [semSignalWord, semWaitWord, Prog.lift, Prog.bind_op, Prog.bind_ret, Prog.pure_eq_ret]
  iintro ⟨#HP, Wr22, Wr23, Ww3, Hout, HO⟩ Hk
  icases Wr22 with ⟨Wr22c, Wr22o⟩
  iapply (step_waitDma m K c (.orecv 2 2) 6 (by decide) _ hl rfl rfl cntO_eq.symm) $$ [Wr22c Wr22o HO]
  · isplitr; · iexact HP
    isplitl [Wr22c]; · iexact Wr22c
    isplitl [Wr22o]; · iexact Wr22o
    iexact HO
  iintro ⟨DWr22, HO, N22⟩
  ihave N22 := (show payl (F := F) m c (.orecv 2 2) 0 ⊢ oaP m c 2 2 from .rfl) $$ N22
  icases Wr23 with ⟨Wr23c, Wr23o⟩
  iapply (step_waitDma m K c (.orecv 2 3) 6 (by decide) _ hl rfl rfl cntO_eq.symm) $$ [Wr23c Wr23o HO]
  · isplitr; · iexact HP
    isplitl [Wr23c]; · iexact Wr23c
    isplitl [Wr23o]; · iexact Wr23o
    iexact HO
  iintro ⟨DWr23, HO, N23⟩
  ihave N23 := (show payl (F := F) m c (.orecv 2 3) 0 ⊢ oaP m c 2 3 from .rfl) $$ N23
  icases Ww3 with ⟨Ww3c, Ww3o⟩
  iapply (step_waitDma m K c (.wo 3) 6 (by decide) _ hl rfl rfl cntW_eq.symm) $$ [Ww3c Ww3o HO]
  · isplitr; · iexact HP
    isplitl [Ww3c]; · iexact Ww3c
    isplitl [Ww3o]; · iexact Ww3o
    iexact HO
  iintro ⟨DWw3, HO, Hw3⟩
  ihave Hw3 := (show payl (F := F) m c (.wo 3) 0 ⊢ iprop(woP m c 1 3 ∗ rowP m c 3) from .rfl) $$ Hw3
  icases Hw3 with ⟨Hw3, R3⟩
  iapply (step_load_whole c rfl _ _ _ (out2 m c) (emb_zero _ z3 _ _)) $$ Hout
  iintro Hout
  iapply (step_ret c)
  iapply Hk
  isplitl [DWr22]; · iexact DWr22
  isplitl [N22]; · iexact N22
  isplitl [DWr23]; · iexact DWr23
  isplitl [N23]; · iexact N23
  isplitl [DWw3]; · iexact DWw3
  isplitl [R3]; · iexact R3
  isplitl [Hout]; · iexact Hout
  isplitl [Hw3]; · iexact Hw3
  iexact HO

set_option maxRecDepth 20000 in
/-- The last term of the result; the sends of the outputs end. -/
theorem part36 {Q : PUnit → sProp 𝕄} (hl : ∀ x ∈ l, 0 < lvl x.2) :
    iprop(Pers m K ∗ oaP m c 2 0 ∗ oaP m c 2 1 ∗ oaP m c 2 2 ∗ oaP m c 2 3 ∗ woP m c 1 3 ∗ whole c cc0_stg6_0 (out2 m c) ∗ wt c (.osend 0 0) ∗ wt c (.osend 1 0) ∗ owesE c (l))
      ⊢ iprop(((woP m c 1 3 ∗ done c (.osend 0 0) ∗ oqP m c 0 (oshare 0) ∗ done c (.osend 1 0) ∗ oqP m c 0 (oshare 1) ∗ oaW m c 2 ∗ whole c cc0_stg6_0 (out3 m c) ∗ owesE c (l)) -∗ Q ⟨⟩) -∗ Wp c (onCall k0_part36 c (k0_pay47 (out2 m c))) Q) := by
  rw [k0_part36_eq_skeleton]
  unfold k0_part36_skel
  simp only [semSignalWord, semWaitWord, Prog.lift, Prog.bind_op, Prog.bind_ret, Prog.pure_eq_ret]
  iintro ⟨#HP, N20, N21, N22, N23, Hw3, Hout, Ws00, Ws10, HO⟩ Hk
  ihave Hsl := (oa_cols m c 2) $$ [N20 N21 N22 N23]
  · isplitl [N20]; · iexact N20
    isplitl [N21]; · iexact N21
    isplitl [N22]; · iexact N22
    iexact N23
  ihave Hsl := (show oaW m c 2 ⊢ pts c cc0_scratch11 (oslabW (qx (hq c) 3)).set fullShare (oaC m c) from .rfl) $$ Hsl
  iapply (load_slab c (qx (hq c) 3) _ (off12_eq3 c) _ fullShare (oaC m c)) $$ Hsl
  iintro Hsl
  iapply (load_val (i := (cc0_scratch12 : Ref sig .tc).idx) (hκ := rfl) c (wslot 1) (ld (wslot 1) (woC m c 3)) _ _ _ (Finset.Subset.refl _) (by rfl)) $$ Hw3
  iintro Hw3
  iapply (step_load_whole c rfl _ _ _ (out2 m c) (emb_zero _ z3 _ _)) $$ Hout
  iintro Hout
  iapply (step_store c _ _ _ (out3 m c) _ (set_zero _ z3 _) fun x => (congrFun (emb_zero _ z3 _ (out3 m c)) x).symm) $$ Hout
  iintro Hout
  icases Ws00 with ⟨Ws00c, Ws00o⟩
  iapply (step_waitDma m K c (.osend 0 0) 0 (by decide) _ hl rfl rfl (osend_credit.symm.trans cntO_eq.symm)) $$ [Ws00c Ws00o HO]
  · isplitr; · iexact HP
    isplitl [Ws00c]; · iexact Ws00c
    isplitl [Ws00o]; · iexact Ws00o
    iexact HO
  iintro ⟨DWs00, HO, O00⟩
  ihave O00 := (show payl (F := F) m c (.osend 0 0) 0 ⊢ oqP m c 0 (oshare 0) from .rfl) $$ O00
  icases Ws10 with ⟨Ws10c, Ws10o⟩
  iapply (step_waitDma m K c (.osend 1 0) 0 (by decide) _ hl rfl rfl (osend_credit.symm.trans cntO_eq.symm)) $$ [Ws10c Ws10o HO]
  · isplitr; · iexact HP
    isplitl [Ws10c]; · iexact Ws10c
    isplitl [Ws10o]; · iexact Ws10o
    iexact HO
  iintro ⟨DWs10, HO, O10⟩
  ihave O10 := (show payl (F := F) m c (.osend 1 0) 0 ⊢ oqP m c 0 (oshare 1) from .rfl) $$ O10
  iapply (step_ret c)
  iapply Hk
  isplitl [Hw3]; · iexact Hw3
  isplitl [DWs00]; · iexact DWs00
  isplitl [O00]; · iexact O00
  isplitl [DWs10]; · iexact DWs10
  isplitl [O10]; · iexact O10
  isplitl [Hsl]; · iexact Hsl
  isplitl [Hout]; · iexact Hout
  iexact HO

set_option maxRecDepth 20000 in
/-- More sends end. -/
theorem part37 {Q : PUnit → sProp 𝕄} (hl : ∀ x ∈ l, 0 < lvl x.2) :
    iprop(Pers m K ∗ wt c (.osend 2 0) ∗ wt c (.osend 0 1) ∗ wt c (.osend 1 1) ∗ wt c (.osend 2 1) ∗ owesE c (l))
      ⊢ iprop(((done c (.osend 2 0) ∗ oqP m c 0 (oshare 2) ∗ done c (.osend 0 1) ∗ oqP m c 1 (oshare 0) ∗ done c (.osend 1 1) ∗ oqP m c 1 (oshare 1) ∗ done c (.osend 2 1) ∗ oqP m c 1 (oshare 2) ∗ owesE c (l)) -∗ Q ⟨⟩) -∗ Wp c (onCall k0_part37 c) Q) := by
  rw [k0_part37_eq_skeleton]
  unfold k0_part37_skel
  simp only [semSignalWord, semWaitWord, Prog.lift, Prog.bind_op, Prog.bind_ret, Prog.pure_eq_ret]
  iintro ⟨#HP, Ws20, Ws01, Ws11, Ws21, HO⟩ Hk
  icases Ws20 with ⟨Ws20c, Ws20o⟩
  iapply (step_waitDma m K c (.osend 2 0) 0 (by decide) _ hl rfl rfl (osend_credit.symm.trans cntO_eq.symm)) $$ [Ws20c Ws20o HO]
  · isplitr; · iexact HP
    isplitl [Ws20c]; · iexact Ws20c
    isplitl [Ws20o]; · iexact Ws20o
    iexact HO
  iintro ⟨DWs20, HO, O20⟩
  ihave O20 := (show payl (F := F) m c (.osend 2 0) 0 ⊢ oqP m c 0 (oshare 2) from .rfl) $$ O20
  icases Ws01 with ⟨Ws01c, Ws01o⟩
  iapply (step_waitDma m K c (.osend 0 1) 0 (by decide) _ hl rfl rfl (osend_credit.symm.trans cntO_eq.symm)) $$ [Ws01c Ws01o HO]
  · isplitr; · iexact HP
    isplitl [Ws01c]; · iexact Ws01c
    isplitl [Ws01o]; · iexact Ws01o
    iexact HO
  iintro ⟨DWs01, HO, O01⟩
  ihave O01 := (show payl (F := F) m c (.osend 0 1) 0 ⊢ oqP m c 1 (oshare 0) from .rfl) $$ O01
  icases Ws11 with ⟨Ws11c, Ws11o⟩
  iapply (step_waitDma m K c (.osend 1 1) 0 (by decide) _ hl rfl rfl (osend_credit.symm.trans cntO_eq.symm)) $$ [Ws11c Ws11o HO]
  · isplitr; · iexact HP
    isplitl [Ws11c]; · iexact Ws11c
    isplitl [Ws11o]; · iexact Ws11o
    iexact HO
  iintro ⟨DWs11, HO, O11⟩
  ihave O11 := (show payl (F := F) m c (.osend 1 1) 0 ⊢ oqP m c 1 (oshare 1) from .rfl) $$ O11
  icases Ws21 with ⟨Ws21c, Ws21o⟩
  iapply (step_waitDma m K c (.osend 2 1) 0 (by decide) _ hl rfl rfl (osend_credit.symm.trans cntO_eq.symm)) $$ [Ws21c Ws21o HO]
  · isplitr; · iexact HP
    isplitl [Ws21c]; · iexact Ws21c
    isplitl [Ws21o]; · iexact Ws21o
    iexact HO
  iintro ⟨DWs21, HO, O21⟩
  ihave O21 := (show payl (F := F) m c (.osend 2 1) 0 ⊢ oqP m c 1 (oshare 2) from .rfl) $$ O21
  iapply (step_ret c)
  iapply Hk
  isplitl [DWs20]; · iexact DWs20
  isplitl [O20]; · iexact O20
  isplitl [DWs01]; · iexact DWs01
  isplitl [O01]; · iexact O01
  isplitl [DWs11]; · iexact DWs11
  isplitl [O11]; · iexact O11
  isplitl [DWs21]; · iexact DWs21
  isplitl [O21]; · iexact O21
  iexact HO

set_option maxRecDepth 20000 in
/-- More sends end. -/
theorem part38 {Q : PUnit → sProp 𝕄} (hl : ∀ x ∈ l, 0 < lvl x.2) :
    iprop(Pers m K ∗ wt c (.osend 0 2) ∗ wt c (.osend 1 2) ∗ wt c (.osend 2 2) ∗ wt c (.osend 0 3) ∗ owesE c (l))
      ⊢ iprop(((done c (.osend 0 2) ∗ oqP m c 2 (oshare 0) ∗ done c (.osend 1 2) ∗ oqP m c 2 (oshare 1) ∗ done c (.osend 2 2) ∗ oqP m c 2 (oshare 2) ∗ done c (.osend 0 3) ∗ oqP m c 3 (oshare 0) ∗ owesE c (l)) -∗ Q ⟨⟩) -∗ Wp c (onCall k0_part38 c) Q) := by
  rw [k0_part38_eq_skeleton]
  unfold k0_part38_skel
  simp only [semSignalWord, semWaitWord, Prog.lift, Prog.bind_op, Prog.bind_ret, Prog.pure_eq_ret]
  iintro ⟨#HP, Ws02, Ws12, Ws22, Ws03, HO⟩ Hk
  icases Ws02 with ⟨Ws02c, Ws02o⟩
  iapply (step_waitDma m K c (.osend 0 2) 0 (by decide) _ hl rfl rfl (osend_credit.symm.trans cntO_eq.symm)) $$ [Ws02c Ws02o HO]
  · isplitr; · iexact HP
    isplitl [Ws02c]; · iexact Ws02c
    isplitl [Ws02o]; · iexact Ws02o
    iexact HO
  iintro ⟨DWs02, HO, O02⟩
  ihave O02 := (show payl (F := F) m c (.osend 0 2) 0 ⊢ oqP m c 2 (oshare 0) from .rfl) $$ O02
  icases Ws12 with ⟨Ws12c, Ws12o⟩
  iapply (step_waitDma m K c (.osend 1 2) 0 (by decide) _ hl rfl rfl (osend_credit.symm.trans cntO_eq.symm)) $$ [Ws12c Ws12o HO]
  · isplitr; · iexact HP
    isplitl [Ws12c]; · iexact Ws12c
    isplitl [Ws12o]; · iexact Ws12o
    iexact HO
  iintro ⟨DWs12, HO, O12⟩
  ihave O12 := (show payl (F := F) m c (.osend 1 2) 0 ⊢ oqP m c 2 (oshare 1) from .rfl) $$ O12
  icases Ws22 with ⟨Ws22c, Ws22o⟩
  iapply (step_waitDma m K c (.osend 2 2) 0 (by decide) _ hl rfl rfl (osend_credit.symm.trans cntO_eq.symm)) $$ [Ws22c Ws22o HO]
  · isplitr; · iexact HP
    isplitl [Ws22c]; · iexact Ws22c
    isplitl [Ws22o]; · iexact Ws22o
    iexact HO
  iintro ⟨DWs22, HO, O22⟩
  ihave O22 := (show payl (F := F) m c (.osend 2 2) 0 ⊢ oqP m c 2 (oshare 2) from .rfl) $$ O22
  icases Ws03 with ⟨Ws03c, Ws03o⟩
  iapply (step_waitDma m K c (.osend 0 3) 0 (by decide) _ hl rfl rfl (osend_credit.symm.trans cntO_eq.symm)) $$ [Ws03c Ws03o HO]
  · isplitr; · iexact HP
    isplitl [Ws03c]; · iexact Ws03c
    isplitl [Ws03o]; · iexact Ws03o
    iexact HO
  iintro ⟨DWs03, HO, O03⟩
  ihave O03 := (show payl (F := F) m c (.osend 0 3) 0 ⊢ oqP m c 3 (oshare 0) from .rfl) $$ O03
  iapply (step_ret c)
  iapply Hk
  isplitl [DWs02]; · iexact DWs02
  isplitl [O02]; · iexact O02
  isplitl [DWs12]; · iexact DWs12
  isplitl [O12]; · iexact O12
  isplitl [DWs22]; · iexact DWs22
  isplitl [O22]; · iexact O22
  isplitl [DWs03]; · iexact DWs03
  isplitl [O03]; · iexact O03
  iexact HO

end Cert.KernelIdealProof

end
-- ==== Proof.KernelIdeal.Body.lean ====
/-
# The body

The parts one after the other: what a device holds when the call starts, and what it holds when the call ends.
-/
module

public import proofs.«01_k».proof.Proof.KernelIdeal.First
public import proofs.«01_k».proof.Proof.KernelIdeal.Ring1
public import proofs.«01_k».proof.Proof.KernelIdeal.Ring2
public import proofs.«01_k».proof.Proof.KernelIdeal.Ring3
public import proofs.«01_k».proof.Proof.KernelIdeal.Heads
public import proofs.«01_k».proof.Proof.KernelIdeal.Heads2
public import proofs.«01_k».proof.Proof.KernelIdeal.Gather
public import proofs.«01_k».proof.Proof.KernelIdeal.Gather2

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Cel → ℕ) (c : Dev nD) (l : List (Dev nD × Cel))

/-! ## What the body starts from and what it ends with -/

/-- The rights at the barrier. -/
abbrev barG : sProp 𝕄 := iprop(tok (F := F) (left c) .bar 0 ∗ tok (right c) .bar 1 ∗ wt c .bar)
/-- The rights of one hop round the ring. -/
abbrev ringG (h : Fin 3) : sProp 𝕄 := iprop(hopT (F := F) c h 0 ∗ hopT c h 1 ∗ hopT c h 2 ∗ own' c (.send h 0) ∗ own' c (.send h 1) ∗ own' c (.send h 2) ∗ wt c (.recv h 0) ∗ wt c (.recv h 1) ∗ wt c (.recv h 2))
/-- The rights of the fetches of the weights. -/
abbrev wG : sProp 𝕄 := iprop(tok (F := F) c .wq 0 ∗ own' c .wq ∗ tok c (.wo 0) 0 ∗ tok c (.wo 1) 0 ∗ tok c (.wo 2) 0 ∗ tok c (.wo 3) 0 ∗ own' c (.wo 0) ∗ own' c (.wo 1) ∗ own' c (.wo 2) ∗ own' c (.wo 3))
/-- The rights at the meeting with the peers. -/
abbrev xyG : sProp 𝕄 := iprop(tok (F := F) (peer 0 c) .xy 0 ∗ tok (peer 1 c) .xy 1 ∗ tok (peer 2 c) .xy 2 ∗ wt c .xy)
/-- The rights of the exchange with one peer. -/
abbrev outG (i : Fin 3) : sProp 𝕄 := iprop(outT (F := F) c i 0 ∗ outT c i 1 ∗ outT c i 2 ∗ outT c i 3 ∗ own' c (.osend i 0) ∗ own' c (.osend i 1) ∗ own' c (.osend i 2) ∗ own' c (.osend i 3) ∗ wt c (.orecv i 0) ∗ wt c (.orecv i 1) ∗ wt c (.orecv i 2) ∗ wt c (.orecv i 3))
/-- All the rights of a device. -/
abbrev gear : sProp 𝕄 := iprop(barG (F := F) c ∗ ringG c 0 ∗ ringG c 1 ∗ ringG c 2 ∗ wG c ∗ xyG c ∗ outG c 0 ∗ outG c 1 ∗ outG c 2)
/-- The staged inputs. -/
abbrev staged : sProp 𝕄 := iprop(whole c cc0_stg0_0 (xX m c) ∗ whole c cc0_stg1_0 (xWd m c) ∗ whole c cc0_stg2_0 (xWu m c) ∗ whole c cc0_stg3_0 (xWv m c) ∗ whole c cc0_stg4_0 (xWqr m c) ∗ whole c cc0_stg5_0 (xWkr m c))
/-- The scratch memory, in the pieces that the body works with. -/
abbrev memIn : sProp 𝕄 := iprop(slots (F := F) c 0 ∗ slots c 1 ∗ slots c 2 ∗ slots c 3 ∗ anyOf c cc0_scratch3 ∗ anyOf c cc0_scratch4 ∗ anyOf c cc0_scratch6 ∗ anyOf c cc0_scratch7 ∗ anyOf c cc0_scratch8 ∗ anyOf c cc0_scratch9 ∗ qsS c 0 ∗ qsS c 1 ∗ qsS c 2 ∗ qsS c 3 ∗ oqS c 0 ∗ oqS c 1 ∗ oqS c 2 ∗ oqS c 3 ∗ oaO4 c 0 ∗ oaO4 c 1 ∗ oaO4 c 2 ∗ woS c 0 ∗ woS c 1)
/-- The two weights that are not staged, in the pieces that are fetched. -/
abbrev hbmIn : sProp 𝕄 := iprop(wqP m c ∗ rowP m c 0 ∗ rowP m c 1 ∗ rowP m c 2 ∗ rowP m c 3)
/-- The cells of one hop, ended. -/
abbrev ringD (h : Fin 3) : sProp 𝕄 := iprop(done (F := F) c (.send h 0) ∗ done c (.send h 1) ∗ done c (.send h 2) ∗ done c (.recv h 0) ∗ done c (.recv h 1) ∗ done c (.recv h 2))
/-- The cells of the exchange with one peer, ended. -/
abbrev outD (i : Fin 3) : sProp 𝕄 := iprop(done (F := F) c (.osend i 0) ∗ done c (.osend i 1) ∗ done c (.osend i 2) ∗ done c (.osend i 3) ∗ done c (.orecv i 0) ∗ done c (.orecv i 1) ∗ done c (.orecv i 2) ∗ done c (.orecv i 3))
/-- The other cells, ended. -/
abbrev miscD : sProp 𝕄 := iprop(done (F := F) c .bar ∗ done c .xy ∗ done c .wq ∗ done c (.wo 0) ∗ done c (.wo 1) ∗ done c (.wo 2) ∗ done c (.wo 3))
/-- All cells of a device, ended. -/
abbrev dones : sProp 𝕄 := iprop(miscD (F := F) c ∗ ringD c 0 ∗ ringD c 1 ∗ ringD c 2 ∗ outD c 0 ∗ outD c 1 ∗ outD c 2)
/-- The scratch memory at the end. -/
abbrev memOut : sProp 𝕄 := iprop(cbP m c 0 fullShare ∗ cbP m c 1 fullShare ∗ cbP m c 2 fullShare ∗ cbP m c 3 fullShare ∗ ukP m c 0 fullShare ∗ ukP m c 1 fullShare ∗ ukP m c 2 fullShare ∗ ukP m c 3 fullShare ∗ uvP m c 0 fullShare ∗ uvP m c 1 fullShare ∗ uvP m c 2 fullShare ∗ uvP m c 3 fullShare ∗ whole c cc0_scratch3 (wqC m c) ∗ whole c cc0_scratch4 (wqrC m c) ∗ whole c cc0_scratch6 (kA3 m c) ∗ whole c cc0_scratch7 (vA3 m c) ∗ whole c cc0_scratch8 (qrC m c) ∗ whole c cc0_scratch9 (krC m c) ∗ qsP m c 0 ∗ qsP m c 1 ∗ qsP m c 2 ∗ qsP m c 3 ∗ oqP m c 0 (oshare 0) ∗ oqP m c 1 (oshare 0) ∗ oqP m c 2 (oshare 0) ∗ oqP m c 3 (oshare 0) ∗ oqP m c 0 (oshare 1) ∗ oqP m c 1 (oshare 1) ∗ oqP m c 2 (oshare 1) ∗ oqP m c 3 (oshare 1) ∗ oqP m c 0 (oshare 2) ∗ oqP m c 1 (oshare 2) ∗ oqP m c 2 (oshare 2) ∗ oqP m c 3 (oshare 2) ∗ pts c cc0_scratch10 Finset.univ kept (oqC m c) ∗ oaW m c 0 ∗ oaW m c 1 ∗ oaW m c 2 ∗ woP m c 0 2 ∗ woP m c 1 3)
/-- What is still to be raised after the first `n`. -/
abbrev rest (n : ℕ) : List (Dev nD × Cel) := (debts c).drop n

theorem bind_step {α β : Type} (p : Prog (TpuEff nD τ sig (Elt F) Λ₀ .tc) α) (k : α → Prog (TpuEff nD τ sig (Elt F) Λ₀ .tc) β) (Q : β → sProp 𝕄) :
    Wp c p (fun a => Wp c (k a) Q) ⊢ Wp c (p >>= k) Q := by
  unfold Wp
  rw [wp_bind]

set_option maxRecDepth 40000 in
set_option maxHeartbeats 4000000 in
/-- The body of the call, run by one device. -/
theorem body_run {Q : PUnit → sProp 𝕄} :
    iprop(Pers m K ∗ staged m c ∗ anyOf c cc0_stg6_0 ∗ memIn c ∗ hbmIn m c ∗ gear c ∗ owesE c (rest c 0))
      ⊢ iprop(((staged m c ∗ whole c cc0_stg6_0 (out3 m c) ∗ memOut m c ∗ hbmIn m c ∗ dones c ∗ owesE c []) -∗ Q ⟨⟩) -∗ Wp c (onCall cc0_body) Q) := by
  rw [cc0_body_eq_skeleton]
  unfold cc0_body_skel
  iintro ⟨#HP, ⟨H81, H82, H83, H84, H85, H86⟩, H115, ⟨H87, H88, H89, H90, H91, H92, H93, H94, H95, H96, H97, H98, H99, H100, H101, H102, H103, H104, H105, H106, H107, H108, H109⟩, ⟨H110, H111, H112, H113, H114⟩, ⟨⟨H1, H2, H3⟩, ⟨H4, H5, H6, H7, H8, H9, H10, H11, H12⟩, ⟨H13, H14, H15, H16, H17, H18, H19, H20, H21⟩, ⟨H22, H23, H24, H25, H26, H27, H28, H29, H30⟩, ⟨H31, H32, H33, H34, H35, H36, H37, H38, H39, H40⟩, ⟨H41, H42, H43, H44⟩, ⟨H45, H46, H47, H48, H49, H50, H51, H52, H53, H54, H55, H56⟩, ⟨H57, H58, H59, H60, H61, H62, H63, H64, H65, H66, H67, H68⟩, ⟨H69, H70, H71, H72, H73, H74, H75, H76, H77, H78, H79, H80⟩⟩, HO⟩ Hk
  -- part 1
  iapply (bind_step c)
  iapply (part1 c)
  iintro %v2 %v5 %v8 %v22 %v33
  -- part 2
  iapply (bind_step c)
  iapply (part2 m K c) $$ [H81 H82 H83 H84 H85 H90 H92 H110 H91 H31 H111 H108 H33]
  · isplitr; · iexact HP
    isplitl [H81]; · iexact H81
    isplitl [H82]; · iexact H82
    isplitl [H83]; · iexact H83
    isplitl [H84]; · iexact H84
    isplitl [H85]; · iexact H85
    isplitl [H90]; · iexact H90
    isplitl [H92]; · iexact H92
    isplitl [H110]; · iexact H110
    isplitl [H91]; · iexact H91
    isplitl [H31]; · iexact H31
    isplitl [H111]; · iexact H111
    isplitl [H108]; · iexact H108
    iexact H33
  iintro ⟨H116, H117, H118, H119, H120, H121, H122, H123, H124, H125, H126⟩
  -- part 3
  iapply (bind_step c)
  ihave HO := (show owesE (F := F) c (rest c 0) ⊢ owesE c ((left c, .bar) :: (right c, .bar) :: (right c, .recv 0 0) :: rest c 3) from .rfl) $$ HO
  iapply (part3 m K c (rest c 3) _ _ _ _ (by exact above rfl)) $$ [H87 H88 H89 H1 H2 H3 H121 H4 HO]
  · isplitr; · iexact HP
    isplitl [H87 H88 H89]
    · isplitl [H87]; · iexact H87
      isplitl [H88]; · iexact H88
      iexact H89
    isplitl [H1]; · iexact H1
    isplitl [H2]; · iexact H2
    isplitl [H3]; · iexact H3
    isplitl [H121]; · iexact H121
    isplitl [H4]; · iexact H4
    iexact HO
  iintro ⟨H127, H128, H129, H130, H131, ⟨H132, H133, H134⟩, ⟨H135, H136, H137⟩, HO⟩
  -- part 4
  iapply (bind_step c)
  ihave HO := (show owesE (F := F) c (rest c 3) ⊢ owesE c ((right c, .recv 0 1) :: (right c, .recv 0 2) :: rest c 5) from .rfl) $$ HO
  iapply (part4 m K c (rest c 5) _ _ _) $$ [H122 H123 H128 H5 H6 H130 H131 HO]
  · isplitr; · iexact HP
    isplitl [H122]; · iexact H122
    isplitl [H123]; · iexact H123
    isplitl [H128]; · iexact H128
    isplitl [H5]; · iexact H5
    isplitl [H6]; · iexact H6
    isplitl [H130]; · iexact H130
    isplitl [H131]; · iexact H131
    iexact HO
  iintro ⟨H138, H139, H140, H141, H142, HO⟩
  -- part 5
  iapply (bind_step c)
  iapply (part5 m K c (rest c 5) (by exact above rfl)) $$ [H139 H140 H93 H94 H124 H95 H96 H86 H125 H32 HO]
  · isplitr; · iexact HP
    isplitl [H139]; · iexact H139
    isplitl [H140]; · iexact H140
    isplitl [H93]; · iexact H93
    isplitl [H94]; · iexact H94
    isplitl [H124]; · iexact H124
    isplitl [H95]; · iexact H95
    isplitl [H96]; · iexact H96
    isplitl [H86]; · iexact H86
    isplitl [H125 H32]
    · isplitl [H125]; · iexact H125
      iexact H32
    iexact HO
  iintro ⟨H143, H144, H145, H146, H147, H148, H149, H150, H151, H152, H153, HO⟩
  -- part 6
  iapply (bind_step c)
  iapply (part6 m K c (rest c 5) _ _ _ (by exact above rfl)) $$ [H97 H129 H7 H138 H10 HO]
  · isplitr; · iexact HP
    isplitl [H97]; · iexact H97
    isplitl [H129 H7]
    · isplitl [H129]; · iexact H129
      iexact H7
    isplitl [H138]; · iexact H138
    isplitl [H10]; · iexact H10
    iexact HO
  iintro ⟨H154, H155, H156, H157, H158, HO⟩
  -- part 7
  iapply (bind_step c)
  iapply (part7 m K c (rest c 5) _ _ _ (by exact above rfl)) $$ [H141 H8 H143 H11 H142 H9 H144 HO]
  · isplitr; · iexact HP
    isplitl [H141 H8]
    · isplitl [H141]; · iexact H141
      iexact H8
    isplitl [H143]; · iexact H143
    isplitl [H11]; · iexact H11
    isplitl [H142 H9]
    · isplitl [H142]; · iexact H142
      iexact H9
    isplitl [H144]; · iexact H144
    iexact HO
  iintro ⟨H159, H160, H161, H162, H163, H164, HO⟩
  -- part 8
  iapply (bind_step c)
  ihave HO := (show owesE (F := F) c (rest c 5) ⊢ owesE c ((right c, .recv 1 0) :: rest c 6) from .rfl) $$ HO
  iapply (part8 m K c (rest c 6) _ _ _ (by exact above rfl)) $$ [H12 H158 H132 H13 HO]
  · isplitr; · iexact HP
    isplitl [H12]; · iexact H12
    isplitl [H158]; · iexact H158
    isplitl [H132]; · iexact H132
    isplitl [H13]; · iexact H13
    iexact HO
  iintro %w ⟨H165, H166, H167, H168, HO⟩
  -- part 9
  iapply (bind_step c)
  ihave HO := (show owesE (F := F) c (rest c 6) ⊢ owesE c ((right c, .recv 1 1) :: (right c, .recv 1 2) :: rest c 8) from .rfl) $$ HO
  iapply (part9 m K c (rest c 8) _ _ _ _) $$ [H162 H166 H133 H134 H14 H15 H167 HO]
  · isplitr; · iexact HP
    isplitl [H162]; · iexact H162
    isplitl [H166]; · iexact H166
    isplitl [H133]; · iexact H133
    isplitl [H134]; · iexact H134
    isplitl [H14]; · iexact H14
    isplitl [H15]; · iexact H15
    isplitl [H167]; · iexact H167
    iexact HO
  iintro ⟨H169, H170, H171, H172, H173, HO⟩
  -- part 10
  iapply (bind_step c)
  iapply (part10 m K c) $$ [H171 H147 H148 H151 H98]
  · isplitr; · iexact HP
    isplitl [H171]; · iexact H171
    isplitl [H147]; · iexact H147
    isplitl [H148]; · iexact H148
    isplitl [H151]; · iexact H151
    iexact H98
  iintro ⟨H174, H175, H176, H177, H178⟩
  -- part 11
  iapply (bind_step c)
  iapply (part11 m K c (rest c 8) _ _ _ (by exact above rfl)) $$ [H168 H16 H169 H19 H172 H17 H170 HO]
  · isplitr; · iexact HP
    isplitl [H168 H16]
    · isplitl [H168]; · iexact H168
      iexact H16
    isplitl [H169]; · iexact H169
    isplitl [H19]; · iexact H19
    isplitl [H172 H17]
    · isplitl [H172]; · iexact H172
      iexact H17
    isplitl [H170]; · iexact H170
    iexact HO
  iintro %w ⟨H179, H180, H181, H182, H183, H184, HO⟩
  obtain ⟨w11_0, w11_1⟩ := w
  -- part 12
  iapply (bind_step c)
  iapply (part12 m K c (rest c 8) _ _ _ _ _ (by exact above rfl)) $$ [H20 H173 H18 H174 H21 HO]
  · isplitr; · iexact HP
    isplitl [H20]; · iexact H20
    isplitl [H173 H18]
    · isplitl [H173]; · iexact H173
      iexact H18
    isplitl [H174]; · iexact H174
    isplitl [H21]; · iexact H21
    iexact HO
  iintro ⟨H185, H186, H187, H188, H189, H190, HO⟩
  -- part 13
  iapply (bind_step c)
  ihave HO := (show owesE (F := F) c (rest c 8) ⊢ owesE c ((right c, .recv 2 0) :: (right c, .recv 2 1) :: rest c 10) from .rfl) $$ HO
  iapply (part13 m K c (rest c 10) _ _ _) $$ [H182 H186 H135 H136 H22 H23 HO]
  · isplitr; · iexact HP
    isplitl [H182]; · iexact H182
    isplitl [H186]; · iexact H186
    isplitl [H135]; · iexact H135
    isplitl [H136]; · iexact H136
    isplitl [H22]; · iexact H22
    isplitl [H23]; · iexact H23
    iexact HO
  iintro ⟨H191, H192, H193, H194, HO⟩
  -- part 14
  iapply (bind_step c)
  ihave HO := (show owesE (F := F) c (rest c 10) ⊢ owesE c ((right c, .recv 2 2) :: rest c 11) from .rfl) $$ HO
  iapply (part14 m K c (rest c 11) _ _ _) $$ [H190 H137 H24 H191 H192 H177 H178 HO]
  · isplitr; · iexact HP
    isplitl [H190]; · iexact H190
    isplitl [H137]; · iexact H137
    isplitl [H24]; · iexact H24
    isplitl [H191]; · iexact H191
    isplitl [H192]; · iexact H192
    isplitl [H177]; · iexact H177
    isplitl [H178]; · iexact H178
    iexact HO
  iintro ⟨H195, H196, H197, H198, H199, H200, HO⟩
  -- part 15
  iapply (bind_step c)
  iapply (part15 m K c (rest c 11) _ _ _ (by exact above rfl)) $$ [H197 H175 H99 H193 H25 H195 HO]
  · isplitr; · iexact HP
    isplitl [H197]; · iexact H197
    isplitl [H175]; · iexact H175
    isplitl [H99]; · iexact H99
    isplitl [H193 H25]
    · isplitl [H193]; · iexact H193
      iexact H25
    isplitl [H195]; · iexact H195
    iexact HO
  iintro ⟨H201, H202, H203, H204, H205, HO⟩
  -- part 16
  iapply (bind_step c)
  iapply (part16 m K c (rest c 11) _ _ _ (by exact above rfl)) $$ [H28 H194 H26 H196 H29 HO]
  · isplitr; · iexact HP
    isplitl [H28]; · iexact H28
    isplitl [H194 H26]
    · isplitl [H194]; · iexact H194
      iexact H26
    isplitl [H196]; · iexact H196
    isplitl [H29]; · iexact H29
    iexact HO
  iintro ⟨H206, H207, H208, H209, H210, H211, HO⟩
  -- part 17
  iapply (bind_step c)
  iapply (part17 m K c (rest c 11) _ _ _ (by exact above rfl)) $$ [H199 H27 H198 H30 H207 H211 H200 HO]
  · isplitr; · iexact HP
    isplitl [H199 H27]
    · isplitl [H199]; · iexact H199
      iexact H27
    isplitl [H198]; · iexact H198
    isplitl [H30]; · iexact H30
    isplitl [H207]; · iexact H207
    isplitl [H211]; · iexact H211
    isplitl [H200]; · iexact H200
    iexact HO
  iintro ⟨H212, H213, H214, H215, H216, H217, H218, HO⟩
  -- part 18
  iapply (bind_step c)
  iapply (part18 m K c _) $$ [H218 H204 H201 H100]
  · isplitr; · iexact HP
    isplitl [H218]; · iexact H218
    isplitl [H204]; · iexact H204
    isplitl [H201]; · iexact H201
    iexact H100
  iintro %w ⟨H219, H220, H221, H222⟩
  obtain ⟨w18_0, w18_1, w18_2, w18_3, w18_4⟩ := w
  -- part 19
  iapply (bind_step c)
  iapply (part19 c _ _ _ _)
  iintro %w
  obtain ⟨w19_0, w19_1, w19_2, w19_3, w19_4, w19_5, w19_6, w19_7, w19_8⟩ := w
  -- part 20
  iapply (bind_step c)
  ihave HO := (show owesE (F := F) c (rest c 11) ⊢ owesE c ((peer 0 c, .xy) :: (peer 1 c, .xy) :: rest c 13) from .rfl) $$ HO
  iapply (part20 m K c (rest c 13) _ _ _ _ _ _ _ _ _ _) $$ [H41 H42 H105 H106 HO]
  · isplitr; · iexact HP
    isplitl [H41]; · iexact H41
    isplitl [H42]; · iexact H42
    isplitl [H105]; · iexact H105
    isplitl [H106]; · iexact H106
    iexact HO
  iintro %w HO
  obtain ⟨w20_0, w20_1, w20_2, w20_3⟩ := w
  -- part 21
  iapply (bind_step c)
  ihave HO := (show owesE (F := F) c (rest c 13) ⊢ owesE c ((peer 2 c, .xy) :: rest c 14) from .rfl) $$ HO
  iapply (part21 m K c (rest c 14) _ _ _ _ _ _ (by exact above rfl)) $$ [H43 H107 H44 H154 H101 H150 H220 H221 H149 HO]
  · isplitr; · iexact HP
    isplitl [H43]; · iexact H43
    isplitl [H107]; · iexact H107
    isplitl [H44]; · iexact H44
    isplitl [H154]; · iexact H154
    isplitl [H101]; · iexact H101
    isplitl [H150]; · iexact H150
    isplitl [H220]; · iexact H220
    isplitl [H221]; · iexact H221
    isplitl [H149]; · iexact H149
    iexact HO
  iintro ⟨H223, H224, H225, H226, H227, H228, H229, H230, H231, H232, ⟨H233, H234, H235, H236⟩, ⟨H237, H238, H239, H240⟩, ⟨H241, H242, H243, H244⟩, HO⟩
  -- part 22
  iapply (bind_step c)
  ihave HO := (show owesE (F := F) c (rest c 14) ⊢ owesE c ((peer 0 c, .orecv 0 0) :: (peer 1 c, .orecv 1 0) :: rest c 16) from .rfl) $$ HO
  iapply (part22 m K c (rest c 16) _ _ _ _ _) $$ [H228 H233 H45 H229 H237 H57 HO]
  · isplitr; · iexact HP
    isplitl [H228]; · iexact H228
    isplitl [H233]; · iexact H233
    isplitl [H45]; · iexact H45
    isplitl [H229]; · iexact H229
    isplitl [H237]; · iexact H237
    isplitl [H57]; · iexact H57
    iexact HO
  iintro ⟨H245, H246, HO⟩
  -- part 23
  iapply (bind_step c)
  ihave HO := (show owesE (F := F) c (rest c 16) ⊢ owesE c ((peer 2 c, .orecv 2 0) :: rest c 17) from .rfl) $$ HO
  iapply (part23 m K c (rest c 17) _ _ _) $$ [H230 H241 H69 H176 H102 H225 H226 H227 HO]
  · isplitr; · iexact HP
    isplitl [H230]; · iexact H230
    isplitl [H241]; · iexact H241
    isplitl [H69]; · iexact H69
    isplitl [H176]; · iexact H176
    isplitl [H102]; · iexact H102
    isplitl [H225]; · iexact H225
    isplitl [H226]; · iexact H226
    isplitl [H227]; · iexact H227
    iexact HO
  iintro ⟨H247, H248, H249, H250, H251, H252, H253, H254, H255, HO⟩
  -- part 24
  iapply (bind_step c)
  ihave HO := (show owesE (F := F) c (rest c 17) ⊢ owesE c ((peer 0 c, .orecv 0 1) :: (peer 1 c, .orecv 1 1) :: (peer 2 c, .orecv 2 1) :: rest c 20) from .rfl) $$ HO
  iapply (part24 m K c (rest c 20) _ _ _ _ _) $$ [H252 H234 H46 H253 H238 H58 H254 H242 H70 H205 H248 HO]
  · isplitr; · iexact HP
    isplitl [H252]; · iexact H252
    isplitl [H234]; · iexact H234
    isplitl [H46]; · iexact H46
    isplitl [H253]; · iexact H253
    isplitl [H238]; · iexact H238
    isplitl [H58]; · iexact H58
    isplitl [H254]; · iexact H254
    isplitl [H242]; · iexact H242
    isplitl [H70]; · iexact H70
    isplitl [H205]; · iexact H205
    isplitl [H248]; · iexact H248
    iexact HO
  iintro ⟨H256, H257, H258, H259, H260, HO⟩
  -- part 25
  iapply (bind_step c)
  ihave HO := (show owesE (F := F) c (rest c 20) ⊢ owesE c ((peer 0 c, .orecv 0 2) :: rest c 21) from .rfl) $$ HO
  iapply (part25 m K c (rest c 21) _ _ _ _) $$ [H250 H249 H103 H235 H47 HO]
  · isplitr; · iexact HP
    isplitl [H250]; · iexact H250
    isplitl [H249]; · iexact H249
    isplitl [H103]; · iexact H103
    isplitl [H235]; · iexact H235
    isplitl [H47]; · iexact H47
    iexact HO
  iintro %w ⟨H261, H262, H263, H264, H265, H266, HO⟩
  -- part 26
  iapply (bind_step c)
  ihave HO := (show owesE (F := F) c (rest c 21) ⊢ owesE c ((peer 1 c, .orecv 1 2) :: (peer 2 c, .orecv 2 2) :: rest c 23) from .rfl) $$ HO
  iapply (part26 m K c (rest c 23) _ _ _ _ _) $$ [H264 H239 H59 H265 H243 H71 H222 H257 H261 HO]
  · isplitr; · iexact HP
    isplitl [H264]; · iexact H264
    isplitl [H239]; · iexact H239
    isplitl [H59]; · iexact H59
    isplitl [H265]; · iexact H265
    isplitl [H243]; · iexact H243
    isplitl [H71]; · iexact H71
    isplitl [H222]; · iexact H222
    isplitl [H257]; · iexact H257
    isplitl [H261]; · iexact H261
    iexact HO
  iintro ⟨H267, H268, H269, H270, H271, HO⟩
  -- part 27
  iapply (bind_step c)
  ihave HO := (show owesE (F := F) c (rest c 23) ⊢ owesE c ((peer 0 c, .orecv 0 3) :: rest c 24) from .rfl) $$ HO
  iapply (part27 m K c (rest c 24) _ _ _ _ _) $$ [H262 H104 H236 H48 HO]
  · isplitr; · iexact HP
    isplitl [H262]; · iexact H262
    isplitl [H104]; · iexact H104
    isplitl [H236]; · iexact H236
    isplitl [H48]; · iexact H48
    iexact HO
  iintro ⟨H272, H273, H274, H275, H276, HO⟩
  -- part 28
  iapply (bind_step c)
  ihave HO := (show owesE (F := F) c (rest c 24) ⊢ owesE c ((peer 1 c, .orecv 1 3) :: (peer 2 c, .orecv 2 3) :: rest c 26) from .rfl) $$ HO
  iapply (part28 m K c (rest c 26) _ _ _ _ (by exact above rfl)) $$ [H274 H240 H60 H275 H244 H72 H112 H109 H34 H126 H37 HO]
  · isplitr; · iexact HP
    isplitl [H274]; · iexact H274
    isplitl [H240]; · iexact H240
    isplitl [H60]; · iexact H60
    isplitl [H275]; · iexact H275
    isplitl [H244]; · iexact H244
    isplitl [H72]; · iexact H72
    isplitl [H112]; · iexact H112
    isplitl [H109]; · iexact H109
    isplitl [H34]; · iexact H34
    isplitl [H126 H37]
    · isplitl [H126]; · iexact H126
      iexact H37
    iexact HO
  iintro ⟨H277, H278, H279, H280, H281, H282, HO⟩
  -- part 29
  iapply (bind_step c)
  ihave HQ := (oq_cols c kept (oqC m c)).2 $$ [H231 H255 H266 H276]
  · isplitl [H231]; · iexact H231
    isplitl [H255]; · iexact H255
    isplitl [H266]; · iexact H266
    iexact H276
  iapply (part29 m K c (rest c 26) _ _ _ _ (by exact above rfl)) $$ [HQ H282 H115 H113 H35 H53 HO]
  · isplitr; · iexact HP
    isplitl [HQ]; · iexact HQ
    isplitl [H282]; · iexact H282
    isplitl [H115]; · iexact H115
    isplitl [H113]; · iexact H113
    isplitl [H35]; · iexact H35
    isplitl [H53]; · iexact H53
    iexact HO
  iintro %w ⟨H283, H284, H285, H286, H287, HO⟩
  -- part 30
  iapply (bind_step c)
  iapply (part30 m K c (rest c 26) _ _ _ _ (by exact above rfl)) $$ [H54 H55 HO]
  · isplitr; · iexact HP
    isplitl [H54]; · iexact H54
    isplitl [H55]; · iexact H55
    iexact HO
  iintro ⟨H288, H289, H290, H291, HO⟩
  -- part 31
  iapply (bind_step c)
  iapply (part31 m K c (rest c 26) _ _ _ (by exact above rfl)) $$ [H56 H279 H38 H286 H289 H291 H287 H114 H36 HO]
  · isplitr; · iexact HP
    isplitl [H56]; · iexact H56
    isplitl [H279 H38]
    · isplitl [H279]; · iexact H279
      iexact H38
    isplitl [H286]; · iexact H286
    isplitl [H289]; · iexact H289
    isplitl [H291]; · iexact H291
    isplitl [H287]; · iexact H287
    isplitl [H114]; · iexact H114
    isplitl [H36]; · iexact H36
    iexact HO
  iintro %w ⟨H292, H293, H294, H295, H296, H297, HO⟩
  obtain ⟨w31_0, w31_1⟩ := w
  -- part 32
  iapply (bind_step c)
  iapply (part32 m K c (rest c 26) _ _ _ _ _ (by exact above rfl)) $$ [H65 H66 HO]
  · isplitr; · iexact HP
    isplitl [H65]; · iexact H65
    isplitl [H66]; · iexact H66
    iexact HO
  iintro ⟨H298, H299, H300, H301, HO⟩
  -- part 33
  iapply (bind_step c)
  iapply (part33 m K c (rest c 26) _ _ _ _ (by exact above rfl)) $$ [H67 H68 H284 H39 H299 H301 H297 HO]
  · isplitr; · iexact HP
    isplitl [H67]; · iexact H67
    isplitl [H68]; · iexact H68
    isplitl [H284 H39]
    · isplitl [H284]; · iexact H284
      iexact H39
    isplitl [H299]; · iexact H299
    isplitl [H301]; · iexact H301
    isplitl [H297]; · iexact H297
    iexact HO
  iintro ⟨H302, H303, H304, H305, H306, H307, H308, HO⟩
  -- part 34
  iapply (bind_step c)
  iapply (part34 m K c (rest c 26) _ _ _ (by exact above rfl)) $$ [H306 H77 H78 HO]
  · isplitr; · iexact HP
    isplitl [H306]; · iexact H306
    isplitl [H77]; · iexact H77
    isplitl [H78]; · iexact H78
    iexact HO
  iintro %w ⟨H309, H310, H311, H312, H313, HO⟩
  obtain ⟨w34_0, w34_1⟩ := w
  -- part 35
  iapply (bind_step c)
  iapply (part35 m K c (rest c 26) _ _ _ _ _ _ (by exact above rfl)) $$ [H79 H80 H295 H40 H313 HO]
  · isplitr; · iexact HP
    isplitl [H79]; · iexact H79
    isplitl [H80]; · iexact H80
    isplitl [H295 H40]
    · isplitl [H295]; · iexact H295
      iexact H40
    isplitl [H313]; · iexact H313
    iexact HO
  iintro ⟨H314, H315, H316, H317, H318, H319, H320, H321, HO⟩
  -- part 36
  iapply (bind_step c)
  iapply (part36 m K c (rest c 26) (by exact above rfl)) $$ [H310 H312 H315 H317 H321 H320 H245 H49 H246 H61 HO]
  · isplitr; · iexact HP
    isplitl [H310]; · iexact H310
    isplitl [H312]; · iexact H312
    isplitl [H315]; · iexact H315
    isplitl [H317]; · iexact H317
    isplitl [H321]; · iexact H321
    isplitl [H320]; · iexact H320
    isplitl [H245 H49]
    · isplitl [H245]; · iexact H245
      iexact H49
    isplitl [H246 H61]
    · isplitl [H246]; · iexact H246
      iexact H61
    iexact HO
  iintro ⟨H322, H323, H324, H325, H326, H327, H328, HO⟩
  -- part 37
  iapply (bind_step c)
  iapply (part37 m K c (rest c 26) (by exact above rfl)) $$ [H251 H73 H258 H50 H259 H62 H260 H74 HO]
  · isplitr; · iexact HP
    isplitl [H251 H73]
    · isplitl [H251]; · iexact H251
      iexact H73
    isplitl [H258 H50]
    · isplitl [H258]; · iexact H258
      iexact H50
    isplitl [H259 H62]
    · isplitl [H259]; · iexact H259
      iexact H62
    isplitl [H260 H74]
    · isplitl [H260]; · iexact H260
      iexact H74
    iexact HO
  iintro ⟨H329, H330, H331, H332, H333, H334, H335, H336, HO⟩
  -- part 38
  iapply (bind_step c)
  iapply (part38 m K c (rest c 26) (by exact above rfl)) $$ [H263 H51 H270 H63 H271 H75 H273 H52 HO]
  · isplitr; · iexact HP
    isplitl [H263 H51]
    · isplitl [H263]; · iexact H263
      iexact H51
    isplitl [H270 H63]
    · isplitl [H270]; · iexact H270
      iexact H63
    isplitl [H271 H75]
    · isplitl [H271]; · iexact H271
      iexact H75
    isplitl [H273 H52]
    · isplitl [H273]; · iexact H273
      iexact H52
    iexact HO
  iintro ⟨H337, H338, H339, H340, H341, H342, H343, H344, HO⟩
  ihave HO := (show owesE (F := F) c (rest c 26) ⊢ owesE c [] from .rfl) $$ HO
  iapply (bind_step c)
  iapply (step_waitDma m K c (.osend 1 3) 0 (by decide) [] (fun x hx => absurd hx (by simp)) rfl rfl (osend_credit.symm.trans cntO_eq.symm)) $$ [H277 H64 HO]
  · isplitr; · iexact HP
    isplitl [H277]; · iexact H277
    isplitl [H64]; · iexact H64
    iexact HO
  iintro ⟨H345, HO, H346⟩
  ihave H346 := (show payl (F := F) m c (.osend 1 3) 0 ⊢ oqP m c 3 (oshare 1) from .rfl) $$ H346
  iapply (step_ret c)
  iapply (bind_step c)
  iapply (step_waitDma m K c (.osend 2 3) 0 (by decide) [] (fun x hx => absurd hx (by simp)) rfl rfl (osend_credit.symm.trans cntO_eq.symm)) $$ [H278 H76 HO]
  · isplitr; · iexact HP
    isplitl [H278]; · iexact H278
    isplitl [H76]; · iexact H76
    iexact HO
  iintro ⟨H347, HO, H348⟩
  ihave H348 := (show payl (F := F) m c (.osend 2 3) 0 ⊢ oqP m c 3 (oshare 2) from .rfl) $$ H348
  iapply (step_ret c)
  iapply (step_ret c)
  iapply Hk
  isplitl [H116 H117 H118 H119 H120 H146]
  · isplitl [H116]
    · iexact H116
    isplitl [H117]
    · iexact H117
    isplitl [H118]
    · iexact H118
    isplitl [H119]
    · iexact H119
    isplitl [H120]
    · iexact H120
    iexact H146
  isplitl [H328]
  · iexact H328
  isplitl [H180 H203 H216 H156 H184 H209 H217 H160 H188 H213 H215 H164 H219 H145 H268 H272 H269 H224 H223 H247 H256 H267 H324 H332 H338 H344 H326 H334 H340 H346 H330 H336 H342 H348 H283 H296 H307 H327 H308 H322]
  · isplitl [H180]
    · iexact H180
    isplitl [H203]
    · iexact H203
    isplitl [H216]
    · iexact H216
    isplitl [H156]
    · iexact H156
    isplitl [H184]
    · iexact H184
    isplitl [H209]
    · iexact H209
    isplitl [H217]
    · iexact H217
    isplitl [H160]
    · iexact H160
    isplitl [H188]
    · iexact H188
    isplitl [H213]
    · iexact H213
    isplitl [H215]
    · iexact H215
    isplitl [H164]
    · iexact H164
    isplitl [H219]
    · iexact H219
    isplitl [H145]
    · iexact H145
    isplitl [H268]
    · iexact H268
    isplitl [H272]
    · iexact H272
    isplitl [H269]
    · iexact H269
    isplitl [H224]
    · iexact H224
    isplitl [H223]
    · iexact H223
    isplitl [H247]
    · iexact H247
    isplitl [H256]
    · iexact H256
    isplitl [H267]
    · iexact H267
    isplitl [H324]
    · iexact H324
    isplitl [H332]
    · iexact H332
    isplitl [H338]
    · iexact H338
    isplitl [H344]
    · iexact H344
    isplitl [H326]
    · iexact H326
    isplitl [H334]
    · iexact H334
    isplitl [H340]
    · iexact H340
    isplitl [H346]
    · iexact H346
    isplitl [H330]
    · iexact H330
    isplitl [H336]
    · iexact H336
    isplitl [H342]
    · iexact H342
    isplitl [H348]
    · iexact H348
    isplitl [H283]
    · iexact H283
    isplitl [H296]
    · iexact H296
    isplitl [H307]
    · iexact H307
    isplitl [H327]
    · iexact H327
    isplitl [H308]
    · iexact H308
    iexact H322
  isplitl [H152 H281 H294 H305 H319]
  · isplitl [H152]
    · iexact H152
    isplitl [H281]
    · iexact H281
    isplitl [H294]
    · iexact H294
    isplitl [H305]
    · iexact H305
    iexact H319
  isplitl [H127 H232 H153 H280 H293 H304 H318 H155 H159 H163 H157 H161 H165 H179 H183 H187 H181 H185 H189 H202 H208 H212 H206 H210 H214 H323 H331 H337 H343 H285 H288 H290 H292 H325 H333 H339 H345 H298 H300 H302 H303 H329 H335 H341 H347 H309 H311 H314 H316]
  · isplitl [H127 H232 H153 H280 H293 H304 H318]
    · isplitl [H127]
      · iexact H127
      isplitl [H232]
      · iexact H232
      isplitl [H153]
      · iexact H153
      isplitl [H280]
      · iexact H280
      isplitl [H293]
      · iexact H293
      isplitl [H304]
      · iexact H304
      iexact H318
    isplitl [H155 H159 H163 H157 H161 H165]
    · isplitl [H155]
      · iexact H155
      isplitl [H159]
      · iexact H159
      isplitl [H163]
      · iexact H163
      isplitl [H157]
      · iexact H157
      isplitl [H161]
      · iexact H161
      iexact H165
    isplitl [H179 H183 H187 H181 H185 H189]
    · isplitl [H179]
      · iexact H179
      isplitl [H183]
      · iexact H183
      isplitl [H187]
      · iexact H187
      isplitl [H181]
      · iexact H181
      isplitl [H185]
      · iexact H185
      iexact H189
    isplitl [H202 H208 H212 H206 H210 H214]
    · isplitl [H202]
      · iexact H202
      isplitl [H208]
      · iexact H208
      isplitl [H212]
      · iexact H212
      isplitl [H206]
      · iexact H206
      isplitl [H210]
      · iexact H210
      iexact H214
    isplitl [H323 H331 H337 H343 H285 H288 H290 H292]
    · isplitl [H323]
      · iexact H323
      isplitl [H331]
      · iexact H331
      isplitl [H337]
      · iexact H337
      isplitl [H343]
      · iexact H343
      isplitl [H285]
      · iexact H285
      isplitl [H288]
      · iexact H288
      isplitl [H290]
      · iexact H290
      iexact H292
    isplitl [H325 H333 H339 H345 H298 H300 H302 H303]
    · isplitl [H325]
      · iexact H325
      isplitl [H333]
      · iexact H333
      isplitl [H339]
      · iexact H339
      isplitl [H345]
      · iexact H345
      isplitl [H298]
      · iexact H298
      isplitl [H300]
      · iexact H300
      isplitl [H302]
      · iexact H302
      iexact H303
    isplitl [H329]
    · iexact H329
    isplitl [H335]
    · iexact H335
    isplitl [H341]
    · iexact H341
    isplitl [H347]
    · iexact H347
    isplitl [H309]
    · iexact H309
    isplitl [H311]
    · iexact H311
    isplitl [H314]
    · iexact H314
    iexact H316
  iexact HO

end Cert.KernelIdealProof

end
-- ==== Proof.KernelIdeal.Mem.lean ====
/-
# The memory of a device, whole and in pieces

The body works with pieces of the scratch buffers and of the two arrays it fetches from. The pieces are cut from whole
buffers before it runs, and put together again after it.
-/
module

public import proofs.«01_k».proof.Proof.KernelIdeal.Moves
public import proofs.«01_k».proof.Proof.KernelIdeal.Body

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (c : Dev nD)

/-! ## Four parts that a number names -/

theorem parts_union {b : Ref sig .tc} (R : Fin 4 → Finset b.ty.shape.Idx) (g : b.ty.shape.Idx → Fin 4) (h : ∀ k i, i ∈ R k ↔ g i = k) :
    R 0 ∪ (R 1 ∪ (R 2 ∪ R 3)) = Finset.univ := by
  ext i
  simp only [Finset.mem_union, h, Finset.mem_univ, iff_true]
  have : ∀ p : Fin 4, p = 0 ∨ p = 1 ∨ p = 2 ∨ p = 3 := by decide
  exact this _

theorem parts_disj {b : Ref sig .tc} (R : Fin 4 → Finset b.ty.shape.Idx) (g : b.ty.shape.Idx → Fin 4) (h : ∀ k i, i ∈ R k ↔ g i = k) (x y : Fin 4) (hxy : x ≠ y) :
    Disjoint (R x) (R y) :=
  Finset.disjoint_left.mpr fun i hx hy => hxy (((h x i).1 hx).symm.trans ((h y i).1 hy))

/-- A whole buffer is its four parts. -/
theorem pts_parts (b : Ref sig .tc) (R : Fin 4 → Finset b.ty.shape.Idx) (g : b.ty.shape.Idx → Fin 4) (h : ∀ k i, i ∈ R k ↔ g i = k)
    (q : PosShare TreeShare) (f : b.ty.Contents (Elt F)) :
    (pts c b Finset.univ q f : sProp 𝕄) ⊣⊢ iprop(pts c b (R 0) q f ∗ pts c b (R 1) q f ∗ pts c b (R 2) q f ∗ pts c b (R 3) q f) := by
  have d := parts_disj R g h
  have e := pts4 (F := F) c b (R 0) (R 1) (R 2) (R 3) q f (d 0 1 (by decide)) (d 0 2 (by decide)) (d 0 3 (by decide)) (d 1 2 (by decide)) (d 1 3 (by decide)) (d 2 3 (by decide))
  rw [parts_union R g h] at e
  exact e

theorem some_parts (b : Ref sig .tc) (R : Fin 4 → Finset b.ty.shape.Idx) (g : b.ty.shape.Idx → Fin 4) (h : ∀ k i, i ∈ R k ↔ g i = k) :
    anyOf (F := F) c b ⊢ iprop(some' c b (R 0) ∗ some' c b (R 1) ∗ some' c b (R 2) ∗ some' c b (R 3)) := by
  unfold anyOf some'
  iintro ⟨%f, H⟩
  ihave H' := (pts_parts c b R g h fullShare f).1 $$ H
  icases H' with ⟨H0, H1, H2, H3⟩
  isplitl [H0]; · iexists f; iexact H0
  isplitl [H1]; · iexists f; iexact H1
  isplitl [H2]; · iexists f; iexact H2
  iexists f; iexact H3

theorem some_parts_join (b : Ref sig .tc) (R : Fin 4 → Finset b.ty.shape.Idx) (g : b.ty.shape.Idx → Fin 4) (h : ∀ k i, i ∈ R k ↔ g i = k) :
    iprop(some' (F := F) c b (R 0) ∗ some' c b (R 1) ∗ some' c b (R 2) ∗ some' c b (R 3)) ⊢ anyOf (F := F) c b := by
  have d := parts_disj R g h
  show _ ⊢ some' (F := F) c b Finset.univ
  rw [← parts_union R g h]
  iintro ⟨H0, H1, H2, H3⟩
  ihave H23 := (some_join c b (R 2) (R 3) (d 2 3 (by decide))) $$ [H2 H3]
  · isplitl [H2] <;> iassumption
  ihave H123 := (some_join c b (R 1) (R 2 ∪ R 3) (Finset.disjoint_union_right.mpr ⟨d 1 2 (by decide), d 1 3 (by decide)⟩)) $$ [H1 H23]
  · isplitl [H1] <;> iassumption
  iapply (some_join c b (R 0) (R 1 ∪ (R 2 ∪ R 3)) (Finset.disjoint_union_right.mpr ⟨d 0 1 (by decide), Finset.disjoint_union_right.mpr ⟨d 0 2 (by decide), d 0 3 (by decide)⟩⟩))
  isplitl [H0] <;> iassumption

/-! ## The parts of each buffer -/

theorem mem_slotC (k : Fin 4) (i : S4x1024x128.Idx) : i ∈ (slotC k).set ↔ (⟨(i 0).val, (i 0).isLt⟩ : Fin 4) = k := by
  have h0 : (i 0).val < 4 := (i 0).isLt
  have h1 : (i 1).val < 1024 := (i 1).isLt
  have h2 : (i 2).val < 128 := (i 2).isLt
  rw [Rect.mem_set_unit]
  constructor
  · intro h
    have a0 : k.val ≤ (i 0).val ∧ (i 0).val < k.val + 1 := h 0
    exact Fin.ext (show (i 0).val = k.val by omega)
  · rintro rfl a
    match a with
    | 0 => exact (show (i 0).val ≤ (i 0).val ∧ (i 0).val < (i 0).val + 1 from by omega)
    | 1 => exact (show 0 ≤ (i 1).val ∧ (i 1).val < 0 + 1024 from by omega)
    | 2 => exact (show 0 ≤ (i 2).val ∧ (i 2).val < 0 + 128 from by omega)

theorem mem_slotW (k : Fin 4) (i : S4x128x512.Idx) : i ∈ (slotW k).set ↔ (⟨(i 0).val, (i 0).isLt⟩ : Fin 4) = k := by
  have h0 : (i 0).val < 4 := (i 0).isLt
  have h1 : (i 1).val < 128 := (i 1).isLt
  have h2 : (i 2).val < 512 := (i 2).isLt
  rw [Rect.mem_set_unit]
  constructor
  · intro h
    have a0 : k.val ≤ (i 0).val ∧ (i 0).val < k.val + 1 := h 0
    exact Fin.ext (show (i 0).val = k.val by omega)
  · rintro rfl a
    match a with
    | 0 => exact (show (i 0).val ≤ (i 0).val ∧ (i 0).val < (i 0).val + 1 from by omega)
    | 1 => exact (show 0 ≤ (i 1).val ∧ (i 1).val < 0 + 128 from by omega)
    | 2 => exact (show 0 ≤ (i 2).val ∧ (i 2).val < 0 + 512 from by omega)

theorem mem_oslabW (k : Fin 4) (i : S4x1024x512.Idx) : i ∈ (oslabW k).set ↔ (⟨(i 0).val, (i 0).isLt⟩ : Fin 4) = k := by
  have h0 : (i 0).val < 4 := (i 0).isLt
  have h1 : (i 1).val < 1024 := (i 1).isLt
  have h2 : (i 2).val < 512 := (i 2).isLt
  rw [Rect.mem_set_unit]
  constructor
  · intro h
    have a0 : k.val ≤ (i 0).val ∧ (i 0).val < k.val + 1 := h 0
    exact Fin.ext (show (i 0).val = k.val by omega)
  · rintro rfl a
    match a with
    | 0 => exact (show (i 0).val ≤ (i 0).val ∧ (i 0).val < (i 0).val + 1 from by omega)
    | 1 => exact (show 0 ≤ (i 1).val ∧ (i 1).val < 0 + 1024 from by omega)
    | 2 => exact (show 0 ≤ (i 2).val ∧ (i 2).val < 0 + 512 from by omega)

theorem mem_colq (k : Fin 4) (i : S1024x512.Idx) :
    i ∈ (colq k).set ↔ (⟨(i 1).val / 128, Nat.div_lt_of_lt_mul (show (i 1).val < 128 * 4 from (i 1).isLt)⟩ : Fin 4) = k := by
  have h0 : (i 0).val < 1024 := (i 0).isLt
  have h1 : (i 1).val < 512 := (i 1).isLt
  rw [Rect.mem_set_unit]
  constructor
  · intro h
    have a0 : 128 * k.val ≤ (i 1).val ∧ (i 1).val < 128 * k.val + 128 := h 1
    exact Fin.ext (show (i 1).val / 128 = k.val by omega)
  · rintro rfl a
    match a with
    | 0 => exact (show 0 ≤ (i 0).val ∧ (i 0).val < 0 + 1024 from by omega)
    | 1 => exact (show 128 * ((i 1).val / 128) ≤ (i 1).val ∧ (i 1).val < 128 * ((i 1).val / 128) + 128 from by omega)

theorem mem_rowo (k : Fin 4) (i : S2048x2048.Idx) :
    i ∈ (rowo k).set ↔ (⟨(i 0).val / 512, Nat.div_lt_of_lt_mul (show (i 0).val < 512 * 4 from (i 0).isLt)⟩ : Fin 4) = k := by
  have h0 : (i 0).val < 2048 := (i 0).isLt
  have h1 : (i 1).val < 2048 := (i 1).isLt
  rw [Rect.mem_set_unit]
  constructor
  · intro h
    have a0 : 512 * k.val ≤ (i 0).val ∧ (i 0).val < 512 * k.val + 512 := h 0
    exact Fin.ext (show (i 0).val / 512 = k.val by omega)
  · rintro rfl a
    match a with
    | 0 => exact (show 512 * ((i 0).val / 512) ≤ (i 0).val ∧ (i 0).val < 512 * ((i 0).val / 512) + 512 from by omega)
    | 1 => exact (show 0 ≤ (i 1).val ∧ (i 1).val < 0 + 2048 from by omega)

theorem qx_qx (q r : Fin 4) : qx q (qx q r) = r := by revert q r; decide

theorem qx_iff (q r p : Fin 4) : p = qx q r ↔ qx q p = r :=
  ⟨fun h => by rw [h, qx_qx], fun h => by rw [← h, qx_qx]⟩

theorem mem_oslabX (q k : Fin 4) (i : S4x1024x512.Idx) : i ∈ (oslabW (qx q k)).set ↔ qx q (⟨(i 0).val, (i 0).isLt⟩ : Fin 4) = k :=
  (mem_oslabW _ i).trans (qx_iff q k _)

theorem mem_rowoX (q k : Fin 4) (i : S2048x2048.Idx) :
    i ∈ (rowo (qx q k)).set ↔ qx q (⟨(i 0).val / 512, Nat.div_lt_of_lt_mul (show (i 0).val < 512 * 4 from (i 0).isLt)⟩ : Fin 4) = k :=
  (mem_rowo _ i).trans (qx_iff q k _)

theorem wslot_union : ((wslot 0).set ∪ (wslot 1).set : Finset S2x512x2048.Idx) = Finset.univ := by
  ext i
  have h0 : (i 0).val < 2 := (i 0).isLt
  have h1 : (i 1).val < 512 := (i 1).isLt
  have h2 : (i 2).val < 2048 := (i 2).isLt
  simp only [Finset.mem_union, Rect.mem_set_unit, Finset.mem_univ, iff_true]
  rcases (show (i 0).val = 0 ∨ (i 0).val = 1 by omega) with h | h
  · left
    intro a
    match a with
    | 0 => exact (show 0 ≤ (i 0).val ∧ (i 0).val < 0 + 1 from by omega)
    | 1 => exact (show 0 ≤ (i 1).val ∧ (i 1).val < 0 + 512 from by omega)
    | 2 => exact (show 0 ≤ (i 2).val ∧ (i 2).val < 0 + 2048 from by omega)
  · right
    intro a
    match a with
    | 0 => exact (show 1 ≤ (i 0).val ∧ (i 0).val < 1 + 1 from by omega)
    | 1 => exact (show 0 ≤ (i 1).val ∧ (i 1).val < 0 + 512 from by omega)
    | 2 => exact (show 0 ≤ (i 2).val ∧ (i 2).val < 0 + 2048 from by omega)

theorem wslot_disj : Disjoint (wslot 0).set (wslot 1).set := by
  refine Rect.disjoint_of_axis _ _ (0 : Fin S2x512x2048.rank) fun j₁ h1 j₂ h2 => ?_
  have h1' : j₁ < 1 := h1
  have h2' : j₂ < 1 := h2
  show 0 + 1 * j₁ ≠ 1 + 1 * j₂
  omega

/-- A buffer that is whole, of a slab. -/
theorem slab_parts (p : Fin 4) : some' (F := F) c cc0_scratch11 (oslabW p).set ⊢ iprop(some' c cc0_scratch11 (oslab p 0).set ∗ some' c cc0_scratch11 (oslab p 1).set
    ∗ some' c cc0_scratch11 (oslab p 2).set ∗ some' c cc0_scratch11 (oslab p 3).set) := by
  unfold some'
  iintro ⟨%f, H⟩
  have e := (pts4 (F := F) c cc0_scratch11 (oslab p 0).set (oslab p 1).set (oslab p 2).set (oslab p 3).set fullShare f (slab_disj p 0 1 (by decide)) (slab_disj p 0 2 (by decide))
    (slab_disj p 0 3 (by decide)) (slab_disj p 1 2 (by decide)) (slab_disj p 1 3 (by decide)) (slab_disj p 2 3 (by decide))).1
  rw [slab_union p] at e
  ihave H' := e $$ H
  icases H' with ⟨H0, H1, H2, H3⟩
  isplitl [H0]; · iexists f; iexact H0
  isplitl [H1]; · iexists f; iexact H1
  isplitl [H2]; · iexists f; iexact H2
  iexists f; iexact H3

/-! ## The scratch memory -/

/-- The scratch buffers, whole, with no claim on what they hold. -/
abbrev scratch : sProp 𝕄 := iprop(anyOf (F := F) c cc0_scratch0 ∗ anyOf c cc0_scratch1 ∗ anyOf c cc0_scratch2 ∗ anyOf c cc0_scratch3 ∗ anyOf c cc0_scratch4 ∗ anyOf c cc0_scratch5 ∗ anyOf c cc0_scratch6 ∗ anyOf c cc0_scratch7 ∗ anyOf c cc0_scratch8 ∗ anyOf c cc0_scratch9 ∗ anyOf c cc0_scratch10 ∗ anyOf c cc0_scratch11 ∗ anyOf c cc0_scratch12)
/-- The slab of the gathered outputs that no peer fills. -/
abbrev spare : sProp 𝕄 := some' (F := F) c cc0_scratch11 (oslabW (qx (hq c) 0)).set

set_option maxRecDepth 20000 in
theorem mem_split : scratch (F := F) c ⊢ iprop(memIn c ∗ spare c) := by
  iintro ⟨S0, S1, S2, S3, S4, S5, S6, S7, S8, S9, S10, S11, S12⟩
  ihave H := (some_parts (F := F) c cc0_scratch0 (fun k => (slotC k).set) _ mem_slotC) $$ S0
  icases H with ⟨C0, C1, C2, C3⟩
  ihave H := (some_parts (F := F) c cc0_scratch1 (fun k => (slotW k).set) _ mem_slotW) $$ S1
  icases H with ⟨U0, U1, U2, U3⟩
  ihave H := (some_parts (F := F) c cc0_scratch2 (fun k => (slotW k).set) _ mem_slotW) $$ S2
  icases H with ⟨V0, V1, V2, V3⟩
  ihave H := (some_parts (F := F) c cc0_scratch5 (fun k => (colq k).set) _ mem_colq) $$ S5
  icases H with ⟨Q0, Q1, Q2, Q3⟩
  ihave H := (some_parts (F := F) c cc0_scratch10 (fun k => (colq k).set) _ mem_colq) $$ S10
  icases H with ⟨O0, O1, O2, O3⟩
  ihave H := (some_parts (F := F) c cc0_scratch11 (fun k => (oslabW (qx (hq c) k)).set) _ (mem_oslabX (hq c))) $$ S11
  icases H with ⟨A0, A1, A2, A3⟩
  ihave A1 := (slab_parts (F := F) c (qx (hq c) 1)) $$ A1
  ihave A2 := (slab_parts (F := F) c (qx (hq c) 2)) $$ A2
  ihave A3 := (slab_parts (F := F) c (qx (hq c) 3)) $$ A3
  ihave H := (show anyOf (F := F) c cc0_scratch12 ⊢ iprop(woS c 0 ∗ woS c 1) from by
    unfold anyOf woS some'
    iintro ⟨%f, H⟩
    have e := (pointsTo_union (q := fullShare) (f := f) (ℓ := (c : Thread nD τ).loc cc0_scratch12) (Ix := Unit) (Name := ℕ) (U := UU) (Lvl := ℕ) wslot_disj).1
    rw [wslot_union] at e
    ihave H' := e $$ H
    icases H' with ⟨H0, H1⟩
    isplitl [H0]; · iexists f; iexact H0
    iexists f; iexact H1) $$ S12
  icases H with ⟨W0, W1⟩
  isplitr [A0]
  · isplitl [C0 U0 V0]
    · isplitl [C0]; · iexact C0
      isplitl [U0]; · iexact U0
      iexact V0
    isplitl [C1 U1 V1]
    · isplitl [C1]; · iexact C1
      isplitl [U1]; · iexact U1
      iexact V1
    isplitl [C2 U2 V2]
    · isplitl [C2]; · iexact C2
      isplitl [U2]; · iexact U2
      iexact V2
    isplitl [C3 U3 V3]
    · isplitl [C3]; · iexact C3
      isplitl [U3]; · iexact U3
      iexact V3
    isplitl [S3]; · iexact S3
    isplitl [S4]; · iexact S4
    isplitl [S6]; · iexact S6
    isplitl [S7]; · iexact S7
    isplitl [S8]; · iexact S8
    isplitl [S9]; · iexact S9
    isplitl [Q0]; · iexact Q0
    isplitl [Q1]; · iexact Q1
    isplitl [Q2]; · iexact Q2
    isplitl [Q3]; · iexact Q3
    isplitl [O0]; · iexact O0
    isplitl [O1]; · iexact O1
    isplitl [O2]; · iexact O2
    isplitl [O3]; · iexact O3
    isplitl [A1]; · iexact A1
    isplitl [A2]; · iexact A2
    isplitl [A3]; · iexact A3
    isplitl [W0]; · iexact W0
    iexact W1
  iexact A0

set_option maxRecDepth 20000 in
theorem mem_join : iprop(memOut m c ∗ spare c) ⊢ scratch (F := F) c := by
  iintro ⟨⟨C0, C1, C2, C3, U0, U1, U2, U3, V0, V1, V2, V3, S3, S4, S6, S7, S8, S9, Q0, Q1, Q2, Q3, O00, O10, O20, O30, O01, O11, O21, O31, O02, O12, O22, O32, OK, A1, A2, A3, W0, W1⟩, A0⟩
  isplitl [C0 C1 C2 C3]
  · iapply (some_parts_join (F := F) c cc0_scratch0 (fun k => (slotC k).set) _ mem_slotC)
    isplitl [C0]; · iapply (some_intro c cc0_scratch0) $$ C0
    isplitl [C1]; · iapply (some_intro c cc0_scratch0) $$ C1
    isplitl [C2]; · iapply (some_intro c cc0_scratch0) $$ C2
    iapply (some_intro c cc0_scratch0) $$ C3
  isplitl [U0 U1 U2 U3]
  · iapply (some_parts_join (F := F) c cc0_scratch1 (fun k => (slotW k).set) _ mem_slotW)
    isplitl [U0]; · iapply (some_intro c cc0_scratch1) $$ U0
    isplitl [U1]; · iapply (some_intro c cc0_scratch1) $$ U1
    isplitl [U2]; · iapply (some_intro c cc0_scratch1) $$ U2
    iapply (some_intro c cc0_scratch1) $$ U3
  isplitl [V0 V1 V2 V3]
  · iapply (some_parts_join (F := F) c cc0_scratch2 (fun k => (slotW k).set) _ mem_slotW)
    isplitl [V0]; · iapply (some_intro c cc0_scratch2) $$ V0
    isplitl [V1]; · iapply (some_intro c cc0_scratch2) $$ V1
    isplitl [V2]; · iapply (some_intro c cc0_scratch2) $$ V2
    iapply (some_intro c cc0_scratch2) $$ V3
  isplitl [S3]; · iapply (some_intro c cc0_scratch3) $$ S3
  isplitl [S4]; · iapply (some_intro c cc0_scratch4) $$ S4
  isplitl [Q0 Q1 Q2 Q3]
  · iapply (some_parts_join (F := F) c cc0_scratch5 (fun k => (colq k).set) _ mem_colq)
    isplitl [Q0]; · iapply (some_intro c cc0_scratch5) $$ Q0
    isplitl [Q1]; · iapply (some_intro c cc0_scratch5) $$ Q1
    isplitl [Q2]; · iapply (some_intro c cc0_scratch5) $$ Q2
    iapply (some_intro c cc0_scratch5) $$ Q3
  isplitl [S6]; · iapply (some_intro c cc0_scratch6) $$ S6
  isplitl [S7]; · iapply (some_intro c cc0_scratch7) $$ S7
  isplitl [S8]; · iapply (some_intro c cc0_scratch8) $$ S8
  isplitl [S9]; · iapply (some_intro c cc0_scratch9) $$ S9
  isplitl [O00 O10 O20 O30 O01 O11 O21 O31 O02 O12 O22 O32 OK]
  · ihave O0 := (oq_cols c (oshare 0) (oqC m c)).2 $$ [O00 O10 O20 O30]
    · isplitl [O00]; · iexact O00
      isplitl [O10]; · iexact O10
      isplitl [O20]; · iexact O20
      iexact O30
    ihave O1 := (oq_cols c (oshare 1) (oqC m c)).2 $$ [O01 O11 O21 O31]
    · isplitl [O01]; · iexact O01
      isplitl [O11]; · iexact O11
      isplitl [O21]; · iexact O21
      iexact O31
    ihave O2 := (oq_cols c (oshare 2) (oqC m c)).2 $$ [O02 O12 O22 O32]
    · isplitl [O02]; · iexact O02
      isplitl [O12]; · iexact O12
      isplitl [O22]; · iexact O22
      iexact O32
    ihave OL := (pts_halve c cc0_scratch10 Finset.univ fullShare.left (oqC m c)).2 $$ [O0 O1]
    · isplitl [O0]; · iexact O0
      iexact O1
    ihave OR := (pts_halve c cc0_scratch10 Finset.univ fullShare.right (oqC m c)).2 $$ [O2 OK]
    · isplitl [O2]; · iexact O2
      iexact OK
    iapply (some_intro c cc0_scratch10)
    iapply (pts_halve c cc0_scratch10 Finset.univ fullShare (oqC m c)).2
    isplitl [OL]; · iexact OL
    iexact OR
  isplitl [A0 A1 A2 A3]
  · iapply (some_parts_join (F := F) c cc0_scratch11 (fun k => (oslabW (qx (hq c) k)).set) _ (mem_oslabX (hq c)))
    isplitl [A0]; · iexact A0
    isplitl [A1]; · iapply (some_intro c cc0_scratch11) $$ A1
    isplitl [A2]; · iapply (some_intro c cc0_scratch11) $$ A2
    iapply (some_intro c cc0_scratch11) $$ A3
  ihave W := (some_join c cc0_scratch12 (wslot 0).set (wslot 1).set wslot_disj) $$ [W0 W1]
  · isplitl [W0]; · iapply (some_intro c cc0_scratch12) $$ W0
    iapply (some_intro c cc0_scratch12) $$ W1
  iapply (show some' (F := F) c cc0_scratch12 ((wslot 0).set ∪ (wslot 1).set) ⊢ anyOf c cc0_scratch12 from by rw [wslot_union]) $$ W

/-! ## The arrays that are fetched from -/

/-- The query weights of the other head quarters. -/
abbrev wqRest : sProp 𝕄 := pts c main_arg4 (Finset.univ \ (colwq (hq c)).set) fullShare (xWq m c)

theorem hbm_split : iprop(whole c main_arg4 (xWq m c) ∗ whole c main_arg7 (xWo m c)) ⊢ iprop(hbmIn m c ∗ wqRest m c) := by
  iintro ⟨H4, H7⟩
  ihave H4' := (pointsTo_split_subset (Finset.subset_univ (colwq (hq c)).set)).1 $$ H4
  icases H4' with ⟨HQ, HR⟩
  ihave H7' := (pts_parts (F := F) c main_arg7 (fun k => (rowo (qx (hq c) k)).set) _ (mem_rowoX (hq c)) fullShare (xWo m c)).1 $$ H7
  icases H7' with ⟨R0, R1, R2, R3⟩
  isplitr [HR]
  · isplitl [HQ]; · iexact HQ
    isplitl [R0]; · iexact R0
    isplitl [R1]; · iexact R1
    isplitl [R2]; · iexact R2
    iexact R3
  iexact HR

theorem hbm_join : iprop(hbmIn m c ∗ wqRest m c) ⊢ iprop(whole c main_arg4 (xWq m c) ∗ whole c main_arg7 (xWo m c)) := by
  iintro ⟨⟨HQ, R0, R1, R2, R3⟩, HR⟩
  isplitl [HQ HR]
  · iapply (pointsTo_split_subset (Finset.subset_univ (colwq (hq c)).set)).2
    isplitl [HQ] <;> iassumption
  iapply (pts_parts (F := F) c main_arg7 (fun k => (rowo (qx (hq c) k)).set) _ (mem_rowoX (hq c)) fullShare (xWo m c)).2
  isplitl [R0]; · iexact R0
  isplitl [R1]; · iexact R1
  isplitl [R2]; · iexact R2
  iexact R3

end Cert.KernelIdealProof

end
-- ==== Proof.KernelIdeal.Launch.lean ====
/-
# The rights dealt out at the start

Every cell starts with its round open; the rights to raise a cell are made at the device whose cell it is and go to the
device that raises it; the credit for a wait is what the other devices owe to the cell.
-/
module

public import proofs.«01_k».proof.Proof.KernelIdeal.Mem

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (c : Dev nD)

/-! ## The cells as a list -/

set_option maxRecDepth 20000 in
/-- A family over the cells of a device, written out. -/
theorem flat (Φ : Cel → sProp 𝕄) : bigSep Finset.univ Φ
    = iprop(Φ .bar ∗ Φ .xy ∗ Φ (.send 0 0) ∗ Φ (.send 0 1) ∗ Φ (.send 0 2) ∗ Φ (.send 1 0) ∗ Φ (.send 1 1) ∗ Φ (.send 1 2) ∗ Φ (.send 2 0) ∗ Φ (.send 2 1) ∗ Φ (.send 2 2) ∗ Φ (.recv 0 0) ∗ Φ (.recv 0 1) ∗ Φ (.recv 0 2) ∗ Φ (.recv 1 0) ∗ Φ (.recv 1 1) ∗ Φ (.recv 1 2) ∗ Φ (.recv 2 0) ∗ Φ (.recv 2 1) ∗ Φ (.recv 2 2) ∗ Φ .wq ∗ Φ (.osend 0 0) ∗ Φ (.osend 0 1) ∗ Φ (.osend 0 2) ∗ Φ (.osend 0 3) ∗ Φ (.osend 1 0) ∗ Φ (.osend 1 1) ∗ Φ (.osend 1 2) ∗ Φ (.osend 1 3) ∗ Φ (.osend 2 0) ∗ Φ (.osend 2 1) ∗ Φ (.osend 2 2) ∗ Φ (.osend 2 3) ∗ Φ (.orecv 0 0) ∗ Φ (.orecv 0 1) ∗ Φ (.orecv 0 2) ∗ Φ (.orecv 0 3) ∗ Φ (.orecv 1 0) ∗ Φ (.orecv 1 1) ∗ Φ (.orecv 1 2) ∗ Φ (.orecv 1 3) ∗ Φ (.orecv 2 0) ∗ Φ (.orecv 2 1) ∗ Φ (.orecv 2 2) ∗ Φ (.orecv 2 3) ∗ Φ (.wo 0) ∗ Φ (.wo 1) ∗ Φ (.wo 2) ∗ Φ (.wo 3)) :=
  bigSep_univ_eq_bigSepL (.bar :: .xy :: (.send 0 0) :: (.send 0 1) :: (.send 0 2) :: (.send 1 0) :: (.send 1 1) :: (.send 1 2) :: (.send 2 0) :: (.send 2 1) :: (.send 2 2) :: (.recv 0 0) :: (.recv 0 1) :: (.recv 0 2) :: (.recv 1 0) :: (.recv 1 1) :: (.recv 1 2) :: (.recv 2 0) :: (.recv 2 1) :: (.recv 2 2) :: .wq :: (.osend 0 0) :: (.osend 0 1) :: (.osend 0 2) :: (.osend 0 3) :: (.osend 1 0) :: (.osend 1 1) :: (.osend 1 2) :: (.osend 1 3) :: (.osend 2 0) :: (.osend 2 1) :: (.osend 2 2) :: (.osend 2 3) :: (.orecv 0 0) :: (.orecv 0 1) :: (.orecv 0 2) :: (.orecv 0 3) :: (.orecv 1 0) :: (.orecv 1 1) :: (.orecv 1 2) :: (.orecv 1 3) :: (.orecv 2 0) :: (.orecv 2 1) :: (.orecv 2 2) :: (.orecv 2 3) :: (.wo 0) :: (.wo 1) :: (.wo 2) :: (.wo 3) :: [] : List Cel) (by decide +kernel) (by decide +kernel) Φ

set_option maxRecDepth 20000 in
/-- The same over the cells that other devices raise. -/
theorem flat_launched (Φ : Cel → sProp 𝕄) : bigSep (Finset.univ.filter fun k => launched k = true) Φ
    = iprop(Φ .bar ∗ Φ .xy ∗ Φ (.recv 0 0) ∗ Φ (.recv 0 1) ∗ Φ (.recv 0 2) ∗ Φ (.recv 1 0) ∗ Φ (.recv 1 1) ∗ Φ (.recv 1 2) ∗ Φ (.recv 2 0) ∗ Φ (.recv 2 1) ∗ Φ (.recv 2 2) ∗ Φ (.orecv 0 0) ∗ Φ (.orecv 0 1) ∗ Φ (.orecv 0 2) ∗ Φ (.orecv 0 3) ∗ Φ (.orecv 1 0) ∗ Φ (.orecv 1 1) ∗ Φ (.orecv 1 2) ∗ Φ (.orecv 1 3) ∗ Φ (.orecv 2 0) ∗ Φ (.orecv 2 1) ∗ Φ (.orecv 2 2) ∗ Φ (.orecv 2 3)) :=
  bigSep_eq_bigSepL_of_eq ([.bar, .xy, .recv 0 0, .recv 0 1, .recv 0 2, .recv 1 0, .recv 1 1, .recv 1 2, .recv 2 0, .recv 2 1, .recv 2 2, .orecv 0 0, .orecv 0 1, .orecv 0 2, .orecv 0 3, .orecv 1 0, .orecv 1 1, .orecv 1 2, .orecv 1 3, .orecv 2 0, .orecv 2 1, .orecv 2 2, .orecv 2 3] : List Cel) (by decide +kernel) (by decide +kernel) Φ

/-! ## The rights to raise -/

/-- Whose cell a device raises, by the kind of the cell and the duty. -/
def route (kd : Cel × Fin 3) : Dev nD ≃ Dev nD := match kd with
  | (.bar, 0) => ringEquiv.symm
  | (.bar, _) => ringEquiv
  | (.xy, i) => peerEquiv i
  | (.recv _ _, _) => ringEquiv
  | (.orecv i _, _) => peerEquiv i
  | _ => Equiv.refl _

/-- All the routes at once. -/
def routes : Dev nD × Cel × Fin 3 ≃ Dev nD × Cel × Fin 3 where
  toFun x := (route x.2 x.1, x.2)
  invFun x := ((route x.2).symm x.1, x.2)
  left_inv x := Prod.ext ((route x.2).symm_apply_apply x.1) rfl
  right_inv x := Prod.ext ((route x.2).apply_symm_apply x.1) rfl

/-- The rights to raise a device's own cells, -/
def toks : sProp 𝕄 := bigSep Finset.univ fun kd : Cel × Fin 3 => tok c kd.1 kd.2
/-- and the rights that a device uses. -/
def pays : sProp 𝕄 := bigSep Finset.univ fun kd : Cel × Fin 3 => tok (route kd c) kd.1 kd.2

omit [FloatOps F] in
theorem toks_around : (bigSep Finset.univ fun c : Dev nD => toks (F := F) c) ⊢ bigSep Finset.univ fun c : Dev nD => pays (F := F) c :=
  Entails.of_eq ((bigSep_univ_prod fun x : Dev nD × Cel × Fin 3 => (tok x.1 x.2.1 x.2.2 : sProp 𝕄)).symm.trans
    ((bigSep_univ_equiv routes fun x : Dev nD × Cel × Fin 3 => (tok x.1 x.2.1 x.2.2 : sProp 𝕄)).trans
      (bigSep_univ_prod fun x : Dev nD × Cel × Fin 3 => (tok (route x.2 x.1) x.2.1 x.2.2 : sProp 𝕄))))

/-- The rights that a device uses on one kind of cell. -/
def uses (k : Cel) : sProp 𝕄 := match k with
  | .bar => iprop(tok (left c) .bar 0 ∗ tok (right c) .bar 1)
  | .xy => iprop(tok (peer 0 c) .xy 0 ∗ tok (peer 1 c) .xy 1 ∗ tok (peer 2 c) .xy 2)
  | .send h t => tok c (.send h t) 0
  | .recv h t => tok (right c) (.recv h t) 0
  | .wq => tok c .wq 0
  | .osend i j => tok c (.osend i j) 0
  | .orecv i j => tok (peer i c) (.orecv i j) 0
  | .wo k => tok c (.wo k) 0

omit [FloatOps F] in
theorem three (Φ : Fin 3 → sProp 𝕄) : bigSep Finset.univ Φ = iprop(Φ 0 ∗ Φ 1 ∗ Φ 2) := bigSep_univ_eq_bigSepL [0, 1, 2] (by decide) (by decide) Φ

omit [FloatOps F] in
theorem first_of (A B : sProp 𝕄) : iprop(A ∗ B) ⊢ A := by
  iintro ⟨H, -⟩
  iexact H

omit [FloatOps F] in
theorem pays_uses : pays (F := F) c ⊢ bigSep Finset.univ (uses (F := F) c) := by
  unfold pays
  rw [bigSep_univ_prod]
  refine bigSep_mono fun k _ => ?_
  rw [three]
  cases k with
  | bar =>
    show iprop(tok (left c) .bar 0 ∗ tok (right c) .bar 1 ∗ tok (right c) .bar 2) ⊢ iprop(tok (left c) .bar 0 ∗ tok (right c) .bar 1)
    iintro ⟨H0, H1, -⟩
    isplitl [H0] <;> iassumption
  | xy =>
    show iprop(tok (peer 0 c) .xy 0 ∗ tok (peer 1 c) .xy 1 ∗ tok (peer 2 c) .xy 2) ⊢ iprop(tok (peer 0 c) .xy 0 ∗ tok (peer 1 c) .xy 1 ∗ tok (peer 2 c) .xy 2)
    exact .rfl
  | _ =>
    exact first_of _ _

set_option maxRecDepth 20000 in
theorem flat_uses : bigSep Finset.univ (uses (F := F) c)
    = iprop((tok (left c) .bar 0 ∗ tok (right c) .bar 1) ∗ (tok (peer 0 c) .xy 0 ∗ tok (peer 1 c) .xy 1 ∗ tok (peer 2 c) .xy 2) ∗ tok c (.send 0 0) 0 ∗ tok c (.send 0 1) 0 ∗ tok c (.send 0 2) 0 ∗ tok c (.send 1 0) 0 ∗ tok c (.send 1 1) 0 ∗ tok c (.send 1 2) 0 ∗ tok c (.send 2 0) 0 ∗ tok c (.send 2 1) 0 ∗ tok c (.send 2 2) 0 ∗ tok (right c) (.recv 0 0) 0 ∗ tok (right c) (.recv 0 1) 0 ∗ tok (right c) (.recv 0 2) 0 ∗ tok (right c) (.recv 1 0) 0 ∗ tok (right c) (.recv 1 1) 0 ∗ tok (right c) (.recv 1 2) 0 ∗ tok (right c) (.recv 2 0) 0 ∗ tok (right c) (.recv 2 1) 0 ∗ tok (right c) (.recv 2 2) 0 ∗ tok c .wq 0 ∗ tok c (.osend 0 0) 0 ∗ tok c (.osend 0 1) 0 ∗ tok c (.osend 0 2) 0 ∗ tok c (.osend 0 3) 0 ∗ tok c (.osend 1 0) 0 ∗ tok c (.osend 1 1) 0 ∗ tok c (.osend 1 2) 0 ∗ tok c (.osend 1 3) 0 ∗ tok c (.osend 2 0) 0 ∗ tok c (.osend 2 1) 0 ∗ tok c (.osend 2 2) 0 ∗ tok c (.osend 2 3) 0 ∗ tok (peer 0 c) (.orecv 0 0) 0 ∗ tok (peer 0 c) (.orecv 0 1) 0 ∗ tok (peer 0 c) (.orecv 0 2) 0 ∗ tok (peer 0 c) (.orecv 0 3) 0 ∗ tok (peer 1 c) (.orecv 1 0) 0 ∗ tok (peer 1 c) (.orecv 1 1) 0 ∗ tok (peer 1 c) (.orecv 1 2) 0 ∗ tok (peer 1 c) (.orecv 1 3) 0 ∗ tok (peer 2 c) (.orecv 2 0) 0 ∗ tok (peer 2 c) (.orecv 2 1) 0 ∗ tok (peer 2 c) (.orecv 2 2) 0 ∗ tok (peer 2 c) (.orecv 2 3) 0 ∗ tok c (.wo 0) 0 ∗ tok c (.wo 1) 0 ∗ tok c (.wo 2) 0 ∗ tok c (.wo 3) 0) :=
  flat (uses c)

/-! ## The credits -/

/-- What a device has to raise in all. -/
abbrev O₀ (c : Dev nD) : CellTallies nD τ sig Unit := owed (debts c)

omit [FloatOps F] in
theorem launch_crd (k : Cel) (hk : launched k = true) :
    tallyOn (cell c k) (launchCredit (Pipeline.owing O₀) 0 (cell c k)) = (tallyAt (cell c k) () (need k) : CellTallies nD τ sig Unit) := by
  unfold tallyAt; refine congrArg _ (Finsupp.ext fun u => ?_); cases u
  rw [Pipeline.launchCredit_owing, Finsupp.single_eq_same]
  exact owed_total c k hk

omit [FloatOps F] in
theorem creds : (Pipeline.launchCred O₀ c : sProp 𝕄) ⊢ bigSep (Finset.univ.filter fun k => launched k = true) fun k => crd (F := F) c k := by
  unfold Pipeline.launchCred
  refine (BI.bigSep_subset (Finset.subset_univ ((Finset.univ.filter fun k => launched k = true).map ⟨semOf, semOf_injective⟩))).trans ?_
  rw [bigSep_map]
  refine bigSep_mono fun k hk => ?_
  have h := launch_crd c k (Finset.mem_filter.mp hk).2
  show cred (tallyOn (cell c k) (launchCredit (Pipeline.owing O₀) 0 (cell c k))) ⊢ _
  rw [h]

/-! ## What a device gets -/

/-- The places of a device at its own cells. -/
abbrev owns' : sProp 𝕄 := bigSep Finset.univ fun k : Cel => own' (F := F) c k

set_option maxRecDepth 40000 in
set_option maxHeartbeats 4000000 in
theorem gear_intro : iprop(owns' (F := F) c ∗ pays c ∗ Pipeline.launchCred O₀ c) ⊢ gear (F := F) c := by
  iintro ⟨HA, HT, HC⟩
  ihave HT := (pays_uses (F := F) c) $$ HT
  ihave HC := (creds (F := F) c) $$ HC
  ihave HA := (Entails.of_eq (flat (F := F) fun k => own' c k)) $$ HA
  ihave HT := (Entails.of_eq (flat_uses (F := F) c)) $$ HT
  ihave HC := (Entails.of_eq (flat_launched (F := F) fun k => crd c k)) $$ HC
  icases HA with ⟨Abar, Axy, Asend00, Asend01, Asend02, Asend10, Asend11, Asend12, Asend20, Asend21, Asend22, Arecv00, Arecv01, Arecv02, Arecv10, Arecv11, Arecv12, Arecv20, Arecv21, Arecv22, Awq, Aosend00, Aosend01, Aosend02, Aosend03, Aosend10, Aosend11, Aosend12, Aosend13, Aosend20, Aosend21, Aosend22, Aosend23, Aorecv00, Aorecv01, Aorecv02, Aorecv03, Aorecv10, Aorecv11, Aorecv12, Aorecv13, Aorecv20, Aorecv21, Aorecv22, Aorecv23, Awo0, Awo1, Awo2, Awo3⟩
  icases HC with ⟨Cbar, Cxy, Crecv00, Crecv01, Crecv02, Crecv10, Crecv11, Crecv12, Crecv20, Crecv21, Crecv22, Corecv00, Corecv01, Corecv02, Corecv03, Corecv10, Corecv11, Corecv12, Corecv13, Corecv20, Corecv21, Corecv22, Corecv23⟩
  icases HT with ⟨⟨Tbar0, Tbar1⟩, ⟨Txy0, Txy1, Txy2⟩, Tsend00, Tsend01, Tsend02, Tsend10, Tsend11, Tsend12, Tsend20, Tsend21, Tsend22, Trecv00, Trecv01, Trecv02, Trecv10, Trecv11, Trecv12, Trecv20, Trecv21, Trecv22, Twq, Tosend00, Tosend01, Tosend02, Tosend03, Tosend10, Tosend11, Tosend12, Tosend13, Tosend20, Tosend21, Tosend22, Tosend23, Torecv00, Torecv01, Torecv02, Torecv03, Torecv10, Torecv11, Torecv12, Torecv13, Torecv20, Torecv21, Torecv22, Torecv23, Two0, Two1, Two2, Two3⟩
  isplitl [Tbar0 Tbar1 Cbar Abar]
  · isplitl [Tbar0]; · iexact Tbar0
    isplitl [Tbar1]; · iexact Tbar1
    isplitl [Cbar]; · iexact Cbar
    iexact Abar
  isplitl [Tsend00 Trecv00 Tsend01 Trecv01 Tsend02 Trecv02 Asend00 Asend01 Asend02 Crecv00 Arecv00 Crecv01 Arecv01 Crecv02 Arecv02]
  · isplitl [Tsend00 Trecv00]
    · isplitl [Tsend00]; · iexact Tsend00
      iexact Trecv00
    isplitl [Tsend01 Trecv01]
    · isplitl [Tsend01]; · iexact Tsend01
      iexact Trecv01
    isplitl [Tsend02 Trecv02]
    · isplitl [Tsend02]; · iexact Tsend02
      iexact Trecv02
    isplitl [Asend00]; · iexact Asend00
    isplitl [Asend01]; · iexact Asend01
    isplitl [Asend02]; · iexact Asend02
    isplitl [Crecv00 Arecv00]
    · isplitl [Crecv00]; · iexact Crecv00
      iexact Arecv00
    isplitl [Crecv01 Arecv01]
    · isplitl [Crecv01]; · iexact Crecv01
      iexact Arecv01
    isplitl [Crecv02]; · iexact Crecv02
    iexact Arecv02
  isplitl [Tsend10 Trecv10 Tsend11 Trecv11 Tsend12 Trecv12 Asend10 Asend11 Asend12 Crecv10 Arecv10 Crecv11 Arecv11 Crecv12 Arecv12]
  · isplitl [Tsend10 Trecv10]
    · isplitl [Tsend10]; · iexact Tsend10
      iexact Trecv10
    isplitl [Tsend11 Trecv11]
    · isplitl [Tsend11]; · iexact Tsend11
      iexact Trecv11
    isplitl [Tsend12 Trecv12]
    · isplitl [Tsend12]; · iexact Tsend12
      iexact Trecv12
    isplitl [Asend10]; · iexact Asend10
    isplitl [Asend11]; · iexact Asend11
    isplitl [Asend12]; · iexact Asend12
    isplitl [Crecv10 Arecv10]
    · isplitl [Crecv10]; · iexact Crecv10
      iexact Arecv10
    isplitl [Crecv11 Arecv11]
    · isplitl [Crecv11]; · iexact Crecv11
      iexact Arecv11
    isplitl [Crecv12]; · iexact Crecv12
    iexact Arecv12
  isplitl [Tsend20 Trecv20 Tsend21 Trecv21 Tsend22 Trecv22 Asend20 Asend21 Asend22 Crecv20 Arecv20 Crecv21 Arecv21 Crecv22 Arecv22]
  · isplitl [Tsend20 Trecv20]
    · isplitl [Tsend20]; · iexact Tsend20
      iexact Trecv20
    isplitl [Tsend21 Trecv21]
    · isplitl [Tsend21]; · iexact Tsend21
      iexact Trecv21
    isplitl [Tsend22 Trecv22]
    · isplitl [Tsend22]; · iexact Tsend22
      iexact Trecv22
    isplitl [Asend20]; · iexact Asend20
    isplitl [Asend21]; · iexact Asend21
    isplitl [Asend22]; · iexact Asend22
    isplitl [Crecv20 Arecv20]
    · isplitl [Crecv20]; · iexact Crecv20
      iexact Arecv20
    isplitl [Crecv21 Arecv21]
    · isplitl [Crecv21]; · iexact Crecv21
      iexact Arecv21
    isplitl [Crecv22]; · iexact Crecv22
    iexact Arecv22
  isplitl [Twq Awq Two0 Two1 Two2 Two3 Awo0 Awo1 Awo2 Awo3]
  · isplitl [Twq]; · iexact Twq
    isplitl [Awq]; · iexact Awq
    isplitl [Two0]; · iexact Two0
    isplitl [Two1]; · iexact Two1
    isplitl [Two2]; · iexact Two2
    isplitl [Two3]; · iexact Two3
    isplitl [Awo0]; · iexact Awo0
    isplitl [Awo1]; · iexact Awo1
    isplitl [Awo2]; · iexact Awo2
    iexact Awo3
  isplitl [Txy0 Txy1 Txy2 Cxy Axy]
  · isplitl [Txy0]; · iexact Txy0
    isplitl [Txy1]; · iexact Txy1
    isplitl [Txy2]; · iexact Txy2
    isplitl [Cxy]; · iexact Cxy
    iexact Axy
  isplitl [Tosend00 Torecv00 Tosend01 Torecv01 Tosend02 Torecv02 Tosend03 Torecv03 Aosend00 Aosend01 Aosend02 Aosend03 Corecv00 Aorecv00 Corecv01 Aorecv01 Corecv02 Aorecv02 Corecv03 Aorecv03]
  · isplitl [Tosend00 Torecv00]
    · isplitl [Tosend00]; · iexact Tosend00
      iexact Torecv00
    isplitl [Tosend01 Torecv01]
    · isplitl [Tosend01]; · iexact Tosend01
      iexact Torecv01
    isplitl [Tosend02 Torecv02]
    · isplitl [Tosend02]; · iexact Tosend02
      iexact Torecv02
    isplitl [Tosend03 Torecv03]
    · isplitl [Tosend03]; · iexact Tosend03
      iexact Torecv03
    isplitl [Aosend00]; · iexact Aosend00
    isplitl [Aosend01]; · iexact Aosend01
    isplitl [Aosend02]; · iexact Aosend02
    isplitl [Aosend03]; · iexact Aosend03
    isplitl [Corecv00 Aorecv00]
    · isplitl [Corecv00]; · iexact Corecv00
      iexact Aorecv00
    isplitl [Corecv01 Aorecv01]
    · isplitl [Corecv01]; · iexact Corecv01
      iexact Aorecv01
    isplitl [Corecv02 Aorecv02]
    · isplitl [Corecv02]; · iexact Corecv02
      iexact Aorecv02
    isplitl [Corecv03]; · iexact Corecv03
    iexact Aorecv03
  isplitl [Tosend10 Torecv10 Tosend11 Torecv11 Tosend12 Torecv12 Tosend13 Torecv13 Aosend10 Aosend11 Aosend12 Aosend13 Corecv10 Aorecv10 Corecv11 Aorecv11 Corecv12 Aorecv12 Corecv13 Aorecv13]
  · isplitl [Tosend10 Torecv10]
    · isplitl [Tosend10]; · iexact Tosend10
      iexact Torecv10
    isplitl [Tosend11 Torecv11]
    · isplitl [Tosend11]; · iexact Tosend11
      iexact Torecv11
    isplitl [Tosend12 Torecv12]
    · isplitl [Tosend12]; · iexact Tosend12
      iexact Torecv12
    isplitl [Tosend13 Torecv13]
    · isplitl [Tosend13]; · iexact Tosend13
      iexact Torecv13
    isplitl [Aosend10]; · iexact Aosend10
    isplitl [Aosend11]; · iexact Aosend11
    isplitl [Aosend12]; · iexact Aosend12
    isplitl [Aosend13]; · iexact Aosend13
    isplitl [Corecv10 Aorecv10]
    · isplitl [Corecv10]; · iexact Corecv10
      iexact Aorecv10
    isplitl [Corecv11 Aorecv11]
    · isplitl [Corecv11]; · iexact Corecv11
      iexact Aorecv11
    isplitl [Corecv12 Aorecv12]
    · isplitl [Corecv12]; · iexact Corecv12
      iexact Aorecv12
    isplitl [Corecv13]; · iexact Corecv13
    iexact Aorecv13
  isplitl [Tosend20 Torecv20]
  · isplitl [Tosend20]; · iexact Tosend20
    iexact Torecv20
  isplitl [Tosend21 Torecv21]
  · isplitl [Tosend21]; · iexact Tosend21
    iexact Torecv21
  isplitl [Tosend22 Torecv22]
  · isplitl [Tosend22]; · iexact Tosend22
    iexact Torecv22
  isplitl [Tosend23 Torecv23]
  · isplitl [Tosend23]; · iexact Tosend23
    iexact Torecv23
  isplitl [Aosend20]; · iexact Aosend20
  isplitl [Aosend21]; · iexact Aosend21
  isplitl [Aosend22]; · iexact Aosend22
  isplitl [Aosend23]; · iexact Aosend23
  isplitl [Corecv20 Aorecv20]
  · isplitl [Corecv20]; · iexact Corecv20
    iexact Aorecv20
  isplitl [Corecv21 Aorecv21]
  · isplitl [Corecv21]; · iexact Corecv21
    iexact Aorecv21
  isplitl [Corecv22 Aorecv22]
  · isplitl [Corecv22]; · iexact Corecv22
    iexact Aorecv22
  isplitl [Corecv23]; · iexact Corecv23
  iexact Aorecv23

set_option maxRecDepth 40000 in
set_option maxHeartbeats 4000000 in
theorem dones_flat : dones (F := F) c ⊢ bigSep Finset.univ fun k : Cel => done (F := F) c k := by
  rw [flat]
  iintro ⟨⟨Dbar, Dxy, Dwq, Dwo0, Dwo1, Dwo2, Dwo3⟩, ⟨Dsend00, Dsend01, Dsend02, Drecv00, Drecv01, Drecv02⟩, ⟨Dsend10, Dsend11, Dsend12, Drecv10, Drecv11, Drecv12⟩, ⟨Dsend20, Dsend21, Dsend22, Drecv20, Drecv21, Drecv22⟩, ⟨Dosend00, Dosend01, Dosend02, Dosend03, Dorecv00, Dorecv01, Dorecv02, Dorecv03⟩, ⟨Dosend10, Dosend11, Dosend12, Dosend13, Dorecv10, Dorecv11, Dorecv12, Dorecv13⟩, ⟨Dosend20, Dosend21, Dosend22, Dosend23, Dorecv20, Dorecv21, Dorecv22, Dorecv23⟩⟩
  isplitl [Dbar]; · iexact Dbar
  isplitl [Dxy]; · iexact Dxy
  isplitl [Dsend00]; · iexact Dsend00
  isplitl [Dsend01]; · iexact Dsend01
  isplitl [Dsend02]; · iexact Dsend02
  isplitl [Dsend10]; · iexact Dsend10
  isplitl [Dsend11]; · iexact Dsend11
  isplitl [Dsend12]; · iexact Dsend12
  isplitl [Dsend20]; · iexact Dsend20
  isplitl [Dsend21]; · iexact Dsend21
  isplitl [Dsend22]; · iexact Dsend22
  isplitl [Drecv00]; · iexact Drecv00
  isplitl [Drecv01]; · iexact Drecv01
  isplitl [Drecv02]; · iexact Drecv02
  isplitl [Drecv10]; · iexact Drecv10
  isplitl [Drecv11]; · iexact Drecv11
  isplitl [Drecv12]; · iexact Drecv12
  isplitl [Drecv20]; · iexact Drecv20
  isplitl [Drecv21]; · iexact Drecv21
  isplitl [Drecv22]; · iexact Drecv22
  isplitl [Dwq]; · iexact Dwq
  isplitl [Dosend00]; · iexact Dosend00
  isplitl [Dosend01]; · iexact Dosend01
  isplitl [Dosend02]; · iexact Dosend02
  isplitl [Dosend03]; · iexact Dosend03
  isplitl [Dosend10]; · iexact Dosend10
  isplitl [Dosend11]; · iexact Dosend11
  isplitl [Dosend12]; · iexact Dosend12
  isplitl [Dosend13]; · iexact Dosend13
  isplitl [Dosend20]; · iexact Dosend20
  isplitl [Dosend21]; · iexact Dosend21
  isplitl [Dosend22]; · iexact Dosend22
  isplitl [Dosend23]; · iexact Dosend23
  isplitl [Dorecv00]; · iexact Dorecv00
  isplitl [Dorecv01]; · iexact Dorecv01
  isplitl [Dorecv02]; · iexact Dorecv02
  isplitl [Dorecv03]; · iexact Dorecv03
  isplitl [Dorecv10]; · iexact Dorecv10
  isplitl [Dorecv11]; · iexact Dorecv11
  isplitl [Dorecv12]; · iexact Dorecv12
  isplitl [Dorecv13]; · iexact Dorecv13
  isplitl [Dorecv20]; · iexact Dorecv20
  isplitl [Dorecv21]; · iexact Dorecv21
  isplitl [Dorecv22]; · iexact Dorecv22
  isplitl [Dorecv23]; · iexact Dorecv23
  isplitl [Dwo0]; · iexact Dwo0
  isplitl [Dwo1]; · iexact Dwo1
  isplitl [Dwo2]; · iexact Dwo2
  iexact Dwo3

/-! ## The start of the protocol -/

omit [FloatOps F] in
theorem cell_injective : Function.Injective (fun ck : Dev nD × Cel => cell ck.1 ck.2) :=
  fun _ _ h => Prod.ext (cell_inj h).1 (cell_inj h).2
/-- All cells of all devices, -/
def allCells : Finset (GSem nD τ sig) := Finset.univ.map ⟨fun ck : Dev nD × Cel => cell ck.1 ck.2, cell_injective⟩
omit [FloatOps F] in
theorem tokOf_injective : Function.Injective (fun x : Dev nD × Cel × Fin 3 => ((cell x.1 x.2.1, 0, x.2.2) : GSem nD τ sig × ℕ × Fin 3)) := by
  rintro ⟨c, k, d⟩ ⟨c', k', d'⟩ h
  obtain ⟨h1, h2⟩ := cell_inj (congrArg Prod.fst h)
  have h3 : d = d' := congrArg (fun x : GSem nD τ sig × ℕ × Fin 3 => x.2.2) h
  have h1 : c = c' := h1
  have h2 : k = k' := h2
  rw [h1, h2, h3]
/-- all rights, -/
def allToks : Finset (GSem nD τ sig × ℕ × Fin 3) := Finset.univ.map ⟨_, tokOf_injective⟩
/-- and the launch element that carries them. -/
def u₀ : UU := (initOf (Pipeline.cells cfgs cellOf_inj) (Pipeline.launchToks cfgs cellOf_inj), initOf allCells allToks)

/-- What the launch element gives a device, -/
def G : sProp 𝕄 := iprop((bigSep Finset.univ fun k : Cel => roundState ER (Rd m) (cell c k) 0)
  ∗ (bigSep Finset.univ fun k : Cel => iprop(own' c k ∗ reached ER (cell c k) 0)) ∗ toks c)
/-- what all know of the cells, -/
def records (K : Dev nD × Cel → ℕ) : sProp 𝕄 :=
  iprop((bigSep Finset.univ fun ck : Dev nD × Cel => cellInv ER (Rd m) (K ck) (cell ck.1 ck.2))
    ∗ bigSep Finset.univ fun ck : Dev nD × Cel => reached ER (cell ck.1 ck.2) 0)
instance records_persistent (K : Dev nD × Cel → ℕ) : BI.Persistent (records (F := F) m K) := by unfold records; infer_instance
/-- and what a device then has. -/
def G' : sProp 𝕄 := iprop(∃ K, records m K ∗ owns' c ∗ pays c)

theorem fund_all : BI.own (ER (initOf allCells allToks)) ⊢ (|==> bigSep Finset.univ (G (F := F) m) : sProp 𝕄) := by
  have hX (Φ : GSem nD τ sig → sProp 𝕄) : bigSep allCells Φ = bigSep Finset.univ fun c : Dev nD => bigSep Finset.univ fun k : Cel => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The semaphores of the call itself: all but the barrier. -/
abbrev osem : {k : Cel // k ≠ .bar} → SemLoc sig := fun k => semOf k.1

theorem ownSemFacts : Pipeline.OwnSemFacts cfg0.spec osem := by decide +kernel

omit [FloatOps F] in
theorem unscopedSems0_eq : (unscopedSems0 c : sProp 𝕄) = done c .bar := by
  unfold unscopedSems0; rw [bigSep_eq_bigSepL_of_eq [semOf .bar] (by decide +kernel) (by decide)]; rfl

omit [FloatOps F] in
theorem sems0_eq : iprop(unscopedSems0 c ∗ Pipeline.ownSems0 (Ix := Unit) (Name := ℕ) (U := UU) (Lvl := ℕ) (Val := Elt F) (τ := τ) osem c)
    = (bigSep Finset.univ fun k : Cel => done (F := F) c k : sProp 𝕄) := by
  rw [bigSep_univ_at (fun k : Cel => (done (F := F) c k : sProp 𝕄)) .bar, ← bigSep_subtype_ne, unscopedSems0_eq]
  rfl

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cel => iprop(∃ κ : ℕ, cellInv ER (Rd m) κ (cell c k)))
          ∗ (bigSep Finset.univ fun k : Cel => iprop(own' c k ∗ reached ER (cell c k) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Cel => done (F := F) c k) ∗ bigSep Finset.univ fun k : Cel => roundState ER (Rd m) (cell c k) 0)
      ⊢ (|={Set.univ}=> bigSep Finset.univ fun k : Cel => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem persistent_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cel => iprop(∃ κ : ℕ, cellInv ER (Rd m) κ (cell c k)))
          ∗ (bigSep Finset.univ fun k : Cel => iprop(own' c k ∗ reached ER (cell c k) 0)) ∗ toks c) : sProp 𝕄)
      ⊢ bigSep Finset.univ (G' (F := F) m) := by
  rw [bigSep_sep', bigSep_sep', ← bigSep_univ_prod (fun ck : Dev nD × Cel => iprop(∃ κ : ℕ, cellInv ER (Rd m) κ (cell ck.1 ck.2))),
    bigSep_congr (s := Finset.univ) (fun (c : Dev nD) _ => bigSep_sep' Finset.univ (fun k : Cel => (own' c k : sProp 𝕄)) (fun k => reached ER (cell c k) 0)),
    bigSep_sep', ← bigSep_univ_prod (fun ck : Dev nD × Cel => (reached ER (cell ck.1 ck.2) 0 : sProp 𝕄))]
  iintro ⟨HI, ⟨Hat, #HR⟩, Htok⟩
  ihave HK := (BI.bigSep_exists_pi Finset.univ (fun (ck : Dev nD × Cel) (κ : ℕ) => (cellInv ER (Rd m) κ (cell ck.1 ck.2) : sProp 𝕄))) $$ HI
  icases HK with ⟨%K, #HI⟩
  ihave Htk := (toks_around (F := F)) $$ Htok
  iapply (persistent_each (R := records m K) (Φ := fun c : Dev nD => iprop(owns' c ∗ pays c)) fun c _ => show iprop(records m K ∗ owns' c ∗ pays c) ⊢ G' m c from by
    unfold G'
    iintro H
    iexists K
    iexact H)
  isplitr
  · unfold records; isplitl; · iexact HI
    iexact HR
  · iapply (Entails.of_eq (bigSep_sep' Finset.univ (fun c : Dev nD => owns' (F := F) c) pays).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' (F := F) m) :=
  ((bigSep_mono fun c _ => core_alloc m c).trans (bigSep_fupd _ _)).trans (BI.fupd_mono (regroup m))

end Cert.KernelIdealProof

end
-- ==== Proof.KernelIdeal.Run.lean ====
/-
# The run of the kernel

The call on every device, from any memory: all devices end, the result of each is `out3` of what it started with, and the
arguments are unchanged.
-/
module

public import proofs.«01_k».proof.Proof.KernelIdeal.Launch
public import Idealize.ShloMosaic.Lib.Pipeline.Value
public import Idealize.ShloMosaic.Lib.Pipeline.CollectiveSegs

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg) (c : Dev nD)

/-! ## The proof data of the call -/

/-- The two arrays that are fetched from. -/
abbrev hbm : sProp 𝕄 := iprop(whole c main_arg4 (xWq m c) ∗ whole c main_arg7 (xWo m c))
/-- What a device starts the call with, -/
def start : sProp 𝕄 := iprop((∃ K, Pers m K ∗ gear c) ∗ hbm m c)
def Φ₀ : sProp 𝕄 := iprop(start m c ∗ scratch c)
/-- and what it ends it with. -/
def Φ₁ : sProp 𝕄 := iprop(dones c ∗ hbm m c ∗ scratch c)

/-- What a staging buffer holds when the body ends. -/
def left' (w : Fin cfg0.W) : (cfg0.win w).block.Idx → Elt F (cfg0.win w).elt := match w with
  | ⟨0, _⟩ => xX m c
  | ⟨1, _⟩ => xWd m c
  | ⟨2, _⟩ => xWu m c
  | ⟨3, _⟩ => xWv m c
  | ⟨4, _⟩ => xWqr m c
  | ⟨5, _⟩ => xWkr m c
  | ⟨6, _⟩ => out3 m c

def dats (_ : Fin 1) (c : Dev nD) : Dat τ (Elt F) Unit ℕ UU ℕ cfg0 c where
  A w := m ((cfg0.win w).arr.view.loc (c : Thread nD τ))
  after w _ := left' m c w
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A buffer that holds something known. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_whole (b : Ref sig .tc) (X : b.ty.Contents (Elt F)) : stg c b X ⊢ whole c b X := by
  iintro ⟨%f, %h, H⟩
  subst h
  iexact H
theorem whole_stg (b : Ref sig .tc) (X : b.ty.Contents (Elt F)) : whole c b X ⊢ stg c b X := by
  iintro H
  iexists X
  isplitr; · ipureintro; rfl
  iexact H

def bodyPre : sProp 𝕄 :=
  iprop(Φ₀ m c ∗ (dats m 0 c).owesAt () (t0_0 : Fin cfg0.N).castSucc
    ∗ (∃ d, stg c cc0_stg0_0 ((dats m 0 c).before (0 : Fin 7) t0_0 d))
    ∗ (∃ d, stg c cc0_stg1_0 ((dats m 0 c).before (1 : Fin 7) t0_0 d))
    ∗ (∃ d, stg c cc0_stg2_0 ((dats m 0 c).before (2 : Fin 7) t0_0 d))
    ∗ (∃ d, stg c cc0_stg3_0 ((dats m 0 c).before (3 : Fin 7) t0_0 d))
    ∗ (∃ d, stg c cc0_stg4_0 ((dats m 0 c).before (4 : Fin 7) t0_0 d))
    ∗ (∃ d, stg c cc0_stg5_0 ((dats m 0 c).before (5 : Fin 7) t0_0 d))
    ∗ (∃ d, stg c cc0_stg6_0 ((dats m 0 c).before (6 : Fin 7) t0_0 d)))
def bodyPost : sProp 𝕄 :=
  iprop(Φ₁ m c ∗ (dats m 0 c).owesAt () (t0_0 : Fin cfg0.N).succ
    ∗ stg c cc0_stg0_0 (xX m c) ∗ stg c cc0_stg1_0 (xWd m c) ∗ stg c cc0_stg2_0 (xWu m c) ∗ stg c cc0_stg3_0 (xWv m c) ∗ stg c cc0_stg4_0 (xWqr m c)
    ∗ stg c cc0_stg5_0 (xWkr m c) ∗ stg c cc0_stg6_0 (out3 m c))

theorem before_0 (d) : (dats m 0 c).before (0 : Fin 7) t0_0 d = xX m c := by
  unfold Dat.before
  rw [if_pos (fetch0_0 t0_0)]
  rfl
theorem before_1 (d) : (dats m 0 c).before (1 : Fin 7) t0_0 d = xWd m c := by
  unfold Dat.before
  rw [if_pos (fetch0_1 t0_0)]
  rfl
theorem before_2 (d) : (dats m 0 c).before (2 : Fin 7) t0_0 d = xWu m c := by
  unfold Dat.before
  rw [if_pos (fetch0_2 t0_0)]
  rfl
theorem before_3 (d) : (dats m 0 c).before (3 : Fin 7) t0_0 d = xWv m c := by
  unfold Dat.before
  rw [if_pos (fetch0_3 t0_0)]
  rfl
theorem before_4 (d) : (dats m 0 c).before (4 : Fin 7) t0_0 d = xWqr m c := by
  unfold Dat.before
  rw [if_pos (fetch0_4 t0_0)]
  rfl
theorem before_5 (d) : (dats m 0 c).before (5 : Fin 7) t0_0 d = xWkr m c := by
  unfold Dat.before
  rw [if_pos (fetch0_5 t0_0)]
  rfl

set_option maxRecDepth 20000 in
set_option maxHeartbeats 1600000 in
theorem body_sound : bodyPre m c ⊢ Wp c (onCall cc0_body) (fun _ => bodyPost m c) := by
  unfold bodyPre Φ₀ start Dat.owesAt Pipeline.owesWithin
  iintro ⟨⟨⟨⟨%K, #HP, Hg⟩, Hh⟩, Hs⟩, ⟨%W, %hW, HO⟩, ⟨%d0, H0⟩, ⟨%d1, H1⟩, ⟨%d2, H2⟩, ⟨%d3, H3⟩, ⟨%d4, H4⟩, ⟨%d5, H5⟩, ⟨%d6, H6⟩⟩
  rw [before_0, before_1, before_2, before_3, before_4, before_5]
  ihave H0 := (stg_whole c cc0_stg0_0 (xX m c)) $$ H0
  ihave H1 := (stg_whole c cc0_stg1_0 (xWd m c)) $$ H1
  ihave H2 := (stg_whole c cc0_stg2_0 (xWu m c)) $$ H2
  ihave H3 := (stg_whole c cc0_stg3_0 (xWv m c)) $$ H3
  ihave H4 := (stg_whole c cc0_stg4_0 (xWqr m c)) $$ H4
  ihave H5 := (stg_whole c cc0_stg5_0 (xWkr m c)) $$ H5
  ihave H6 := (stg_whole c cc0_stg6_0 _) $$ H6
  ihave H6 := (some_intro (F := F) c cc0_stg6_0 Finset.univ _) $$ H6
  ihave Hs := (mem_split (F := F) c) $$ Hs
  icases Hs with ⟨Hm, Hsp⟩
  ihave Hh := (hbm_split m c) $$ Hh
  icases Hh with ⟨Hh, Hr⟩
  iapply (body_run m K c) $$ [H0 H1 H2 H3 H4 H5 H6 Hm Hh Hg HO]
  · isplitr; · iexact HP
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    isplitl [Hm]; · iexact Hm
    isplitl [Hh]; · iexact Hh
    isplitl [Hg]; · iexact Hg
    unfold owesE
    iexists W
    iexact HO
  iintro ⟨⟨H0, H1, H2, H3, H4, H5⟩, H6, Hm, Hh, Hd, HO⟩
  ihave Hs := (mem_join m c) $$ [Hm Hsp]
  · isplitl [Hm]; · iexact Hm
    iexact Hsp
  ihave Hh := (hbm_join m c) $$ [Hh Hr]
  · isplitl [Hh]; · iexact Hh
    iexact Hr
  unfold bodyPost Φ₁ Dat.owesAt Pipeline.owesWithin
  isplitl [Hd Hh Hs]
  · isplitl [Hd]; · iexact Hd
    isplitl [Hh]; · iexact Hh
    iexact Hs
  isplitl [HO]
  · unfold owesE
    icases HO with ⟨%W', HO⟩
    iexists W'
    isplitr; · ipureintro; exact fun _ _ => Or.inl trivial
    iexact HO
  isplitl [H0]; · iapply (whole_stg c cc0_stg0_0 (xX m c)) $$ H0
  isplitl [H1]; · iapply (whole_stg c cc0_stg1_0 (xWd m c)) $$ H1
  isplitl [H2]; · iapply (whole_stg c cc0_stg2_0 (xWu m c)) $$ H2
  isplitl [H3]; · iapply (whole_stg c cc0_stg3_0 (xWv m c)) $$ H3
  isplitl [H4]; · iapply (whole_stg c cc0_stg4_0 (xWqr m c)) $$ H4
  isplitl [H5]; · iapply (whole_stg c cc0_stg5_0 (xWkr m c)) $$ H5
  iapply (whole_stg c cc0_stg6_0 (out3 m c)) $$ H6

set_option maxRecDepth 20000 in
theorem body_obligation : BodyObligation (dats (F := F) m 0 c) (defs₀ (F := F)) 𝒱₀ () Set.univ := fun t => by
  obtain rfl := fin_N0 t
  rw [bigSep_W0, bigSep_W0]
  simp only [owns_whole_eq]
  exact body_sound m c

/-! ## The launch -/

theorem share_eq (w : Fin cfg0.W) : (dats m 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start records Pers
  iintro ⟨⟨H4, H7⟩, Hlev, Hcr, -, ⟨%K, ⟨HI, HR⟩, Ho, Hp⟩⟩
  ihave Hg := (gear_intro (F := F) c) $$ [Ho Hp Hcr]
  · isplitl [Ho]; · iexact Ho
    isplitl [Hp]; · iexact Hp
    iexact Hcr
  imodintro
  isplitl
  · isplitr [H4 H7]
    · iexists K
      isplitr [Hg]
      · isplitr [Hlev]
        · iapply (Entails.of_eq (bigSep_sep' Finset.univ (fun ck : Dev nD × Cel => (cellInv ER (Rd m) (K ck) (cell ck.1 ck.2) : sProp 𝕄)) (fun ck => reached ER (cell ck.1 ck.2) 0)).symm)
          isplitl [HI]; · iexact HI
          iexact HR
        iexact Hlev
      iexact Hg
    isplitl [H4]; · iexact H4
    iexact H7
  iempintro

theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit :
    (dats m 0 c).Φ (Fin.last cfg0.N) ⊢ iprop((unscopedSems0 c ∗ hbm m c) ∗ Pipeline.ownSems0 osem c ∗ Pipeline.scopedRest cfg0.spec c) := by
  rw [show (dats m 0 c).Φ (Fin.last cfg0.N) = Φ₁ m c from rfl, scopedRest0_eq]
  unfold Φ₁
  iintro ⟨Hd, Hh, Hs⟩
  ihave Hd := (dones_flat (F := F) c) $$ Hd
  ihave Hd := (Entails.of_eq (sems0_eq (F := F) c).symm) $$ Hd
  icases Hd with ⟨Hu, Ho⟩
  isplitl [Hu Hh]
  · isplitl [Hu]; · iexact Hu
    iexact Hh
  isplitl [Ho]; · iexact Ho
  iexact Hs

theorem stage_lvl (w : Fin cfg0.W) (s : Fin (cfg0.win w).nbuf) : lv ((c : Thread nD τ), .dma ((cfg0.win w).sem s)) () ≤ 0 := by
  have h : celOf (.dma ((cfg0.win w).sem s)) = none := by
    have hn : ∀ (w : Fin cfg0.W) (s : Fin (cfg0.win w).nbuf) (k : Cel), semOf k ≠ .dma ((cfg0.win w).sem s) := by decide +kernel
    cases e : celOf (.dma ((cfg0.win w).sem s)) with
    | none => rfl
    | some k => exact absurd (semOf_celOf e) (hn w s k)
  unfold lv
  simp only [h]
  exact le_refl 0

theorem debts_lvl : ∀ x ∈ debts c, 0 < lvl x.2 := by revert c; decide +kernel

theorem waits : (levAts L lv : sProp 𝕄) ⊢ Pipeline.cellsWaits cfgs (dats m) () 0 c :=
  Pipeline.cellsWaits_intro cfgs (dats m) () 0 c fun w s t => by
    rcases t with ⟨_ | _, ht⟩
    · exact mayWait_lvl c _ 0 (debts c) (stage_lvl c w s) (debts_lvl c)
    · exact mayWait_lvl c _ 0 [] (stage_lvl c w s) (fun _ h => absurd h List.not_mem_nil)

/-! ## The run -/

/-- What the memory holds when all devices have ended. -/
def Ends (s : MemSt nD τ sig (Elt F)) : Prop :=
  ∀ c : Dev nD, (∀ w : Fin cfg0.W, s.mem ((cfg0.win w).arr.view.loc (c : Thread nD τ)) = (dats m 0 c).arrAt w cfg0.N)
    ∧ s.mem ((c : Thread nD τ).loc main_arg4) = xWq m c ∧ s.mem ((c : Thread nD τ).loc main_arg7) = xWo m c

theorem read_whole' (b : Ref sig .tc) (X : b.ty.Contents (Elt F)) (s' : Phys nD τ sig (Elt F)) :
    iprop(whole c b X ∗ SI s') ⊢ (iprop(⌜s'.mem.mem ((c : Thread nD τ).loc b) = X⌝ ∗ SI s') : sProp 𝕄) := by
  iintro ⟨Hi, HSI⟩
  icombine HSI Hi gives %h
  isplitr
  · ipureintro
    exact Buf.eq_of_forall_mem_univ h
  iexact HSI

set_option maxRecDepth 8000 in
theorem run_main : θ_run defs (onTc (τ := τ) (main (F := F))) ⟨m, fun _ => 0, ρ⟩ (fun r => Ends m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ hbm m c)) (Z := fun _ => iprop(emp))
    (hX := start_intro m ρ) (hin := phi0_intro m) (hout := phi1_exit m)
    (QY := fun c s => (s.mem ((c : Thread nD τ).loc main_arg4) = xWq m c ∧ s.mem ((c : Thread nD τ).loc main_arg7) = xWo m c)
      ∧ ∀ sm : SemLoc sig, sm.isScoped .tc = false → s.sem ((c.tc : Thread nD τ), sm) = 0)
    (hY := fun c s' => by
      iintro ⟨⟨Hu, H4, H7⟩, -, HSI⟩
      ihave H := (read_whole' c main_arg4 (xWq m c) s') $$ [H4 HSI]
      · isplitl [H4] <;> iassumption
      icases H with ⟨%h4, HSI⟩
      ihave H := (read_whole' c main_arg7 (xWo m c) s') $$ [H7 HSI]
      · isplitl [H7] <;> iassumption
      icases H with ⟨%h7, HSI⟩
      imod (Pipeline.unscopedSems0_read (X := unscopedSems0 c) (c := c) fupd_intro s') $$ [Hu HSI] with ⟨%hs, HSI⟩
      · isplitl [Hu] <;> iassumption
      imodintro
      isplitr; · ipureintro; exact ⟨⟨h4, h7⟩, hs⟩
      iexact HSI)
    (hQ := fun _ h hs => ⟨fun c => ⟨fun w => (h c).1 w, (h c).2.2.1⟩, sem_eq_zero hs fun c => (h c).2.2.2⟩)

/-! ## What the arrays hold -/

theorem out_flushed (t : Fin cfg0.N) : (dats m 0 c).flushed 6 t = ((cfg0.win 6).blk t).view.read (Elt F) (out3 m c) := by
  obtain rfl := fin_N0 t
  unfold Pipeline.Dat.flushed
  rw [show (dats m 0 c).after 6 t0_0 = out3 m c from rfl]
  funext i
  exact congrArg (out3 m c) (funext fun a => Fin.ext
    (Pipeline.Window.rect_emb_val_of_index_zero (cfg0.win 6) t0_0 a rfl i).symm)

theorem out_cover (i : S1x1024x2048.Idx) : ∃ t : Fin cfg0.N, (cfg0.win 6).flush t = true ∧ i ∈ ((cfg0.win 6).blk t).view.set := by
  have h0 : (i 0 : Nat) < 1 := (i 0).isLt
  have h1 : (i 1 : Nat) < 1024 := (i 1).isLt
  have h2 : (i 2 : Nat) < 2048 := (i 2).isLt
  refine ⟨t0_0, flush0_6 _, ?_⟩
  show i ∈ ((View.whole main_v1).slice (win0_6.rect t0_0)).set
  rw [View.set_slice_whole, Rect.mem_set_unit]
  intro a
  match a with
  | 0 => exact (show 0 ≤ (i 0).val ∧ (i 0).val < 0 + 1 from by omega)
  | 1 => exact (show 0 ≤ (i 1).val ∧ (i 1).val < 0 + 1024 from by omega)
  | 2 => exact (show 0 ≤ (i 2).val ∧ (i 2).val < 0 + 2048 from by omega)

theorem out_arr : (dats m 0 c).arrAt 6 cfg0.N = out3 m c :=
  (dats m 0 c).arrAt_eq_of_cover 6 (out3 m c) (fun t _ => out_flushed m c t) out_cover

/-- The kernel, from any memory: the arguments are unchanged and the result of every device is `out3` of what it started with. -/
theorem kernel_run : θ_run defs (onTc (τ := τ) (main (F := F))) ⟨m, fun _ => 0, ρ⟩ (fun r => (∀ c : Dev nD,
      r.2.mem ((c : Thread nD τ).loc main_v1) = out3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) ∧ r.2.sem = fun _ => 0) :=
  (θ_run defs _ _).mono (fun _ h => ⟨fun c => ⟨((h.1 c).1 6).trans (out_arr m c),
    ((h.1 c).1 0).trans ((dats m 0 c).arrAt_in 0 rfl _), ((h.1 c).1 1).trans ((dats m 0 c).arrAt_in 1 rfl _),
    ((h.1 c).1 2).trans ((dats m 0 c).arrAt_in 2 rfl _), ((h.1 c).1 3).trans ((dats m 0 c).arrAt_in 3 rfl _),
    (h.1 c).2.1, ((h.1 c).1 4).trans ((dats m 0 c).arrAt_in 4 rfl _), ((h.1 c).1 5).trans ((dats m 0 c).arrAt_in 5 rfl _),
    (h.1 c).2.2⟩, h.2⟩) (run_main m ρ)

end Cert.KernelIdealProof

end
-- ==== Proof.Frames.lean ====
/- # The programs run

Each program ends from any memory without a fault, with its arguments unchanged and every semaphore counter at zero. -/
module

public import proofs.«01_k».proof.Defs
public import proofs.«01_k».proof.Proof.Same
public import proofs.«01_k».proof.Proof.KernelIdeal.Run
public import proofs.«01_k».proof.Proof.Gen.ReferenceIdeal.Run

@[expose] public section

noncomputable section

namespace Cert.Frames

open Idealize.ShloMosaic Idealize.SL.Sem

theorem kernel : quiescent_Kernel (hKernel := Cert.Kernel.Gen.facts) := fun m g _ => by
  rw [Cert.Same.defs_same]
  exact (θ_run Cert.KernelIdeal.defs _ _).mono (fun _ h => ⟨fun c => (h.1 c).2, h.2⟩) (Cert.KernelIdealProof.kernel_run (F := Bits) m g)

theorem kernelIdeal : quiescent_KernelIdeal (hKernelIdeal := Cert.KernelIdeal.Gen.facts) := fun m g _ =>
  (θ_run Cert.KernelIdeal.defs _ _).mono (fun _ h => ⟨fun c => (h.1 c).2, h.2⟩) (Cert.KernelIdealProof.kernel_run (F := Ideal) m g)

theorem referenceIdeal : quiescent_ReferenceIdeal (hReferenceIdeal := Cert.ReferenceIdeal.Gen.facts) := fun m g _ =>
  (θ_run Cert.ReferenceIdeal.defs _ _).mono (fun r h => ⟨fun c => (h c).2, Idealize.ShloMosaic.sem_eq_zero_of_no_sems (by decide) r.2⟩)
    (Cert.ReferenceIdeal.Value.run m g)

end Cert.Frames

end
-- ==== Proof.Finite.lean ====
/- # The precondition read

Where the test of finiteness gives one, every entry of every array tested is a real number. -/
module

public import Idealize.ShloMosaic.Lib.ReduceAll
public import Idealize.ShloMosaic.PureOps.Ideal
public import proofs.«01_k».proof.Proof.Gen.Pre_finite_inputs_KernelIdeal

@[expose] public section

noncomputable section

namespace Cert.Finite

open Idealize.ShloMosaic Cert.Pre_finite_inputs_KernelIdeal

/-- Every entry is a real number. -/
def AllReal {s : Shape} (x : FVec Ideal s .f32) : Prop := ∀ i, ∃ r : ℝ, (x i : EReal) = (r : EReal)

theorem inf_word : Ideal.ofBits .f32 0x7F800000#32 = (⊤ : EReal) := by simp [Ideal.ofBits, Ideal.ieee]

theorem scale_word : ∃ r : ℝ, Ideal.ofBits .f32 0x3DA1E89B#32 = (r : EReal) := by
  show ∃ r : ℝ, Ideal.ieee 8 23 (0x3DA1E89B#32) = (r : EReal)
  unfold Ideal.ieee
  simp only []
  rw [if_neg (by decide), if_neg (by decide)]
  exact ⟨_, rfl⟩

/-- A number below infinity in size is a real number. -/
theorem real_of_lt {a : EReal} (h : max a (-a) < ⊤) : ∃ r : ℝ, a = (r : EReal) := by
  induction a with
  | bot => simp at h
  | top => simp at h
  | coe r => exact ⟨r, rfl⟩

instance : Subsingleton S_.Idx := ⟨fun a b => funext fun i => i.elim0⟩

/-- One array's test. -/
theorem real_of_test {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant S_ .f32 0x7F800000#32))) (constantI S_ 1 1#1) h hu j = 1#1) : AllReal x := by
  intro i
  have h1 := Host.reduce_andi_all _ _ h hu j e i
  have h2 : Ideal.cmp .olt (max (x i : EReal) (-(x i : EReal))) (Ideal.ofBits .f32 0x7F800000#32) = 1#1 := h1
  rw [inf_word] at h2
  refine real_of_lt ?_
  by_contra hn
  have h3 : BitVec.ofBool (decide (max (x i : EReal) (-(x i : EReal)) < ⊤)) = 1#1 := h2
  rw [decide_eq_false hn] at h3
  exact absurd h3 (by decide)

theorem both {a b : IVec S_ 1} {j : S_.Idx} (h : andi a b j = 1#1) : a j = 1#1 ∧ b j = 1#1 := IntOp.andi_eq_one.1 h

variable [Facts]

/-- The whole test. -/
theorem real_of_fn {a0 : FVec Ideal S1x1024x2048 .f32} {a1 : FVec Ideal S2048x128 .f32} {a2 a3 : FVec Ideal S128x2048 .f32}
    {a4 : FVec Ideal S2048x2048 .f32} {a5 : FVec Ideal S2048x512 .f32} {a6 : FVec Ideal S2048x32 .f32} {a7 : FVec Ideal S2048x2048 .f32}
    (h : fn (F := Ideal) a0 a1 a2 a3 a4 a5 a6 a7 = fun _ => 1#1) :
    AllReal a0 ∧ AllReal a1 ∧ AllReal a2 ∧ AllReal a4 ∧ AllReal a5 ∧ AllReal a6 := by
  have h := congrFun h (fun i => i.elim0)
  unfold fn fn_part1 at h
  obtain ⟨h, h6⟩ := both h
  obtain ⟨h, h5⟩ := both h
  obtain ⟨h, h4⟩ := both h
  obtain ⟨h, h2⟩ := both h
  obtain ⟨h0, h1⟩ := both h
  exact ⟨real_of_test _ _ _ _ _ h0, real_of_test _ _ _ _ _ h1, real_of_test _ _ _ _ _ h2,
    real_of_test _ _ _ _ _ h4, real_of_test _ _ _ _ _ h5, real_of_test _ _ _ _ _ h6⟩

end Cert.Finite

end
-- ==== Proof.Maths.lean ====
/- # Latent attention over the real numbers

What the layer computes, written with sums of real numbers, and the few facts that carry it to the extended reals. -/
module

public import Idealize.ShloMosaic.PureOps.Ideal
public import Idealize.ShloMosaic.Lib.Pointwise

@[expose] public section

noncomputable section

namespace Cert.Maths

open Idealize.ShloMosaic
open scoped BigOperators

/-! ## From the reals to the extended reals -/

theorem sum_coe {ι : Type} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

/-- A product of rows of real numbers is a real number. -/
theorem dot_coe {n : ℕ} {a b : Fin n → EReal} {x y : Fin n → ℝ} (ha : ∀ k, a k = (x k : EReal)) (hb : ∀ k, b k = (y k : EReal)) :
    ∑ k, a k * b k = ((∑ k, x k * y k : ℝ) : EReal) := by
  rw [← sum_coe]
  exact Finset.sum_congr rfl fun k _ => by rw [ha, hb, EReal.coe_mul]

/-- The same where one row may hold infinities. -/
theorem dot_eq {n : ℕ} {a b : Fin n → EReal} {x y : Fin n → EReal} (ha : ∀ k, a k = x k) (hb : ∀ k, b k = y k) :
    ∑ k, a k * b k = ∑ k, x k * y k :=
  Finset.sum_congr rfl fun k _ => by rw [ha, hb]

/-- A factor that is a real number and not negative goes into a sum of extended reals. -/
theorem sum_mul_coe {ι : Type} (s : Finset ι) (f : ι → EReal) {b : ℝ} (hb : 0 ≤ b) : (∑ k ∈ s, f k) * (b : EReal) = ∑ k ∈ s, f k * (b : EReal) := by
  classical
  induction s using Finset.induction_on with
  | empty => simp
  | insert a s h ih =>
    rw [Finset.sum_insert h, Finset.sum_insert h, ← ih,
      EReal.right_distrib_of_nonneg_of_ne_top (by exact_mod_cast hb) (EReal.coe_ne_top b)]

theorem sum_coe' {n : ℕ} {a : Fin n → EReal} {x : Fin n → ℝ} (ha : ∀ k, a k = (x k : EReal)) :
    ∑ k, a k = ((∑ k, x k : ℝ) : EReal) := by
  rw [← sum_coe]
  exact Finset.sum_congr rfl fun k _ => ha k

theorem add_coe {a b : EReal} {x y : ℝ} (ha : a = (x : EReal)) (hb : b = (y : EReal)) : a + b = ((x + y : ℝ) : EReal) := by
  rw [ha, hb, EReal.coe_add]
theorem mul_coe {a b : EReal} {x y : ℝ} (ha : a = (x : EReal)) (hb : b = (y : EReal)) : a * b = ((x * y : ℝ) : EReal) := by
  rw [ha, hb, EReal.coe_mul]
theorem sub_coe {a b : EReal} {x y : ℝ} (ha : a = (x : EReal)) (hb : b = (y : EReal)) : a - b = ((x - y : ℝ) : EReal) := by
  rw [ha, hb, EReal.coe_sub]
theorem exp_coe {a : EReal} {x : ℝ} (ha : a = (x : EReal)) : Ideal.exp a = ((Real.exp x : ℝ) : EReal) := by
  rw [ha]; rfl
theorem div_coe {a b : EReal} {x y : ℝ} (ha : a = (x : EReal)) (hb : b = (y : EReal)) (hy : y ≠ 0) :
    Ideal.div a b = ((x / y : ℝ) : EReal) := by
  rw [ha, hb]
  unfold Ideal.div
  rw [if_neg (by exact_mod_cast hy), div_eq_mul_inv, EReal.coe_mul, EReal.coe_inv]

/-- Division by a real number other than zero. -/
theorem div_real {a b : EReal} {y : ℝ} (hb : b = (y : EReal)) (hy : y ≠ 0) : Ideal.div a b = a * ((y⁻¹ : ℝ) : EReal) := by
  rw [hb]
  unfold Ideal.div
  rw [if_neg (by exact_mod_cast hy), EReal.coe_inv]

/-- The largest of finitely many real numbers, and of minus infinity, is a real number. -/
theorem max_coe {n : ℕ} (hn : 0 < n) {a : Fin n → EReal} {x : Fin n → ℝ} (ha : ∀ k, a k = (x k : EReal)) :
    ∃ M : ℝ, Finset.univ.fold max (⊥ : EReal) a = (M : EReal) := by
  classical
  have h : ∀ s : Finset (Fin n), (s.fold max (⊥ : EReal) a = ⊥ ∧ s = ∅) ∨ ∃ M : ℝ, s.fold max (⊥ : EReal) a = (M : EReal) := by
    intro s
    induction s using Finset.induction_on with
    | empty => exact Or.inl ⟨Finset.fold_empty, rfl⟩
    | insert k s hk ih =>
      refine Or.inr ?_
      rw [Finset.fold_insert hk]
      rcases ih with ⟨h, -⟩ | ⟨M, h⟩
      · exact ⟨x k, by rw [h, ha, max_eq_left bot_le]⟩
      · exact ⟨max (x k) M, by rw [h, ha]; exact (EReal.coe_strictMono.monotone.map_max).symm⟩
  rcases h Finset.univ with ⟨-, h⟩ | h
  · exact absurd (Finset.mem_univ (⟨0, hn⟩ : Fin n)) (by rw [h]; exact Finset.notMem_empty _)
  · exact h

/-! ## The layer -/

/-- The arrays of the layer: real numbers, but for the last two, which may hold infinities. -/
structure In where
  X : Fin 1024 → Fin 2048 → ℝ
  Wd : Fin 2048 → Fin 512 → ℝ
  Wu : Fin 512 → Fin 2048 → ℝ
  Wv : Fin 512 → Fin 2048 → EReal
  Wq : Fin 2048 → Fin 2048 → ℝ
  Wqr : Fin 2048 → Fin 512 → ℝ
  Wkr : Fin 2048 → Fin 32 → ℝ
  Wo : Fin 2048 → Fin 2048 → EReal
  /-- The factor of the scores. -/
  σ : ℝ

/-- Column `e` of head `h`, -/
abbrev hd (h : Fin 16) (e : Fin 128) : Fin 2048 := ⟨h.val * 128 + e.val, by omega⟩
/-- of its rotary part. -/
abbrev rt (h : Fin 16) (r : Fin 32) : Fin 512 := ⟨h.val * 32 + r.val, by omega⟩

/-- Place `k` of block `z` of the latent axis, -/
abbrev blk (z : Fin 4) (k : Fin 128) : Fin 512 := ⟨z.val * 128 + k.val, by omega⟩
/-- column `n` of head quarter `q`, -/
abbrev hcol (q : Fin 4) (n : Fin 512) : Fin 2048 := ⟨512 * q.val + n.val, by omega⟩
/-- of its rotary part, -/
abbrev rcol (q : Fin 4) (n : Fin 128) : Fin 512 := ⟨128 * q.val + n.val, by omega⟩
/-- and head `j` of the quarter. -/
abbrev gh (q j : Fin 4) : Fin 16 := ⟨4 * q.val + j.val, by omega⟩

theorem sum_blk {M : Type} [AddCommMonoid M] (f : Fin 512 → M) : ∑ k, f k = ∑ z : Fin 4, ∑ k : Fin 128, f (blk z k) := by
  rw [← Fintype.sum_prod_type' (fun z k => f (blk z k))]
  refine (Fintype.sum_equiv (finProdFinEquiv (m := 4) (n := 128)) _ _ fun p => congrArg f (Fin.ext ?_)).symm
  show p.1.val * 128 + p.2.val = p.2.val + 128 * p.1.val
  omega

theorem sum_hcol {M : Type} [AddCommMonoid M] (f : Fin 2048 → M) : ∑ k, f k = ∑ q : Fin 4, ∑ n : Fin 512, f (hcol q n) := by
  rw [← Fintype.sum_prod_type' (fun q n => f (hcol q n))]
  refine (Fintype.sum_equiv (finProdFinEquiv (m := 4) (n := 512)) _ _ fun p => congrArg f (Fin.ext ?_)).symm
  show 512 * p.1.val + p.2.val = p.2.val + 512 * p.1.val
  omega

/-- A sum over the four places of a ring may begin at any place and go backwards, -/
theorem sum_ring {M : Type} [AddCommMonoid M] (g : Fin 4 → M) (z : Fin 4) : g z + g (z + 3) + g (z + 2) + g (z + 1) = ∑ y, g y := by
  rw [Fin.sum_univ_four]
  fin_cases z
  · show g 0 + g 3 + g 2 + g 1 = _; abel
  · show g 1 + g 0 + g 3 + g 2 = _; abel
  · show g 2 + g 1 + g 0 + g 3 = _; abel
  · show g 3 + g 2 + g 1 + g 0 = _; abel

namespace In

variable (I : In)

/-- The latent vectors, -/
def lat (s : Fin 1024) (k : Fin 512) : ℝ := ∑ d, I.X s d * I.Wd d k
/-- the keys and values made of them, -/
def key (s : Fin 1024) (n : Fin 2048) : ℝ := ∑ k, I.lat s k * I.Wu k n
def val (s : Fin 1024) (n : Fin 2048) : EReal := ∑ k, (I.lat s k : EReal) * I.Wv k n
/-- the queries, and the rotary queries and keys. -/
def qry (s : Fin 1024) (n : Fin 2048) : ℝ := ∑ d, I.X s d * I.Wq d n
def qrot (s : Fin 1024) (n : Fin 512) : ℝ := ∑ d, I.X s d * I.Wqr d n
def krot (s : Fin 1024) (r : Fin 32) : ℝ := ∑ d, I.X s d * I.Wkr d r

/-- The score of position `t` for position `s` at head `h`, -/
def score (h : Fin 16) (s t : Fin 1024) : ℝ :=
  (∑ e, I.qry s (hd h e) * I.key t (hd h e) + ∑ r, I.qrot s (rt h r) * I.krot t r) * I.σ
/-- the sum of the weights of a position, -/
def den (h : Fin 16) (s : Fin 1024) : ℝ := ∑ t, Real.exp (I.score h s t)
/-- what the head gives the position, -/
def att (h : Fin 16) (s : Fin 1024) (e : Fin 128) : EReal :=
  (∑ t, (Real.exp (I.score h s t) : EReal) * I.val t (hd h e)) * (((I.den h s)⁻¹ : ℝ) : EReal)
/-- and the result. -/
def out (s : Fin 1024) (n : Fin 2048) : EReal :=
  ∑ k : Fin 2048, I.att ⟨k.val / 128, by omega⟩ s ⟨k.val % 128, by omega⟩ * I.Wo k n

theorem den_pos (h : Fin 16) (s : Fin 1024) : 0 < I.den h s :=
  Finset.sum_pos (fun t _ => Real.exp_pos _) ⟨0, Finset.mem_univ _⟩

/-- Taking the same number off every score changes nothing. -/
theorem att_shift (h : Fin 16) (s : Fin 1024) (e : Fin 128) (M : ℝ) :
    ∑ t, I.val t (hd h e) * ((Real.exp (I.score h s t - M) / ∑ u, Real.exp (I.score h s u - M) : ℝ) : EReal) = I.att h s e := by
  have hs : ∑ u, Real.exp (I.score h s u - M) = I.den h s * Real.exp (-M) := by
    unfold den
    rw [Finset.sum_mul]
    exact Finset.sum_congr rfl fun t _ => by rw [sub_eq_add_neg, Real.exp_add]
  unfold att
  rw [hs, sum_mul_coe _ _ (inv_nonneg.2 (I.den_pos h s).le)]
  refine Finset.sum_congr rfl fun t _ => ?_
  rw [sub_eq_add_neg, Real.exp_add, mul_div_mul_right _ _ (Real.exp_pos _).ne', div_eq_mul_inv, EReal.coe_mul, ← mul_assoc,
    mul_comm (I.val t (hd h e))]

/-- The queries of the kernel carry the factor already. -/
theorem score_scaled (h : Fin 16) (s t : Fin 1024) :
    ∑ e, I.qry s (hd h e) * I.σ * I.key t (hd h e) + ∑ r, I.qrot s (rt h r) * I.σ * I.krot t r = I.score h s t := by
  unfold score
  rw [add_mul, Finset.sum_mul, Finset.sum_mul]
  exact congrArg₂ (· + ·) (Finset.sum_congr rfl fun _ _ => by ring) (Finset.sum_congr rfl fun _ _ => by ring)

/-- What head quarter `q` adds to the result. -/
def part (q : Fin 4) (s : Fin 1024) (n : Fin 2048) : EReal :=
  ∑ k : Fin 512, I.att (gh q ⟨k.val / 128, by omega⟩) s ⟨k.val % 128, by omega⟩ * I.Wo (hcol q k) n

theorem out_parts (s : Fin 1024) (n : Fin 2048) : I.out s n = ∑ q, I.part q s n := by
  unfold out part
  rw [sum_hcol]
  refine Finset.sum_congr rfl fun q _ => Finset.sum_congr rfl fun k _ => ?_
  have h1 : (⟨(hcol q k).val / 128, by omega⟩ : Fin 16) = gh q ⟨k.val / 128, by omega⟩ := Fin.ext (by show (512 * q.val + k.val) / 128 = 4 * q.val + k.val / 128; omega)
  have h2 : (⟨(hcol q k).val % 128, by omega⟩ : Fin 128) = ⟨k.val % 128, by omega⟩ := Fin.ext (by show (512 * q.val + k.val) % 128 = k.val % 128; omega)
  rw [h1, h2]

/-- What block `z` of the latent axis adds to a key, -/
def keyPart (z : Fin 4) (s : Fin 1024) (n : Fin 2048) : ℝ := ∑ k : Fin 128, I.lat s (blk z k) * I.Wu (blk z k) n
/-- and to a value. -/
def valPart (z : Fin 4) (s : Fin 1024) (n : Fin 2048) : EReal := ∑ k : Fin 128, (I.lat s (blk z k) : EReal) * I.Wv (blk z k) n

theorem key_parts (s : Fin 1024) (n : Fin 2048) : I.key s n = ∑ z, I.keyPart z s n := sum_blk _
theorem val_parts (s : Fin 1024) (n : Fin 2048) : I.val s n = ∑ z, I.valPart z s n := sum_blk _

end In

end Cert.Maths

end
-- ==== Proof.Ref.lean ====
/- # What the reference computes

The reference's result, read entry by entry: the layer of `Cert.Maths`. -/
module

public import Idealize.ShloMosaic.Lib.Pointwise
public import proofs.«01_k».proof.Proof.Maths
public import proofs.«01_k».proof.Proof.Gen.ReferenceIdeal.Run

@[expose] public section

set_option maxRecDepth 16384

noncomputable section

namespace Cert.RefValue

open Idealize.ShloMosaic
open Cert.ReferenceIdeal Cert.ReferenceIdeal.Gen Cert.Maths
open scoped BigOperators

abbrev Vec (s : Shape) := FVec Ideal s .f32

/-! ## The stages -/

def rLat (x : Vec S1x1024x2048) (wd : Vec S2048x512) : Vec S1x1024x512 :=
  Host.dotGeneral dot_S1x1024x2048_S2048x512_S1x1024x512_2_0_01_1_n_n none x wd

def rUp (c : Vec S1x1024x512) (wu : Vec S512x2048) : Vec S1x1024x16x128 :=
  shapeCast _ (Host.dotGeneral dot_S1x1024x512_S512x2048_S1x1024x2048_2_0_01_1_n_n none c wu) shapeCasts_S1x1024x2048_S1x1024x16x128

def rQ (x : Vec S1x1024x2048) (wq : Vec S2048x2048) : Vec S1x1024x16x128 :=
  shapeCast _ (Host.dotGeneral dot_S1x1024x2048_S2048x2048_S1x1024x2048_2_0_01_1_n_n none x wq) shapeCasts_S1x1024x2048_S1x1024x16x128

def rQr (x : Vec S1x1024x2048) (wqr : Vec S2048x512) : Vec S1x1024x16x32 :=
  shapeCast _ (Host.dotGeneral dot_S1x1024x2048_S2048x512_S1x1024x512_2_0_01_1_n_n none x wqr) shapeCasts_S1x1024x512_S1x1024x16x32

def rKr (x : Vec S1x1024x2048) (wkr : Vec S2048x32) : Vec S1x1024x16x32 :=
  broadcastInDim S1x1024x16x32 ![0, 1, 2, 3] bcast_S1x1024x1x32_S1x1024x16x32_0_1_2_3
    (shapeCast _ (Host.dotGeneral dot_S1x1024x2048_S2048x32_S1x1024x32_2_0_01_1_n_n none x wkr) shapeCasts_S1x1024x32_S1x1024x1x32)

def rSc (q k : Vec S1x1024x16x128) (qr kr : Vec S1x1024x16x32) : Vec S1x16x1024x1024 :=
  mulf (addf (Host.dotGeneral dot_S1x1024x16x128_S1x1024x16x128_S1x16x1024x1024_3_3_1_1_02_02 none q k)
      (Host.dotGeneral dot_S1x1024x16x32_S1x1024x16x32_S1x16x1024x1024_3_3_1_1_02_02 none qr kr))
    (broadcastInDim S1x16x1024x1024 ![] bcast_S_S1x16x1024x1024 (constant S_ .f32 0x3DA1E89B#32))

def rMax (sc : Vec S1x16x1024x1024) : Vec S1x16x1024 :=
  Host.reduce FloatOps.maximumf sc (constant S_ .f32 0xFF800000#32) reducesTo_S1x16x1024x1024_S1x16x1024_d3 h_S_

def rWide (a : Vec S1x16x1024) : Vec S1x16x1024x1024 :=
  broadcastInDim S1x16x1024x1024 ![0, 1, 2, 3] bcast_S1x16x1024x1_S1x16x1024x1024_0_1_2_3
    (broadcastInDim S1x16x1024x1 ![0, 1, 2] bcast_S1x16x1024_S1x16x1024x1_0_1_2 a)

def rExp (sc : Vec S1x16x1024x1024) (mx : Vec S1x16x1024) : Vec S1x16x1024x1024 := Host.exp (subf sc (rWide mx))

def rSum (e : Vec S1x16x1024x1024) : Vec S1x16x1024 :=
  Host.reduceAdd e (constant S_ .f32 0x00000000#32) reducesTo_S1x16x1024x1024_S1x16x1024_d3 h_S_

def rP (e : Vec S1x16x1024x1024) (d : Vec S1x16x1024) : Vec S1x16x1024x1024 := Host.divf e (rWide d)

def rAtt (v : Vec S1x1024x16x128) (p : Vec S1x16x1024x1024) : Vec S1x1024x2048 :=
  shapeCast _ (transpose S1x1024x16x128 [0, 3, 1, 2]
    (Host.dotGeneral dot_S1x1024x16x128_S1x16x1024x1024_S1x16x128x1024_1_3_3_2_02_01 none v p) transposes_S1x16x128x1024_S1x1024x16x128_0_3_1_2)
    shapeCasts_S1x1024x16x128_S1x1024x2048

def rOut (o : Vec S1x1024x2048) (wo : Vec S2048x2048) : Vec S1x1024x2048 :=
  Host.dotGeneral dot_S1x1024x2048_S2048x2048_S1x1024x2048_2_0_01_1_n_n none o wo

set_option maxHeartbeats 2000000 in
/-- The reference's result by stages. -/
theorem res_stages (m : (ℓ : Loc nD τ sig) → Buf (Elt Ideal) ℓ) (c : Dev nD) :
    Value.res_main_v29 (F := Ideal) m c
      = (let x := m (c.tc.loc main_arg0)
         let l := rLat x (m (c.tc.loc main_arg1))
         let sc := rSc (rQ x (m (c.tc.loc main_arg4))) (rUp l (m (c.tc.loc main_arg2))) (rQr x (m (c.tc.loc main_arg5))) (rKr x (m (c.tc.loc main_arg6)))
         let e := rExp sc (rMax sc)
         rOut (rAtt (rUp l (m (c.tc.loc main_arg3))) (rP e (rSum e))) (m (c.tc.loc main_arg7))) := by
  unfold Value.res_main_v29
  rfl

/-! ## The stages at an entry -/

variable {I : In}

theorem rLat_at {x : Vec S1x1024x2048} {wd : Vec S2048x512} (hx : ∀ s d, x (ix3 0 s d) = (I.X s d : EReal))
    (hw : ∀ d k, wd (ix2 d k) = (I.Wd d k : EReal)) (s : Fin 1024) (k : Fin 512) : rLat x wd (ix3 0 s k) = (I.lat s k : EReal) := by
  pointwise [rLat]
  exact dot_coe (fun d => hx s d) (fun d => hw d k)

theorem rUp_at {l : Vec S1x1024x512} {w : Vec S512x2048} {L : Fin 1024 → Fin 512 → ℝ} {W : Fin 512 → Fin 2048 → ℝ}
    (hl : ∀ s k, l (ix3 0 s k) = (L s k : EReal)) (hw : ∀ k n, w (ix2 k n) = (W k n : EReal)) (s : Fin 1024) (h : Fin 16) (e : Fin 128) :
    rUp l w (ix4 0 s h e) = ((∑ k, L s k * W k (hd h e) : ℝ) : EReal) := by
  pointwise [rUp]
  exact dot_coe (fun k => hl s k) (fun k => hw k _)

theorem rUpV_at {l : Vec S1x1024x512} {w : Vec S512x2048} (hl : ∀ s k, l (ix3 0 s k) = (I.lat s k : EReal))
    (hw : ∀ k n, w (ix2 k n) = I.Wv k n) (s : Fin 1024) (h : Fin 16) (e : Fin 128) : rUp l w (ix4 0 s h e) = I.val s (hd h e) := by
  pointwise [rUp]
  exact dot_eq (fun k => hl s k) (fun k => hw k _)

theorem rQ_at {x : Vec S1x1024x2048} {w : Vec S2048x2048} (hx : ∀ s d, x (ix3 0 s d) = (I.X s d : EReal))
    (hw : ∀ d k, w (ix2 d k) = (I.Wq d k : EReal)) (s : Fin 1024) (h : Fin 16) (e : Fin 128) :
    rQ x w (ix4 0 s h e) = (I.qry s (hd h e) : EReal) := by
  pointwise [rQ]
  exact dot_coe (fun d => hx s d) (fun d => hw d _)

theorem rQr_at {x : Vec S1x1024x2048} {w : Vec S2048x512} (hx : ∀ s d, x (ix3 0 s d) = (I.X s d : EReal))
    (hw : ∀ d k, w (ix2 d k) = (I.Wqr d k : EReal)) (s : Fin 1024) (h : Fin 16) (r : Fin 32) :
    rQr x w (ix4 0 s h r) = (I.qrot s (rt h r) : EReal) := by
  pointwise [rQr]
  exact dot_coe (fun d => hx s d) (fun d => hw d _)

theorem rKr_at {x : Vec S1x1024x2048} {w : Vec S2048x32} (hx : ∀ s d, x (ix3 0 s d) = (I.X s d : EReal))
    (hw : ∀ d k, w (ix2 d k) = (I.Wkr d k : EReal)) (s : Fin 1024) (h : Fin 16) (r : Fin 32) :
    rKr x w (ix4 0 s h r) = (I.krot s r : EReal) := by
  pointwise [rKr]
  exact dot_coe (fun d => hx s d) (fun d => hw d _)

theorem rSc_at {q k : Vec S1x1024x16x128} {qr kr : Vec S1x1024x16x32} (hσ : Ideal.ofBits .f32 0x3DA1E89B#32 = (I.σ : EReal))
    (hq : ∀ s h e, q (ix4 0 s h e) = (I.qry s (hd h e) : EReal)) (hk : ∀ s h e, k (ix4 0 s h e) = (I.key s (hd h e) : EReal))
    (hqr : ∀ s h r, qr (ix4 0 s h r) = (I.qrot s (rt h r) : EReal)) (hkr : ∀ s h r, kr (ix4 0 s h r) = (I.krot s r : EReal))
    (h : Fin 16) (s t : Fin 1024) : rSc q k qr kr (ix4 0 h s t) = (I.score h s t : EReal) := by
  pointwise [rSc]
  exact mul_coe (add_coe (dot_coe (fun e => hq s h e) (fun e => hk t h e)) (dot_coe (fun r => hqr s h r) (fun r => hkr t h r))) hσ

theorem rMax_at {sc : Vec S1x16x1024x1024} (hs : ∀ h s t, sc (ix4 0 h s t) = (I.score h s t : EReal)) (h : Fin 16) (s : Fin 1024) :
    ∃ M : ℝ, rMax sc (ix3 0 h s) = (M : EReal) := by
  pointwise [rMax]
  exact max_coe (by omega) (fun t => hs h s t)

theorem rExp_at {sc : Vec S1x16x1024x1024} {mx : Vec S1x16x1024} {M : Fin 16 → Fin 1024 → ℝ} (hs : ∀ h s t, sc (ix4 0 h s t) = (I.score h s t : EReal))
    (hm : ∀ h s, mx (ix3 0 h s) = (M h s : EReal)) (h : Fin 16) (s t : Fin 1024) :
    rExp sc mx (ix4 0 h s t) = (Real.exp (I.score h s t - M h s) : EReal) := by
  pointwise [rExp, rWide]
  exact exp_coe (sub_coe (hs h s t) (hm h s))

theorem rSum_at {e : Vec S1x16x1024x1024} {E : Fin 16 → Fin 1024 → Fin 1024 → ℝ} (he : ∀ h s t, e (ix4 0 h s t) = (E h s t : EReal))
    (h : Fin 16) (s : Fin 1024) : rSum e (ix3 0 h s) = ((∑ t, E h s t : ℝ) : EReal) := by
  pointwise [rSum]
  exact sum_coe' (fun t => he h s t)

theorem rP_at {e : Vec S1x16x1024x1024} {d : Vec S1x16x1024} {E : Fin 16 → Fin 1024 → Fin 1024 → ℝ} {D : Fin 16 → Fin 1024 → ℝ}
    (he : ∀ h s t, e (ix4 0 h s t) = (E h s t : EReal)) (hd : ∀ h s, d (ix3 0 h s) = (D h s : EReal)) (h0 : ∀ h s, D h s ≠ 0)
    (h : Fin 16) (s t : Fin 1024) : rP e d (ix4 0 h s t) = ((E h s t / D h s : ℝ) : EReal) := by
  pointwise [rP, rWide]
  exact div_coe (he h s t) (hd h s) (h0 h s)

theorem rAtt_at {v : Vec S1x1024x16x128} {p : Vec S1x16x1024x1024} {P : Fin 16 → Fin 1024 → Fin 1024 → ℝ}
    (hv : ∀ s h e, v (ix4 0 s h e) = I.val s (hd h e)) (hp : ∀ h s t, p (ix4 0 h s t) = (P h s t : EReal))
    (s : Fin 1024) (k : Fin 2048) : rAtt v p (ix3 0 s k)
      = (∑ t, I.val t (hd ⟨k.val / 128, by omega⟩ ⟨k.val % 128, by omega⟩) * (P ⟨k.val / 128, by omega⟩ s t : EReal) : EReal) := by
  pointwise [rAtt]
  exact dot_eq (fun t => hv t _ _) (fun t => hp _ s t)

theorem rOut_at {o : Vec S1x1024x2048} {w : Vec S2048x2048} {O : Fin 1024 → Fin 2048 → EReal}
    (ho : ∀ s k, o (ix3 0 s k) = O s k) (hw : ∀ k n, w (ix2 k n) = I.Wo k n) (s : Fin 1024) (n : Fin 2048) :
    rOut o w (ix3 0 s n) = (∑ k, O s k * I.Wo k n : EReal) := by
  pointwise [rOut]
  exact dot_eq (fun k => ho s k) (fun k => hw k n)

/-- The reference's result at an entry, where the arrays that the scores are made of are finite. -/
theorem res_at (m : (ℓ : Loc nD τ sig) → Buf (Elt Ideal) ℓ) (c : Dev nD) (hσ : Ideal.ofBits .f32 0x3DA1E89B#32 = (I.σ : EReal))
    (h0 : ∀ s d, (m (c.tc.loc main_arg0) : Vec S1x1024x2048) (ix3 0 s d) = (I.X s d : EReal))
    (h1 : ∀ d k, (m (c.tc.loc main_arg1) : Vec S2048x512) (ix2 d k) = (I.Wd d k : EReal))
    (h2 : ∀ k n, (m (c.tc.loc main_arg2) : Vec S512x2048) (ix2 k n) = (I.Wu k n : EReal))
    (h3 : ∀ k n, (m (c.tc.loc main_arg3) : Vec S512x2048) (ix2 k n) = I.Wv k n)
    (h4 : ∀ d n, (m (c.tc.loc main_arg4) : Vec S2048x2048) (ix2 d n) = (I.Wq d n : EReal))
    (h5 : ∀ d n, (m (c.tc.loc main_arg5) : Vec S2048x512) (ix2 d n) = (I.Wqr d n : EReal))
    (h6 : ∀ d n, (m (c.tc.loc main_arg6) : Vec S2048x32) (ix2 d n) = (I.Wkr d n : EReal))
    (h7 : ∀ k n, (m (c.tc.loc main_arg7) : Vec S2048x2048) (ix2 k n) = I.Wo k n) (s : Fin 1024) (n : Fin 2048) :
    (Value.res_main_v29 (F := Ideal) m c : Vec S1x1024x2048) (ix3 0 s n) = I.out s n := by
  rw [res_stages]
  have hl := rLat_at h0 h1
  have hsc := rSc_at hσ (rQ_at h0 h4) (rUp_at hl h2) (rQr_at h0 h5) (rKr_at h0 h6)
  choose M hM using rMax_at hsc
  have he := rExp_at hsc hM
  have hsum := rSum_at he
  have hp := rP_at he hsum fun h s => (Finset.sum_pos (fun t _ => Real.exp_pos _) ⟨0, Finset.mem_univ _⟩).ne'
  have ho := rAtt_at (I := I) (rUpV_at hl h3) hp
  refine (rOut_at ho h7 s n).trans ?_
  unfold In.out
  simp only [I.att_shift]

end Cert.RefValue

end
-- ==== Proof.KernelIdeal.Values.lean ====
/- # What the kernel computes

The payloads of the kernel, read entry by entry. -/
module

public import Idealize.ShloMosaic.Lib.Pointwise
public import proofs.«01_k».proof.Proof.Maths
public import proofs.«01_k».proof.Proof.KernelIdeal.Contents

@[expose] public section

set_option maxRecDepth 16384

noncomputable section

namespace Cert.KernelIdealProof

open Cert.KernelIdeal Cert.KernelIdeal.Gen
open Idealize.ShloMosaic Idealize.ShloMosaic.TcCoe Cert.Maths
open scoped BigOperators

/-! ## One block of the work, at an entry -/

section Payloads

variable (x : Vec Ideal S1x1024x2048 .f32) (c : Vec Ideal S1x1024x128 .bf16) (u : Vec Ideal S1x128x512 .bf16) (a : Vec Ideal S1024x512 .f32)

theorem up_at (w : Vec Ideal S128x512 .f32) (k : Fin 128) (n : Fin 512) : k0_pay1 w (ix3 0 k n) = w (ix2 k n) := by
  pointwise [k0_pay1]
theorem upv_at (w : Vec Ideal S128x512 .f32) (k : Fin 128) (n : Fin 512) : k0_pay2 w (ix3 0 k n) = w (ix2 k n) := by
  pointwise [k0_pay2]
theorem rot_at (w : Vec Ideal S2048x128 .f32) (k : Fin 2048) (n : Fin 128) : k0_pay3 w (ix2 k n) = w (ix2 k n) := by
  pointwise [k0_pay3]

theorem lat_at (w : Vec Ideal S2048x128 .f32) (s : Fin 1024) (k : Fin 128) :
    k0_pay14 x w (ix3 0 s k) = ∑ d, (x (ix3 0 s d) * w (ix2 d k) : EReal) := by
  pointwise [k0_pay14, k0_pay13]

theorem k_first (s : Fin 1024) (n : Fin 512) : k0_pay16 (k0_pay15 c) u (ix2 s n) = ∑ k, (c (ix3 0 s k) * u (ix3 0 k n) : EReal) := by
  pointwise [k0_pay16, k0_pay15]
theorem v_first (s : Fin 1024) (n : Fin 512) : k0_pay17 (k0_pay15 c) u (ix2 s n) = ∑ k, (c (ix3 0 s k) * u (ix3 0 k n) : EReal) := by
  pointwise [k0_pay17, k0_pay15]
theorem k_second (s : Fin 1024) (n : Fin 512) : k0_pay24 (k0_pay22 c) (k0_pay23 u) a (ix2 s n) = (a (ix2 s n) + ∑ k, c (ix3 0 s k) * u (ix3 0 k n) : EReal) := by
  pointwise [k0_pay24, k0_pay22, k0_pay23]
theorem v_second (s : Fin 1024) (n : Fin 512) : k0_pay25 (k0_pay22 c) u a (ix2 s n) = (a (ix2 s n) + ∑ k, c (ix3 0 s k) * u (ix3 0 k n) : EReal) := by
  pointwise [k0_pay25, k0_pay22]
theorem k_third (s : Fin 1024) (n : Fin 512) : k0_pay28 c u a (ix2 s n) = (a (ix2 s n) + ∑ k, c (ix3 0 s k) * u (ix3 0 k n) : EReal) := by
  pointwise [k0_pay28, k0_pay27]
theorem v_third (s : Fin 1024) (n : Fin 512) : k0_pay30 (k0_pay29 c u a) (ix2 s n) = (a (ix2 s n) + ∑ k, c (ix3 0 s k) * u (ix3 0 k n) : EReal) := by
  pointwise [k0_pay30, k0_pay29, k0_pay27]
theorem k_fourth (s : Fin 1024) (n : Fin 512) : k0_pay35 (k0_pay34 c u a) (ix2 s n) = (a (ix2 s n) + ∑ k, c (ix3 0 s k) * u (ix3 0 k n) : EReal) := by
  pointwise [k0_pay35, k0_pay34, k0_pay32]
theorem v_fourth (s : Fin 1024) (n : Fin 512) : k0_pay36 (k0_pay33 c u) a (ix2 s n) = (a (ix2 s n) + ∑ k, c (ix3 0 s k) * u (ix3 0 k n) : EReal) := by
  pointwise [k0_pay36, k0_pay33, k0_pay32]

theorem qr_at (w : Vec Ideal S2048x128 .f32) (s : Fin 1024) (n : Fin 128) :
    k0_pay18 (k0_pay13 x) w (ix2 s n) = ((∑ d, x (ix3 0 s d) * w (ix2 d n)) * Ideal.ofBits .f32 0x3DA1E89B#32 : EReal) := by
  pointwise [k0_pay18, k0_pay13]
theorem kr_at (w : Vec Ideal S2048x32 .f32) (s : Fin 1024) (n : Fin 32) :
    k0_pay19 (k0_pay13 x) w (ix2 s n) = (∑ d, x (ix3 0 s d) * w (ix2 d n) : EReal) := by
  pointwise [k0_pay19, k0_pay13]
theorem q0_at (w : Vec Ideal S2048x128 .f32) (s : Fin 1024) (n : Fin 128) :
    k0_pay21 (k0_pay20 (k0_pay13 x) w) (Scalar.ofBits (F := Ideal) .f32 0x3DA1E89B#32) (ix2 s n) = ((∑ d, x (ix3 0 s d) * w (ix2 d n)) * Ideal.ofBits .f32 0x3DA1E89B#32 : EReal) := by
  pointwise [k0_pay21, k0_pay20, k0_pay13]
theorem q1_at (w : Vec Ideal S2048x128 .f32) (s : Fin 1024) (n : Fin 128) :
    k0_pay26 (k0_pay13 x) w (ix2 s n) = ((∑ d, x (ix3 0 s d) * w (ix2 d n)) * Ideal.ofBits .f32 0x3DA1E89B#32 : EReal) := by
  pointwise [k0_pay26, k0_pay13]
theorem q2_at (w : Vec Ideal S2048x128 .f32) (s : Fin 1024) (n : Fin 128) :
    k0_pay31 (k0_pay13 x) w (ix2 s n) = ((∑ d, x (ix3 0 s d) * w (ix2 d n)) * Ideal.ofBits .f32 0x3DA1E89B#32 : EReal) := by
  pointwise [k0_pay31, k0_pay13]
theorem q3_at (w : Vec Ideal S2048x128 .f32) (s : Fin 1024) (n : Fin 128) :
    k0_pay37 (k0_pay13 x) w (ix2 s n) = ((∑ d, x (ix3 0 s d) * w (ix2 d n)) * Ideal.ofBits .f32 0x3DA1E89B#32 : EReal) := by
  pointwise [k0_pay37, k0_pay13]

section Heads

variable (kr : Vec Ideal S1024x32 .f32) (q k : Vec Ideal S1024x128 .f32) (qr : Vec Ideal S1024x32 .f32) (v : Vec Ideal S1024x128 .f32)

/-- One head at an entry. -/
def headAt (s : Fin 1024) (e : Fin 128) : EReal :=
  Ideal.div (∑ t, Ideal.exp (∑ i, q (ix2 s i) * k (ix2 t i) + ∑ i, qr (ix2 s i) * kr (ix2 t i)) * v (ix2 t e))
    (∑ t, Ideal.exp (∑ i, q (ix2 s i) * k (ix2 t i) + ∑ i, qr (ix2 s i) * kr (ix2 t i)))

theorem head0_at (s : Fin 1024) (e : Fin 128) : k0_pay38 kr q k qr v (ix2 s e) = headAt kr q k qr v s e := by
  pointwise [k0_pay38, headAt]
theorem head1_at (s : Fin 1024) (e : Fin 128) : k0_pay39 kr q k qr v (ix2 s e) = headAt kr q k qr v s e := by
  pointwise [k0_pay39, headAt]
theorem head2_at (s : Fin 1024) (e : Fin 128) : k0_pay40 kr q k qr v (ix2 s e) = headAt kr q k qr v s e := by
  pointwise [k0_pay40, headAt]
theorem head3_at (s : Fin 1024) (e : Fin 128) : k0_pay42 (k0_pay41 kr q k qr) v (ix2 s e) = headAt kr q k qr v s e := by
  pointwise [k0_pay42, k0_pay41, headAt]

end Heads

section Out

variable (y : Vec Ideal S1x1024x2048 .f32) (o : Vec Ideal S1x1024x512 .bf16) (w : Vec Ideal S1x512x2048 .f32)

theorem out0_at (o : Vec Ideal S1024x512 .bf16) (s : Fin 1024) (n : Fin 2048) :
    k0_pay43 o w (ix3 0 s n) = (∑ k, o (ix2 s k) * w (ix3 0 k n) : EReal) := by
  pointwise [k0_pay43]
theorem out1_at (s : Fin 1024) (n : Fin 2048) : k0_pay44 y o w (ix3 0 s n) = (y (ix3 0 s n) + ∑ k, o (ix3 0 s k) * w (ix3 0 k n) : EReal) := by
  pointwise [k0_pay44]
theorem out2_at (s : Fin 1024) (n : Fin 2048) : k0_pay46 (k0_pay45 y o w) (ix3 0 s n) = (y (ix3 0 s n) + ∑ k, o (ix3 0 s k) * w (ix3 0 k n) : EReal) := by
  pointwise [k0_pay46, k0_pay45]
theorem out3_at (s : Fin 1024) (n : Fin 2048) : k0_pay48 (k0_pay47 y) o w (ix3 0 s n) = (y (ix3 0 s n) + ∑ k, o (ix3 0 s k) * w (ix3 0 k n) : EReal) := by
  pointwise [k0_pay48, k0_pay47]

end Out

end Payloads

/-! ## The places of the parts -/

theorem colq_ix (j : Fin 4) (s : Fin 1024) (e : Fin 128) : (colq j).emb (ix2 s e) = ix2 (n0 := 1024) (n1 := 512) s ⟨128 * j.val + e.val, by omega⟩ :=
  (eq_ix2 _).trans (congrArg₂ ix2 (Fin.ext (by show 0 + 1 * s.val = s.val; omega)) (Fin.ext (by show 128 * j.val + 1 * e.val = 128 * j.val + e.val; omega)))
theorem colh_ix (j : Fin 4) (s : Fin 1024) (e : Fin 32) : (colh j).emb (ix2 s e) = ix2 (n0 := 1024) (n1 := 128) s ⟨32 * j.val + e.val, by omega⟩ :=
  (eq_ix2 _).trans (congrArg₂ ix2 (Fin.ext (by show 0 + 1 * s.val = s.val; omega)) (Fin.ext (by show 32 * j.val + 1 * e.val = 32 * j.val + e.val; omega)))
theorem colr_ix (q : Fin 4) (d : Fin 2048) (e : Fin 128) : (colr q).emb (ix2 d e) = ix2 (n0 := 2048) (n1 := 512) d ⟨128 * q.val + e.val, by omega⟩ :=
  (eq_ix2 _).trans (congrArg₂ ix2 (Fin.ext (by show 0 + 1 * d.val = d.val; omega)) (Fin.ext (by show 128 * q.val + 1 * e.val = 128 * q.val + e.val; omega)))
theorem colu_ix (q : Fin 4) (k : Fin 128) (n : Fin 512) : (colu q).emb (ix2 k n) = ix2 (n0 := 128) (n1 := 2048) k (hcol q n) :=
  (eq_ix2 _).trans (congrArg₂ ix2 (Fin.ext (by show 0 + 1 * k.val = k.val; omega)) (Fin.ext (by show 512 * q.val + 1 * n.val = 512 * q.val + n.val; omega)))
theorem colwq_ix (q : Fin 4) (d : Fin 2048) (n : Fin 512) : (colwq q).emb (ix2 d n) = ix2 (n0 := 2048) (n1 := 2048) d (hcol q n) :=
  (eq_ix2 _).trans (congrArg₂ ix2 (Fin.ext (by show 0 + 1 * d.val = d.val; omega)) (Fin.ext (by show 512 * q.val + 1 * n.val = 512 * q.val + n.val; omega)))
theorem rowo_ix (q : Fin 4) (k : Fin 512) (n : Fin 2048) : (rowo q).emb (ix2 k n) = ix2 (n0 := 2048) (n1 := 2048) (hcol q k) n :=
  (eq_ix2 _).trans (congrArg₂ ix2 (Fin.ext (by show 512 * q.val + 1 * k.val = 512 * q.val + k.val; omega)) (Fin.ext (by show 0 + 1 * n.val = n.val; omega)))

end Cert.KernelIdealProof

end
-- ==== Proof.KernelIdeal.Result.lean ====
/- # The result of the kernel

From the devices' arrays, buffer by buffer, to the result of every device: the attention layer. -/
module

public import proofs.«01_k».proof.Proof.KernelIdeal.Values
public import proofs.«01_k».proof.Proof.KernelIdeal.Mem

@[expose] public section

set_option maxRecDepth 16384

noncomputable section

namespace Cert.KernelIdealProof

open Cert.KernelIdeal Cert.KernelIdeal.Gen
open Idealize.ShloMosaic Idealize.ShloMosaic.TcCoe Cert.Maths
open scoped BigOperators

/-- The ring place of a device: the number of its block of the latent axis. -/
def zc (c : Dev nD) : Fin 4 := ⟨c.val % 4, Nat.mod_lt _ (by decide)⟩

theorem zc_slot0 (c : Dev nD) : zc (slotDev c 0) = zc c + 3 := by revert c; decide +kernel
theorem zc_slot1 (c : Dev nD) : zc (slotDev c 1) = zc c + 2 := by revert c; decide +kernel
theorem zc_slot2 (c : Dev nD) : zc (slotDev c 2) = zc c + 1 := by revert c; decide +kernel
theorem hq_slot (c : Dev nD) (s : Fin 4) : hq (slotDev c s) = hq c := by revert c s; decide +kernel

/-- The arrays the devices start with are the blocks of the arrays of the layer. -/
structure Holds (m : (ℓ : Loc nD τ sig) → Buf (Elt Ideal) ℓ) (I : In) : Prop where
  σ : Ideal.ofBits .f32 0x3DA1E89B#32 = (I.σ : EReal)
  x : ∀ (c : Dev nD) s d, (m ((c : Thread nD τ).loc main_arg0) : Vec Ideal S1x1024x2048 .f32) (ix3 0 s d) = (I.X s d : EReal)
  wd : ∀ (c : Dev nD) d k, (m ((c : Thread nD τ).loc main_arg1) : Vec Ideal S2048x128 .f32) (ix2 d k) = (I.Wd d (blk (zc c) k) : EReal)
  wu : ∀ (c : Dev nD) k n, (m ((c : Thread nD τ).loc main_arg2) : Vec Ideal S128x2048 .f32) (ix2 k n) = (I.Wu (blk (zc c) k) n : EReal)
  wv : ∀ (c : Dev nD) k n, (m ((c : Thread nD τ).loc main_arg3) : Vec Ideal S128x2048 .f32) (ix2 k n) = I.Wv (blk (zc c) k) n
  wq : ∀ (c : Dev nD) d n, (m ((c : Thread nD τ).loc main_arg4) : Vec Ideal S2048x2048 .f32) (ix2 d n) = (I.Wq d n : EReal)
  wqr : ∀ (c : Dev nD) d n, (m ((c : Thread nD τ).loc main_arg5) : Vec Ideal S2048x512 .f32) (ix2 d n) = (I.Wqr d n : EReal)
  wkr : ∀ (c : Dev nD) d n, (m ((c : Thread nD τ).loc main_arg6) : Vec Ideal S2048x32 .f32) (ix2 d n) = (I.Wkr d n : EReal)
  wo : ∀ (c : Dev nD) k n, (m ((c : Thread nD τ).loc main_arg7) : Vec Ideal S2048x2048 .f32) (ix2 k n) = I.Wo k n

/-! ## The staged inputs are the arrays themselves -/

section Staged

variable (m : (ℓ : Loc nD τ sig) → Buf (Elt Ideal) ℓ) (c : Dev nD)

theorem xX_eq : xX m c = m ((c : Thread nD τ).loc main_arg0) := funext fun i =>
  congrArg (m ((c : Thread nD τ).loc main_arg0)) (funext fun a => Fin.ext (Pipeline.Window.rect_emb_val_of_index_zero (cfg0.win 0) t0_0 a rfl i))
theorem xWd_eq : xWd m c = m ((c : Thread nD τ).loc main_arg1) := funext fun i =>
  congrArg (m ((c : Thread nD τ).loc main_arg1)) (funext fun a => Fin.ext (Pipeline.Window.rect_emb_val_of_index_zero (cfg0.win 1) t0_0 a rfl i))
theorem xWu_eq : xWu m c = m ((c : Thread nD τ).loc main_arg2) := funext fun i =>
  congrArg (m ((c : Thread nD τ).loc main_arg2)) (funext fun a => Fin.ext (Pipeline.Window.rect_emb_val_of_index_zero (cfg0.win 2) t0_0 a rfl i))
theorem xWv_eq : xWv m c = m ((c : Thread nD τ).loc main_arg3) := funext fun i =>
  congrArg (m ((c : Thread nD τ).loc main_arg3)) (funext fun a => Fin.ext (Pipeline.Window.rect_emb_val_of_index_zero (cfg0.win 3) t0_0 a rfl i))
theorem xWqr_eq : xWqr m c = m ((c : Thread nD τ).loc main_arg5) := funext fun i =>
  congrArg (m ((c : Thread nD τ).loc main_arg5)) (funext fun a => Fin.ext (Pipeline.Window.rect_emb_val_of_index_zero (cfg0.win 4) t0_0 a rfl i))
theorem xWkr_eq : xWkr m c = m ((c : Thread nD τ).loc main_arg6) := funext fun i =>
  congrArg (m ((c : Thread nD τ).loc main_arg6)) (funext fun a => Fin.ext (Pipeline.Window.rect_emb_val_of_index_zero (cfg0.win 5) t0_0 a rfl i))

end Staged

/-! ## Columns and head quarters -/

theorem hcol_hd (q j : Fin 4) (e : Fin 128) : hcol q ⟨128 * j.val + e.val, by omega⟩ = hd (gh q j) e :=
  Fin.ext (by show 512 * q.val + (128 * j.val + e.val) = (4 * q.val + j.val) * 128 + e.val; omega)
theorem rcol_rt (q j : Fin 4) (r : Fin 32) : rcol q ⟨32 * j.val + r.val, by omega⟩ = rt (gh q j) r :=
  Fin.ext (by show 128 * q.val + (32 * j.val + r.val) = (4 * q.val + j.val) * 32 + r.val; omega)

theorem qx_zero (q : Fin 4) : qx q 0 = q := by revert q; decide +kernel

theorem sum_qx {M : Type} [AddCommMonoid M] (f : Fin 4 → M) (q : Fin 4) : f q + f (qx q 1) + f (qx q 2) + f (qx q 3) = ∑ k, f k := by
  rw [Fin.sum_univ_four]
  fin_cases q
  · show f 0 + f 1 + f 2 + f 3 = _; rfl
  · show f 1 + f 0 + f 3 + f 2 = _; abel
  · show f 2 + f 3 + f 0 + f 1 = _; abel
  · show f 3 + f 2 + f 1 + f 0 = _; abel

/-! ## The buffers -/

namespace Holds

variable {m : (ℓ : Loc nD τ sig) → Buf (Elt Ideal) ℓ} {I : In} (H : Holds m I) (c : Dev nD)

include H

theorem x_at (s : Fin 1024) (d : Fin 2048) : xX m c (ix3 0 s d) = (I.X s d : EReal) := by
  rw [xX_eq]; exact H.x c s d

theorem cOwn_at (s : Fin 1024) (k : Fin 128) : cOwn m c (ix3 0 s k) = (I.lat s (blk (zc c) k) : EReal) := by
  unfold cOwn
  rw [lat_at, xWd_eq]
  exact dot_coe (fun d => H.x_at c s d) (fun d => H.wd c d k)

theorem uOwn_at (k : Fin 128) (n : Fin 512) : uOwn m c (ix3 0 k n) = (I.Wu (blk (zc c) k) (hcol (hq c) n) : EReal) := by
  unfold uOwn
  rw [up_at]
  show xWu m c ((colu (hq c)).emb (ix2 k n)) = _
  rw [colu_ix, xWu_eq]
  exact H.wu c k _

theorem vOwn_at (k : Fin 128) (n : Fin 512) : vOwn m c (ix3 0 k n) = I.Wv (blk (zc c) k) (hcol (hq c) n) := by
  unfold vOwn
  rw [upv_at]
  show xWv m c ((colu (hq c)).emb (ix2 k n)) = _
  rw [colu_ix, xWv_eq]
  exact H.wv c k _

theorem cS_at (p : Fin 4) (s : Fin 1024) (k : Fin 128) : cS m c p (ix3 0 s k) = (I.lat s (blk (zc (slotDev c p)) k) : EReal) :=
  (cbC_emb m c p _).trans (H.cOwn_at _ s k)
theorem uS_at (p : Fin 4) (k : Fin 128) (n : Fin 512) : uS m c p (ix3 0 k n) = (I.Wu (blk (zc (slotDev c p)) k) (hcol (hq c) n) : EReal) := by
  refine (ukC_emb m c p _).trans ?_
  rw [H.uOwn_at, hq_slot]
theorem vS_at (p : Fin 4) (k : Fin 128) (n : Fin 512) : vS m c p (ix3 0 k n) = I.Wv (blk (zc (slotDev c p)) k) (hcol (hq c) n) := by
  refine (uvC_emb m c p _).trans ?_
  rw [H.vOwn_at, hq_slot]

/-- What one slot of the ring adds, -/
theorem up_slot (p : Fin 4) (s : Fin 1024) (n : Fin 512) : (∑ k, cS m c p (ix3 0 s k) * uS m c p (ix3 0 k n) : EReal)
    = (I.keyPart (zc (slotDev c p)) s (hcol (hq c) n) : EReal) :=
  dot_coe (fun k => H.cS_at c p s k) (fun k => H.uS_at c p k n)
theorem upv_slot (p : Fin 4) (s : Fin 1024) (n : Fin 512) : (∑ k, cS m c p (ix3 0 s k) * vS m c p (ix3 0 k n) : EReal)
    = I.valPart (zc (slotDev c p)) s (hcol (hq c) n) :=
  dot_eq (fun k => H.cS_at c p s k) (fun k => H.vS_at c p k n)

/-- and all four together: the keys and the values of the head quarter. -/
theorem key_at (s : Fin 1024) (n : Fin 512) : kA3 m c (ix2 s n) = (I.key s (hcol (hq c) n) : EReal) := by
  unfold kA3 kA2 kA1 kA0
  rw [k_fourth, k_third, k_second, k_first, H.up_slot, H.up_slot, H.up_slot, H.up_slot, zc_slot0, zc_slot1, zc_slot2,
    ← EReal.coe_add, ← EReal.coe_add, ← EReal.coe_add]
  rw [I.key_parts, ← sum_ring (fun z => I.keyPart z s (hcol (hq c) n)) (zc c)]
  rfl
theorem val_at (s : Fin 1024) (n : Fin 512) : vA3 m c (ix2 s n) = I.val s (hcol (hq c) n) := by
  unfold vA3 vA2 vA1 vA0
  rw [v_fourth, v_third, v_second, v_first, H.upv_slot, H.upv_slot, H.upv_slot, H.upv_slot, zc_slot0, zc_slot1, zc_slot2]
  rw [I.val_parts, ← sum_ring (fun z => I.valPart z s (hcol (hq c) n)) (zc c)]
  rfl

theorem qrot_at (s : Fin 1024) (n : Fin 128) : qrC m c (ix2 s n) = ((I.qrot s (rcol (hq c) n) * I.σ : ℝ) : EReal) := by
  unfold qrC wqrC
  rw [qr_at]
  refine mul_coe (dot_coe (fun d => H.x_at c s d) fun d => ?_) H.σ
  rw [rot_at]
  show xWqr m c ((colr (hq c)).emb (ix2 d n)) = _
  rw [colr_ix, xWqr_eq]
  exact H.wqr c d _

theorem krot_at (s : Fin 1024) (r : Fin 32) : krC m c (ix2 s r) = (I.krot s r : EReal) := by
  unfold krC
  rw [kr_at, xWkr_eq]
  exact dot_coe (fun d => H.x_at c s d) fun d => H.wkr c d r

/-- The query weights of one head. -/
theorem wq_at (j : Fin 4) (d : Fin 2048) (e : Fin 128) : ld (colr j) (wqC m c) (ix2 d e) = (I.Wq d (hd (gh (hq c) j) e) : EReal) := by
  show wqC m c ((colr j).emb (ix2 d e)) = _
  rw [colr_ix]
  show xWq m c ((colwq (hq c)).emb (ix2 d ⟨128 * j.val + e.val, by omega⟩)) = _
  rw [colwq_ix]
  have h : hcol (hq c) ⟨128 * j.val + e.val, by omega⟩ = hd (gh (hq c) j) e :=
    Fin.ext (by show 512 * (hq c).val + (128 * j.val + e.val) = (4 * (hq c).val + j.val) * 128 + e.val; omega)
  rw [h]
  exact H.wq c d _

theorem qry_at (j : Fin 4) (s : Fin 1024) (e : Fin 128) : qH m c j (ix2 s e) = ((I.qry s (hd (gh (hq c) j) e) * I.σ : ℝ) : EReal) := by
  have h (j : Fin 4) : ((∑ d, xX m c (ix3 0 s d) * ld (colr j) (wqC m c) (ix2 d e)) * Ideal.ofBits .f32 0x3DA1E89B#32 : EReal)
      = ((I.qry s (hd (gh (hq c) j) e) * I.σ : ℝ) : EReal) :=
    mul_coe (dot_coe (fun d => H.x_at c s d) fun d => H.wq_at c j d e) H.σ
  match j with
  | 0 => exact (q0_at _ _ s e).trans (h 0)
  | 1 => exact (q1_at _ _ s e).trans (h 1)
  | 2 => exact (q2_at _ _ s e).trans (h 2)
  | 3 => exact (q3_at _ _ s e).trans (h 3)

/-! ## The heads -/

theorem head_at (j : Fin 4) (s : Fin 1024) (e : Fin 128) :
    headAt (krC m c) (ld (colq j) (qsC m c)) (ld (colq j) (kA3 m c)) (ld (colh j) (qrC m c)) (ld (colq j) (vA3 m c)) s e
      = I.att (gh (hq c) j) s e := by
  have hq' (s e) : ld (colq j) (qsC m c) (ix2 s e) = ((I.qry s (hd (gh (hq c) j) e) * I.σ : ℝ) : EReal) :=
    (cols4_emb _ j _).trans (H.qry_at c j s e)
  have hk (s e) : ld (colq j) (kA3 m c) (ix2 s e) = (I.key s (hd (gh (hq c) j) e) : EReal) := by
    show kA3 m c ((colq j).emb (ix2 s e)) = _
    rw [colq_ix, H.key_at, hcol_hd]
  have hv (s e) : ld (colq j) (vA3 m c) (ix2 s e) = I.val s (hd (gh (hq c) j) e) := by
    show vA3 m c ((colq j).emb (ix2 s e)) = _
    rw [colq_ix, H.val_at, hcol_hd]
  have hqr (s r) : ld (colh j) (qrC m c) (ix2 s r) = ((I.qrot s (rt (gh (hq c) j) r) * I.σ : ℝ) : EReal) := by
    show qrC m c ((colh j).emb (ix2 s r)) = _
    rw [colh_ix, H.qrot_at, rcol_rt]
  have hsc (t) : (∑ i, ld (colq j) (qsC m c) (ix2 s i) * ld (colq j) (kA3 m c) (ix2 t i)
      + ∑ i, ld (colh j) (qrC m c) (ix2 s i) * krC m c (ix2 t i) : EReal) = (I.score (gh (hq c) j) s t : EReal) := by
    rw [← I.score_scaled]
    exact add_coe (dot_coe (fun i => hq' s i) (fun i => hk t i)) (dot_coe (fun i => hqr s i) (fun i => H.krot_at c t i))
  exact (div_real (sum_coe' (fun t => exp_coe (hsc t))) (I.den_pos _ _).ne').trans
    (congrArg (· * _) (dot_eq (fun t => exp_coe (hsc t)) (fun t => hv t e)))

theorem oH_at (j : Fin 4) (s : Fin 1024) (e : Fin 128) : oH m c j (ix2 s e) = I.att (gh (hq c) j) s e :=
  match j with
  | 0 => (head0_at _ _ _ _ _ s e).trans (H.head_at c 0 s e)
  | 1 => (head1_at _ _ _ _ _ s e).trans (H.head_at c 1 s e)
  | 2 => (head2_at _ _ _ _ _ s e).trans (H.head_at c 2 s e)
  | 3 => (head3_at _ _ _ _ _ s e).trans (H.head_at c 3 s e)

theorem oqC_at (s : Fin 1024) (k : Fin 512) :
    oqC m c (ix2 s k) = I.att (gh (hq c) ⟨k.val / 128, by omega⟩) s ⟨k.val % 128, by omega⟩ :=
  H.oH_at c _ s _

/-! ## The result -/

theorem wo_at (k : Fin 4) (p : Fin 2) (i : Fin 512) (n : Fin 2048) :
    ld (wslot p) (woC m c k) (ix3 0 i n) = I.Wo (hcol (qx (hq c) k) i) n := by
  have h : (ix3 0 i n : S1x512x2048.Idx) = Fin.cons ⟨0, Nat.one_pos⟩ (ix2 (n0 := 512) (n1 := 2048) i n) := by
    funext a; fin_cases a <;> rfl
  show woC m c k ((wslot p).emb (ix3 0 i n)) = _
  rw [h, woC_emb]
  show xWo m c ((rowo _).emb (ix2 i n)) = _
  rw [rowo_ix]
  exact H.wo c _ n

theorem oa_at (q : Fin 4) (s : Fin 1024) (k : Fin 512) : ld (oslabW q) (oaC m c) (ix3 0 s k)
    = I.att (gh q ⟨k.val / 128, by omega⟩) s ⟨k.val % 128, by omega⟩ := by
  show oqC m (devOf ((oslabW q).emb (ix3 0 s k) 0) c) (ix2 (n0 := 1024) (n1 := 512) ((oslabW q).emb (ix3 0 s k) 1) ((oslabW q).emb (ix3 0 s k) 2)) = _
  have h0 : (oslabW q).emb (ix3 0 s k) 0 = q := Fin.ext (by show q.val + 1 * 0 = q.val; omega)
  have h1 : (oslabW q).emb (ix3 0 s k) 1 = s := Fin.ext (by show 0 + 1 * s.val = s.val; omega)
  have h2 : (oslabW q).emb (ix3 0 s k) 2 = k := Fin.ext (by show 0 + 1 * k.val = k.val; omega)
  rw [h0, h1, h2, H.oqC_at, hq_devOf]

/-- What one head quarter adds. -/
theorem part_at (k : Fin 4) (p : Fin 2) (s : Fin 1024) (n : Fin 2048) :
    (∑ i, ld (oslabW (qx (hq c) k)) (oaC m c) (ix3 0 s i) * ld (wslot p) (woC m c k) (ix3 0 i n) : EReal) = I.part (qx (hq c) k) s n :=
  dot_eq (fun i => H.oa_at c _ s i) (fun i => H.wo_at c k p i n)

/-- The result of every device is the layer's. -/
theorem result_at (s : Fin 1024) (n : Fin 2048) : out3 m c (ix3 0 s n) = I.out s n := by
  have h0 : (∑ i, oqC m c (ix2 s i) * ld (wslot 0) (woC m c 0) (ix3 0 i n) : EReal) = I.part (hq c) s n := by
    refine dot_eq (fun i => H.oqC_at c s i) (fun i => ?_)
    rw [H.wo_at, qx_zero]
  unfold out3 out2 out1 out0
  rw [out3_at, out2_at, out1_at, out0_at, h0, H.part_at, H.part_at, H.part_at, I.out_parts, sum_qx (fun q => I.part q s n)]

end Holds

end Cert.KernelIdealProof

end
-- ==== Proof.Algebraic.lean ====
/- # The kernel computes what the reference computes

Where the arrays that the scores are made of are finite, every device's result is the reference's: both are the attention layer. -/
module

public import proofs.«01_k».proof.Defs
public import proofs.«01_k».proof.Proof.Finite
public import proofs.«01_k».proof.Proof.Ref
public import proofs.«01_k».proof.Proof.KernelIdeal.Result
public import proofs.«01_k».proof.Proof.KernelIdeal.Run

@[expose] public section

set_option maxRecDepth 16384

noncomputable section

namespace Cert.Algebraic

open Idealize.ShloMosaic Idealize.ShloMosaic.TcCoe Idealize.SL.Sem Cert.Maths

abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ
abbrev kl (c : Dev Cert.KernelIdeal.nD) := ((c.tc : Thread Cert.KernelIdeal.nD Cert.KernelIdeal.τ))
abbrev rl := (((0 : Dev Cert.ReferenceIdeal.nD).tc : Thread Cert.ReferenceIdeal.nD Cert.ReferenceIdeal.τ))

/-! ## The reference's arrays -/

section Arrays

variable (m' : RMem)

def a0 : FVec Ideal Cert.ReferenceIdeal.S1x1024x2048 .f32 := m' (rl.loc Cert.ReferenceIdeal.main_arg0)
def a1 : FVec Ideal Cert.ReferenceIdeal.S2048x512 .f32 := m' (rl.loc Cert.ReferenceIdeal.main_arg1)
def a2 : FVec Ideal Cert.ReferenceIdeal.S512x2048 .f32 := m' (rl.loc Cert.ReferenceIdeal.main_arg2)
def a3 : FVec Ideal Cert.ReferenceIdeal.S512x2048 .f32 := m' (rl.loc Cert.ReferenceIdeal.main_arg3)
def a4 : FVec Ideal Cert.ReferenceIdeal.S2048x2048 .f32 := m' (rl.loc Cert.ReferenceIdeal.main_arg4)
def a5 : FVec Ideal Cert.ReferenceIdeal.S2048x512 .f32 := m' (rl.loc Cert.ReferenceIdeal.main_arg5)
def a6 : FVec Ideal Cert.ReferenceIdeal.S2048x32 .f32 := m' (rl.loc Cert.ReferenceIdeal.main_arg6)
def a7 : FVec Ideal Cert.ReferenceIdeal.S2048x2048 .f32 := m' (rl.loc Cert.ReferenceIdeal.main_arg7)

/-- The layer of the reference's arrays. -/
def layer : In where
  X s d := EReal.toReal (a0 m' (ix3 0 s d))
  Wd d k := EReal.toReal (a1 m' (ix2 d k))
  Wu k n := EReal.toReal (a2 m' (ix2 k n))
  Wv k n := a3 m' (ix2 k n)
  Wq d n := EReal.toReal (a4 m' (ix2 d n))
  Wqr d n := EReal.toReal (a5 m' (ix2 d n))
  Wkr d n := EReal.toReal (a6 m' (ix2 d n))
  Wo k n := a7 m' (ix2 k n)
  σ := EReal.toReal (Ideal.ofBits .f32 0x3DA1E89B#32)

end Arrays

theorem coe_toReal {a : EReal} (h : ∃ r : ℝ, a = (r : EReal)) : a = (EReal.toReal a : EReal) := by
  obtain ⟨r, rfl⟩ := h; rfl

theorem real_of_eq {a b : EReal} (e : a = b) (h : ∃ r : ℝ, a = (r : EReal)) : b = (EReal.toReal b : EReal) := coe_toReal (e ▸ h)

/-! ## The device blocks -/

/-- The devices of the first ring, by their ring place. -/
def ring (z : Fin 4) : Dev Cert.KernelIdeal.nD := ⟨z.val, by have := z.isLt; show _ < 16; omega⟩

/-- A place of the latent axis lies in a block. -/
theorem in_blk (k : Fin 512) : ∃ z i, k = blk z i :=
  ⟨⟨k.val / 128, by omega⟩, ⟨k.val % 128, by omega⟩, Fin.ext (by show k.val = k.val / 128 * 128 + k.val % 128; omega)⟩

theorem zc_ring (z : Fin 4) : Cert.KernelIdealProof.zc (ring z) = z := by revert z; decide +kernel

theorem mesh_cols (c : Dev Cert.KernelIdeal.nD) (v : FVec Ideal Cert.ReferenceIdeal.S2048x512 .f32) (d : Fin 2048) (k : Fin 128) :
    (Layout.blockN ⟨2, ![2048, 128]⟩ ⟨2, ![2048, 512]⟩ (Layout.meshBlock [2, 2, 4] ![[], [2]] c) v) (ix2 d k) = v (ix2 d (blk (Cert.KernelIdealProof.zc c) k)) := by
  rw [Layout.blockN_apply]
  refine congrArg v ((eq_ix2 _).trans (congrArg₂ ix2 (Fin.ext ?_) (Fin.ext ?_)))
  · have h : Layout.meshLin [2, 2, 4] c.val [] = 0 := by revert c; decide +kernel
    show Layout.meshLin [2, 2, 4] c.val [] * 2048 + d.val = d.val
    omega
  · have h : Layout.meshLin [2, 2, 4] c.val [2] = c.val % 4 := by revert c; decide +kernel
    show Layout.meshLin [2, 2, 4] c.val [2] * 128 + k.val = c.val % 4 * 128 + k.val
    rw [h]

theorem mesh_rows (c : Dev Cert.KernelIdeal.nD) (v : FVec Ideal Cert.ReferenceIdeal.S512x2048 .f32) (k : Fin 128) (n : Fin 2048) :
    (Layout.blockN ⟨2, ![128, 2048]⟩ ⟨2, ![512, 2048]⟩ (Layout.meshBlock [2, 2, 4] ![[2], []] c) v) (ix2 k n) = v (ix2 (blk (Cert.KernelIdealProof.zc c) k) n) := by
  rw [Layout.blockN_apply]
  refine congrArg v ((eq_ix2 _).trans (congrArg₂ ix2 (Fin.ext ?_) (Fin.ext ?_)))
  · have h : Layout.meshLin [2, 2, 4] c.val [2] = c.val % 4 := by revert c; decide +kernel
    show Layout.meshLin [2, 2, 4] c.val [2] * 128 + k.val = c.val % 4 * 128 + k.val
    rw [h]
  · have h : Layout.meshLin [2, 2, 4] c.val [] = 0 := by revert c; decide +kernel
    show Layout.meshLin [2, 2, 4] c.val [] * 2048 + n.val = n.val
    omega

/-! ## The claim -/

theorem algebraic : algebraic_KernelIdeal_ReferenceIdeal_pre_finite_inputs_KernelIdeal (hKernelIdeal := Cert.KernelIdeal.Gen.facts)
    (hReferenceIdeal := Cert.ReferenceIdeal.Gen.facts) (hPre_finite_inputs_KernelIdeal := Cert.Pre_finite_inputs_KernelIdeal.Gen.facts) := by
  intro m g m' g' hpre hin
  have hfin (c) := letI := Cert.Pre_finite_inputs_KernelIdeal.Gen.facts; Cert.Finite.real_of_fn (hpre c)
  -- six of the reference's arrays are finite: each lies in the devices' blocks
  have f0 (s d) : (a0 m' (ix3 0 s d) : EReal) = ((layer m').X s d : EReal) :=
    real_of_eq (congrFun (hin 0).1 (ix3 0 s d)) ((hfin 0).1 (ix3 0 s d))
  have f1 (d k) : (a1 m' (ix2 d k) : EReal) = ((layer m').Wd d k : EReal) := by
    obtain ⟨z, i, rfl⟩ := in_blk k
    have e := mesh_cols (ring z) (a1 m') d i
    rw [zc_ring] at e
    exact real_of_eq ((congrFun (hin (ring z)).2.1 (ix2 d i)).trans e) ((hfin (ring z)).2.1 (ix2 d i))
  have f2 (k n) : (a2 m' (ix2 k n) : EReal) = ((layer m').Wu k n : EReal) := by
    obtain ⟨z, i, rfl⟩ := in_blk k
    have e := mesh_rows (ring z) (a2 m') i n
    rw [zc_ring] at e
    exact real_of_eq ((congrFun (hin (ring z)).2.2.1 (ix2 i n)).trans e) ((hfin (ring z)).2.2.1 (ix2 i n))
  have f3 (k n) : (a3 m' (ix2 k n) : EReal) = (layer m').Wv k n := rfl
  have f4 (d n) : (a4 m' (ix2 d n) : EReal) = ((layer m').Wq d n : EReal) :=
    real_of_eq (congrFun (hin 0).2.2.2.2.1 (ix2 d n)) ((hfin 0).2.2.2.1 (ix2 d n))
  have f5 (d n) : (a5 m' (ix2 d n) : EReal) = ((layer m').Wqr d n : EReal) :=
    real_of_eq (congrFun (hin 0).2.2.2.2.2.1 (ix2 d n)) ((hfin 0).2.2.2.2.1 (ix2 d n))
  have f6 (d n) : (a6 m' (ix2 d n) : EReal) = ((layer m').Wkr d n : EReal) :=
    real_of_eq (congrFun (hin 0).2.2.2.2.2.2.1 (ix2 d n)) ((hfin 0).2.2.2.2.2 (ix2 d n))
  have f7 (d n) : (a7 m' (ix2 d n) : EReal) = (layer m').Wo d n := rfl
  have fσ : Ideal.ofBits .f32 0x3DA1E89B#32 = ((layer m').σ : EReal) := coe_toReal Cert.Finite.scale_word
  -- the devices hold its blocks
  have H : Cert.KernelIdealProof.Holds m (layer m') :=
    { σ := fσ
      x := fun c s d => (congrFun (hin c).1 (ix3 0 s d)).trans (f0 s d)
      wd := fun c d k => (congrFun (hin c).2.1 (ix2 d k)).trans ((mesh_cols c (a1 m') d k).trans (f1 _ _))
      wu := fun c k n => (congrFun (hin c).2.2.1 (ix2 k n)).trans ((mesh_rows c (a2 m') k n).trans (f2 _ _))
      wv := fun c k n => (congrFun (hin c).2.2.2.1 (ix2 k n)).trans ((mesh_rows c (a3 m') k n).trans (f3 _ _))
      wq := fun c d n => (congrFun (hin c).2.2.2.2.1 (ix2 d n)).trans (f4 d n)
      wqr := fun c d n => (congrFun (hin c).2.2.2.2.2.1 (ix2 d n)).trans (f5 d n)
      wkr := fun c d n => (congrFun (hin c).2.2.2.2.2.2.1 (ix2 d n)).trans (f6 d n)
      wo := fun c d n => (congrFun (hin c).2.2.2.2.2.2.2 (ix2 d n)).trans (f7 d n) }
  have hout (c) : Cert.KernelIdealProof.out3 m c = Cert.ReferenceIdeal.Value.res_main_v29 (F := Ideal) m' 0 := by
    funext i
    obtain ⟨s, n, rfl⟩ : ∃ (s : Fin 1024) (n : Fin 2048), i = ix3 (n0 := 1) 0 s n := by
      refine ⟨i 1, i 2, (eq_ix3 (n0 := 1) (n1 := 1024) (n2 := 2048) i).trans ?_⟩
      rw [show i 0 = (0 : Fin 1) from Subsingleton.elim (α := Fin 1) _ _]
    exact (H.result_at c s n).trans (Cert.RefValue.res_at m' 0 fσ f0 f1 f2 f3 f4 f5 f6 f7 s n).symm
  exact ⟨Cert.ReferenceIdeal.Value.res_main_v29 (F := Ideal) m' 0,
    (θ_run Cert.KernelIdeal.defs _ _).mono (fun _ h c => ⟨(h.1 c).1.trans (hout c), (h.1 c).2⟩) (Cert.KernelIdealProof.kernel_run (F := Ideal) m g),
    (θ_run Cert.ReferenceIdeal.defs _ _).mono (fun _ h => h 0) (Cert.ReferenceIdeal.Value.run m' g')⟩

end Cert.Algebraic

end
-- ==== Proof.lean ====
/- # The certificate

Every claim about the kernel and the reference, each proved in its own module, put together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_inputs_KernelIdeal
public import proofs.«01_k».proof.Proof.Gen.Pre_finite_inputs_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_finite_inputs_KernelIdeal.Gen.facts, Cert.Pre_finite_inputs_ReferenceIdeal.Gen.facts,
  Cert.Frames.kernel, Cert.Frames.kernelIdeal, fun m g _ => Cert.Frames.kernelIdeal m g trivial,
  Cert.Frames.referenceIdeal, fun m g _ => Cert.Frames.referenceIdeal m g trivial, trivial,
  Cert.Algebraic.algebraic⟩

end Cert.Proof

end
